-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Shortconv (m : (ℓ : Loc Cert.Shortconv.nD Cert.Shortconv.τ Cert.Shortconv.sig) → Buf (Elt Bits) ℓ) : Prop :=
  True

def Pre_ShortconvIdeal (m : (ℓ : Loc Cert.ShortconvIdeal.nD Cert.ShortconvIdeal.τ Cert.ShortconvIdeal.sig) → Buf (Elt Ideal) ℓ) : Prop :=
  True

def Pre_ShortconvRefIdeal (m : (ℓ : Loc Cert.ShortconvRefIdeal.nD Cert.ShortconvRefIdeal.τ Cert.ShortconvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9))
      ∧ r.2.sem = fun _ => 0)

def quiescent_Shortconv [hShortconv : Cert.Shortconv.Facts] : Prop :=
  ∀ (m : (ℓ : Loc Cert.Shortconv.nD Cert.Shortconv.τ Cert.Shortconv.sig) → Buf (Elt Bits) ℓ) (g : Dev Cert.Shortconv.nD → PrngReg), Pre_Shortconv m →
    θ_run (Cert.Shortconv.defs (F := Bits)) (onTc (τ := Cert.Shortconv.τ) (Cert.Shortconv.main (F := Bits))) ⟨m, fun _ => 0, g⟩ (fun r => (∀ c : Dev Cert.Shortconv.nD,
      r.2.mem ((c.tc : Thread Cert.Shortconv.nD Cert.Shortconv.τ).loc Cert.Shortconv.main_arg0) = m ((c.tc : Thread Cert.Shortconv.nD Cert.Shortconv.τ).loc Cert.Shortconv.main_arg0)
      ∧ r.2.mem ((c.tc : Thread Cert.Shortconv.nD Cert.Shortconv.τ).loc Cert.Shortconv.main_arg1) = m ((c.tc : Thread Cert.Shortconv.nD Cert.Shortconv.τ).loc Cert.Shortconv.main_arg1)
      ∧ r.2.mem ((c.tc : Thread Cert.Shortconv.nD Cert.Shortconv.τ).loc Cert.Shortconv.main_arg2) = m ((c.tc : Thread Cert.Shortconv.nD Cert.Shortconv.τ).loc Cert.Shortconv.main_arg2))
      ∧ r.2.sem = fun _ => 0)

def quiescent_ShortconvIdeal [hShortconvIdeal : Cert.ShortconvIdeal.Facts] : Prop :=
  ∀ (m : (ℓ : Loc Cert.ShortconvIdeal.nD Cert.ShortconvIdeal.τ Cert.ShortconvIdeal.sig) → Buf (Elt Ideal) ℓ) (g : Dev Cert.ShortconvIdeal.nD → PrngReg), Pre_ShortconvIdeal m →
    θ_run (Cert.ShortconvIdeal.defs (F := Ideal)) (onTc (τ := Cert.ShortconvIdeal.τ) (Cert.ShortconvIdeal.main (F := Ideal))) ⟨m, fun _ => 0, g⟩ (fun r => (∀ c : Dev Cert.ShortconvIdeal.nD,
      r.2.mem ((c.tc : Thread Cert.ShortconvIdeal.nD Cert.ShortconvIdeal.τ).loc Cert.ShortconvIdeal.main_arg0) = m ((c.tc : Thread Cert.ShortconvIdeal.nD Cert.ShortconvIdeal.τ).loc Cert.ShortconvIdeal.main_arg0)
      ∧ r.2.mem ((c.tc : Thread Cert.ShortconvIdeal.nD Cert.ShortconvIdeal.τ).loc Cert.ShortconvIdeal.main_arg1) = m ((c.tc : Thread Cert.ShortconvIdeal.nD Cert.ShortconvIdeal.τ).loc Cert.ShortconvIdeal.main_arg1)
      ∧ r.2.mem ((c.tc : Thread Cert.ShortconvIdeal.nD Cert.ShortconvIdeal.τ).loc Cert.ShortconvIdeal.main_arg2) = m ((c.tc : Thread Cert.ShortconvIdeal.nD Cert.ShortconvIdeal.τ).loc Cert.ShortconvIdeal.main_arg2))
      ∧ r.2.sem = fun _ => 0)

def quiescent_ShortconvRefIdeal [hShortconvRefIdeal : Cert.ShortconvRefIdeal.Facts] : Prop :=
  ∀ (m : (ℓ : Loc Cert.ShortconvRefIdeal.nD Cert.ShortconvRefIdeal.τ Cert.ShortconvRefIdeal.sig) → Buf (Elt Ideal) ℓ) (g : Dev Cert.ShortconvRefIdeal.nD → PrngReg), Pre_ShortconvRefIdeal m →
    θ_run (Cert.ShortconvRefIdeal.defs (F := Ideal)) (onTc (τ := Cert.ShortconvRefIdeal.τ) (Cert.ShortconvRefIdeal.main (F := Ideal))) ⟨m, fun _ => 0, g⟩ (fun r => (∀ c : Dev Cert.ShortconvRefIdeal.nD,
      r.2.mem ((c.tc : Thread Cert.ShortconvRefIdeal.nD Cert.ShortconvRefIdeal.τ).loc Cert.ShortconvRefIdeal.main_arg0) = m ((c.tc : Thread Cert.ShortconvRefIdeal.nD Cert.ShortconvRefIdeal.τ).loc Cert.ShortconvRefIdeal.main_arg0)
      ∧ r.2.mem ((c.tc : Thread Cert.ShortconvRefIdeal.nD Cert.ShortconvRefIdeal.τ).loc Cert.ShortconvRefIdeal.main_arg1) = m ((c.tc : Thread Cert.ShortconvRefIdeal.nD Cert.ShortconvRefIdeal.τ).loc Cert.ShortconvRefIdeal.main_arg1)
      ∧ r.2.mem ((c.tc : Thread Cert.ShortconvRefIdeal.nD Cert.ShortconvRefIdeal.τ).loc Cert.ShortconvRefIdeal.main_arg2) = m ((c.tc : Thread Cert.ShortconvRefIdeal.nD Cert.ShortconvRefIdeal.τ).loc Cert.ShortconvRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_v15) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)) →
    ∃ (v0 : (c : Dev Cert.OutprojIdeal.nD) → Buf (Elt Ideal) ((c.tc : Thread Cert.OutprojIdeal.nD Cert.OutprojIdeal.τ).loc Cert.OutprojIdeal.main_v11)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v11) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v20) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)) →
    ∃ (v0 : (c : Dev Cert.LastIdeal.nD) → Buf (Elt Ideal) ((c.tc : Thread Cert.LastIdeal.nD Cert.LastIdeal.τ).loc Cert.LastIdeal.main_v11)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v11) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v33) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)) →
    ∃ (v0 : (c : Dev Cert.PromptIdeal.nD) → Buf (Elt Ideal) ((c.tc : Thread Cert.PromptIdeal.nD Cert.PromptIdeal.τ).loc Cert.PromptIdeal.main_v11)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v11) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v33) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9))

def preserves_Shortconv_ShortconvIdeal : Prop :=
  True

def algebraic_ShortconvIdeal_ShortconvRefIdeal [hShortconvIdeal : Cert.ShortconvIdeal.Facts] [hShortconvRefIdeal : Cert.ShortconvRefIdeal.Facts] : Prop :=
  ∀ (m : (ℓ : Loc Cert.ShortconvIdeal.nD Cert.ShortconvIdeal.τ Cert.ShortconvIdeal.sig) → Buf (Elt Ideal) ℓ) (g : Dev Cert.ShortconvIdeal.nD → PrngReg)
    (m' : (ℓ : Loc Cert.ShortconvRefIdeal.nD Cert.ShortconvRefIdeal.τ Cert.ShortconvRefIdeal.sig) → Buf (Elt Ideal) ℓ) (g' : Dev Cert.ShortconvRefIdeal.nD → PrngReg), Pre_ShortconvIdeal m →
    (∀ c : Dev Cert.ShortconvIdeal.nD,
      m' ((c.tc : Thread Cert.ShortconvRefIdeal.nD Cert.ShortconvRefIdeal.τ).loc Cert.ShortconvRefIdeal.main_arg0) = m ((c.tc : Thread Cert.ShortconvIdeal.nD Cert.ShortconvIdeal.τ).loc Cert.ShortconvIdeal.main_arg0)
      ∧ m' ((c.tc : Thread Cert.ShortconvRefIdeal.nD Cert.ShortconvRefIdeal.τ).loc Cert.ShortconvRefIdeal.main_arg1) = m ((c.tc : Thread Cert.ShortconvIdeal.nD Cert.ShortconvIdeal.τ).loc Cert.ShortconvIdeal.main_arg1)
      ∧ m' ((c.tc : Thread Cert.ShortconvRefIdeal.nD Cert.ShortconvRefIdeal.τ).loc Cert.ShortconvRefIdeal.main_arg2) = m ((c.tc : Thread Cert.ShortconvIdeal.nD Cert.ShortconvIdeal.τ).loc Cert.ShortconvIdeal.main_arg2)) →
    ∃ (v0 : (c : Dev Cert.ShortconvIdeal.nD) → Buf (Elt Ideal) ((c.tc : Thread Cert.ShortconvIdeal.nD Cert.ShortconvIdeal.τ).loc Cert.ShortconvIdeal.main_v4_0)) (v1 : (c : Dev Cert.ShortconvIdeal.nD) → Buf (Elt Ideal) ((c.tc : Thread Cert.ShortconvIdeal.nD Cert.ShortconvIdeal.τ).loc Cert.ShortconvIdeal.main_v4_1)),
      θ_run (Cert.ShortconvIdeal.defs (F := Ideal)) (onTc (τ := Cert.ShortconvIdeal.τ) (Cert.ShortconvIdeal.main (F := Ideal))) ⟨m, fun _ => 0, g⟩ (fun r => ∀ c : Dev Cert.ShortconvIdeal.nD,
          r.2.mem ((c.tc : Thread Cert.ShortconvIdeal.nD Cert.ShortconvIdeal.τ).loc Cert.ShortconvIdeal.main_v4_0) = v0 c
          ∧ r.2.mem ((c.tc : Thread Cert.ShortconvIdeal.nD Cert.ShortconvIdeal.τ).loc Cert.ShortconvIdeal.main_v4_1) = v1 c
          ∧ r.2.mem ((c.tc : Thread Cert.ShortconvIdeal.nD Cert.ShortconvIdeal.τ).loc Cert.ShortconvIdeal.main_arg0) = m ((c.tc : Thread Cert.ShortconvIdeal.nD Cert.ShortconvIdeal.τ).loc Cert.ShortconvIdeal.main_arg0)
          ∧ r.2.mem ((c.tc : Thread Cert.ShortconvIdeal.nD Cert.ShortconvIdeal.τ).loc Cert.ShortconvIdeal.main_arg1) = m ((c.tc : Thread Cert.ShortconvIdeal.nD Cert.ShortconvIdeal.τ).loc Cert.ShortconvIdeal.main_arg1)
          ∧ r.2.mem ((c.tc : Thread Cert.ShortconvIdeal.nD Cert.ShortconvIdeal.τ).loc Cert.ShortconvIdeal.main_arg2) = m ((c.tc : Thread Cert.ShortconvIdeal.nD Cert.ShortconvIdeal.τ).loc Cert.ShortconvIdeal.main_arg2))
      ∧ θ_run (Cert.ShortconvRefIdeal.defs (F := Ideal)) (onTc (τ := Cert.ShortconvRefIdeal.τ) (Cert.ShortconvRefIdeal.main (F := Ideal))) ⟨m', fun _ => 0, g'⟩ (fun r => ∀ c : Dev Cert.ShortconvRefIdeal.nD,
          r.2.mem ((c.tc : Thread Cert.ShortconvRefIdeal.nD Cert.ShortconvRefIdeal.τ).loc Cert.ShortconvRefIdeal.main_v30) = v0 c
          ∧ r.2.mem ((c.tc : Thread Cert.ShortconvRefIdeal.nD Cert.ShortconvRefIdeal.τ).loc Cert.ShortconvRefIdeal.main_v31) = v1 c
          ∧ r.2.mem ((c.tc : Thread Cert.ShortconvRefIdeal.nD Cert.ShortconvRefIdeal.τ).loc Cert.ShortconvRefIdeal.main_arg0) = m' ((c.tc : Thread Cert.ShortconvRefIdeal.nD Cert.ShortconvRefIdeal.τ).loc Cert.ShortconvRefIdeal.main_arg0)
          ∧ r.2.mem ((c.tc : Thread Cert.ShortconvRefIdeal.nD Cert.ShortconvRefIdeal.τ).loc Cert.ShortconvRefIdeal.main_arg1) = m' ((c.tc : Thread Cert.ShortconvRefIdeal.nD Cert.ShortconvRefIdeal.τ).loc Cert.ShortconvRefIdeal.main_arg1)
          ∧ r.2.mem ((c.tc : Thread Cert.ShortconvRefIdeal.nD Cert.ShortconvRefIdeal.τ).loc Cert.ShortconvRefIdeal.main_arg2) = m' ((c.tc : Thread Cert.ShortconvRefIdeal.nD Cert.ShortconvRefIdeal.τ).loc Cert.ShortconvRefIdeal.main_arg2))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hLast : Cert.Last.Facts) (hLastIdeal : Cert.LastIdeal.Facts) (hLastRefIdeal : Cert.LastRefIdeal.Facts) (hPrompt : Cert.Prompt.Facts) (hPromptIdeal : Cert.PromptIdeal.Facts) (hPromptRefIdeal : Cert.PromptRefIdeal.Facts) (hShortconv : Cert.Shortconv.Facts) (hShortconvIdeal : Cert.ShortconvIdeal.Facts) (hShortconvRefIdeal : Cert.ShortconvRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Last (hLast := hLast)
    ∧ quiescent_LastIdeal (hLastIdeal := hLastIdeal)
    ∧ quiescent_LastRefIdeal (hLastRefIdeal := hLastRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Shortconv (hShortconv := hShortconv)
    ∧ quiescent_ShortconvIdeal (hShortconvIdeal := hShortconvIdeal)
    ∧ quiescent_ShortconvRefIdeal (hShortconvRefIdeal := hShortconvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Last_LastIdeal
    ∧ algebraic_LastIdeal_LastRefIdeal (hLastIdeal := hLastIdeal) (hLastRefIdeal := hLastRefIdeal)
    ∧ preserves_Prompt_PromptIdeal
    ∧ algebraic_PromptIdeal_PromptRefIdeal (hPromptIdeal := hPromptIdeal) (hPromptRefIdeal := hPromptRefIdeal)
    ∧ preserves_Shortconv_ShortconvIdeal
    ∧ algebraic_ShortconvIdeal_ShortconvRefIdeal (hShortconvIdeal := hShortconvIdeal) (hShortconvRefIdeal := hShortconvRefIdeal)
-- ==== Pre_finite.lean ====
abbrev S8x4096x5920 : Shape := ⟨3, ![8, 4096, 5920]⟩
abbrev S32x8 : Shape := ⟨2, ![32, 8]⟩
abbrev S8 : Shape := ⟨1, ![8]⟩
abbrev S8x4096x640 : Shape := ⟨3, ![8, 4096, 640]⟩
abbrev S_ : Shape := ⟨0, ![]⟩

class Facts : Prop where
  slices_S8x4096x5920_S8x4096x640_0_0_2592 : S8x4096x5920.Slices ![0, 0, 2592] S8x4096x640
  bcast_S_S8x4096x640 : S_.BroadcastsInDim S8x4096x640 (![] : Fin 0 → Fin S8x4096x640.rank)
  reducesTo_S8x4096x640_S_d0_1_2 : S8x4096x640.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x5920 .f32) (main_arg1 : FVec F S32x8 .f32) (main_arg2 : FVec F S8 .f32) : IVec S_ 1 :=
  let main_v0 : FVec F S8x4096x640 .f32 := (extractStridedSlice S8x4096x640 ![0, 0, 2592] · slices_S8x4096x5920_S8x4096x640_0_0_2592) main_arg0
  let main_v1 : FVec F S8x4096x640 .f32 := Host.absf main_v0
  let main_cst : FVec F S_ .f32 := constant S_ .f32 0x7F800000#32
  let main_v2 : FVec F S8x4096x640 .f32 := broadcastInDim S8x4096x640 ![] bcast_S_S8x4096x640 main_cst
  let main_v3 : IVec S8x4096x640 1 := cmpf .olt main_v1 main_v2
  let main_c : IVec S_ 1 := constantI S_ 1 1#1
  let main_v4 : IVec S_ 1 := (fun x v => Host.reduce IntOp.andi x v reducesTo_S8x4096x640_S_d0_1_2 h_S_) main_v3 main_c
  let main_v5 : FVec F S32x8 .f32 := Host.absf main_arg1
  let main_cst_0 : FVec F S_ .f32 := constant S_ .f32 0x7F800000#32
  let main_v6 : FVec F S32x8 .f32 := broadcastInDim S32x8 ![] bcast_S_S32x8 main_cst_0
  let main_v7 : IVec S32x8 1 := cmpf .olt main_v5 main_v6
  let main_c_1 : IVec S_ 1 := constantI S_ 1 1#1
  let main_v8 : IVec S_ 1 := (fun x v => Host.reduce IntOp.andi x v reducesTo_S32x8_S_d0_1 h_S_) main_v7 main_c_1
  let main_v9 : IVec S_ 1 := andi main_v4 main_v8
  let main_v10 : FVec F S8 .f32 := Host.absf main_arg2
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v9 main_v13
  main_v14
-- ==== Kernel.lean ====
abbrev S8x4096x5920 : Shape := ⟨3, ![8, 4096, 5920]⟩
abbrev S32x8 : Shape := ⟨2, ![32, 8]⟩
abbrev S8 : Shape := ⟨1, ![8]⟩
abbrev S8x4096x1024 : Shape := ⟨3, ![8, 4096, 1024]⟩
abbrev S8x4096x1536 : Shape := ⟨3, ![8, 4096, 1536]⟩
abbrev S8x4096x32 : Shape := ⟨3, ![8, 4096, 32]⟩
abbrev S8x4096x512 : Shape := ⟨3, ![8, 4096, 512]⟩
abbrev S8x4096x128 : Shape := ⟨3, ![8, 4096, 128]⟩
abbrev S8x4096x2x4x64 : Shape := ⟨5, ![8, 4096, 2, 4, 64]⟩
abbrev S8x4096x4x2x64 : Shape := ⟨5, ![8, 4096, 4, 2, 64]⟩
abbrev S_ : Shape := ⟨0, ![]⟩
abbrev S8x4096x96 : Shape := ⟨3, ![8, 4096, 96]⟩
abbrev S8x4096x6016 : Shape := ⟨3, ![8, 4096, 6016]⟩
abbrev S8x1 : Shape := ⟨2, ![8, 1]⟩
abbrev S8x128 : Shape := ⟨2, ![8, 128]⟩
abbrev S128x384 : Shape := ⟨2, ![128, 384]⟩
abbrev S1x128x384 : Shape := ⟨3, ![1, 128, 384]⟩
abbrev S32 : Shape := ⟨1, ![32]⟩
abbrev S32x1x1 : Shape := ⟨3, ![32, 1, 1]⟩
abbrev S32x128x384 : Shape := ⟨3, ![32, 128, 384]⟩
abbrev S8x128x384 : Shape := ⟨3, ![8, 128, 384]⟩
abbrev S1x8x128x384 : Shape := ⟨4, ![1, 8, 128, 384]⟩
abbrev S4x8x128x384 : Shape := ⟨4, ![4, 8, 128, 384]⟩
abbrev S4x8x384x128 : Shape := ⟨4, ![4, 8, 384, 128]⟩
abbrev S1x2048x512 : Shape := ⟨3, ![1, 2048, 512]⟩
abbrev S1x128x128 : Shape := ⟨3, ![1, 128, 128]⟩
abbrev S1x2048x128 : Shape := ⟨3, ![1, 2048, 128]⟩
abbrev S2304x128 : Shape := ⟨2, ![2304, 128]⟩
abbrev S18x128x128 : Shape := ⟨3, ![18, 128, 128]⟩
abbrev S1x128 : Shape := ⟨2, ![1, 128]⟩
abbrev S128x128 : Shape := ⟨2, ![128, 128]⟩
abbrev S2048x128 : Shape := ⟨2, ![2048, 128]⟩
abbrev S1x128x512 : Shape := ⟨3, ![1, 128, 512]⟩
abbrev S128x512 : Shape := ⟨2, ![128, 512]⟩
abbrev S384x128 : Shape := ⟨2, ![384, 128]⟩
abbrev S768x128 : Shape := ⟨2, ![768, 128]⟩
abbrev S1x1x384x128 : Shape := ⟨4, ![1, 1, 384, 128]⟩
abbrev S128 : Shape := ⟨1, ![128]⟩
abbrev S128x1 : Shape := ⟨2, ![128, 1]⟩

abbrev nBuf : Space → Nat
  | .hbm => 210
  | .vmem => 23
  | .smem => 0
  | _ => 0

abbrev hbmTy0_0 (i : Nat) : BufTy := match i % 128 with
  | 0 => ⟨S8x4096x5920, .f32⟩
  | 1 => ⟨S32x8, .f32⟩
  | 2 => ⟨S8, .f32⟩
  | 3 => ⟨S8x4096x1024, .f32⟩
  | 4 => ⟨S8x4096x1536, .f32⟩
  | 5 => ⟨S8x4096x32, .f32⟩
  | 6 => ⟨S8x4096x512, .f32⟩
  | 7 => ⟨S8x4096x128, .f32⟩
  | 8 => ⟨S8x4096x128, .f32⟩
  | 9 => ⟨S8x4096x512, .f32⟩
  | 10 => ⟨S8x4096x1536, .f32⟩
  | 11 => ⟨S8x4096x512, .f32⟩
  | 12 => ⟨S8x4096x2x4x64, .f32⟩
  | 13 => ⟨S8x4096x4x2x64, .f32⟩
  | 14 => ⟨S8x4096x512, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S8x4096x512, .f32⟩
  | 22 => ⟨S8x4096x512, .f32⟩
  | 23 => ⟨S8x4096x2x4x64, .f32⟩
  | 24 => ⟨S8x4096x4x2x64, .f32⟩
  | 25 => ⟨S8x4096x512, .f32⟩
  | 26 => ⟨S_, .f32⟩
  | 27 => ⟨S8x4096x96, .f32⟩
  | 28 => ⟨S8x4096x6016, .f32⟩
  | 29 => ⟨S8x4096x6016, .bf16⟩
  | 30 => ⟨S8x1, .f32⟩
  | 31 => ⟨S_, .f32⟩
  | 32 => ⟨S_, .f32⟩
  | 33 => ⟨S_, .f32⟩
  | 34 => ⟨S_, .f32⟩
  | 35 => ⟨S8x1, .f32⟩
  | 36 => ⟨S8x1, .f32⟩
  | 37 => ⟨S8x128, .f32⟩
  | 38 => ⟨S128x384, .i32⟩
  | 39 => ⟨S128x384, .i32⟩
  | 40 => ⟨S_, .i32⟩
  | 41 => ⟨S128x384, .i32⟩
  | 42 => ⟨S128x384, .i32⟩
  | 43 => ⟨S128x384, .i32⟩
  | 44 => ⟨S_, .i32⟩
  | 45 => ⟨S128x384, .i32⟩
  | 46 => ⟨S128x384, .i1⟩
  | 47 => ⟨S128x384, .i32⟩
  | 48 => ⟨S_, .i32⟩
  | 49 => ⟨S128x384, .i32⟩
  | 50 => ⟨S128x384, .i32⟩
  | 51 => ⟨S128x384, .i32⟩
  | 52 => ⟨S_, .i32⟩
  | 53 => ⟨S128x384, .i32⟩
  | 54 => ⟨S128x384, .i1⟩
  | 55 => ⟨S128x384, .i32⟩
  | 56 => ⟨S_, .i32⟩
  | 57 => ⟨S128x384, .i32⟩
  | 58 => ⟨S128x384, .i32⟩
  | 59 => ⟨S_, .i32⟩
  | 60 => ⟨S128x384, .i32⟩
  | 61 => ⟨S128x384, .i1⟩
  | 62 => ⟨S128x384, .i32⟩
  | 63 => ⟨S128x384, .i32⟩
  | 64 => ⟨S_, .i32⟩
  | 65 => ⟨S128x384, .i32⟩
  | 66 => ⟨S128x384, .i1⟩
  | 67 => ⟨S128x384, .i32⟩
  | 68 => ⟨S128x384, .i32⟩
  | 69 => ⟨S_, .i32⟩
  | 70 => ⟨S128x384, .i32⟩
  | 71 => ⟨S128x384, .i1⟩
  | 72 => ⟨S128x384, .i32⟩
  | 73 => ⟨S128x384, .i32⟩
  | 74 => ⟨S_, .i32⟩
  | 75 => ⟨S128x384, .i32⟩
  | 76 => ⟨S128x384, .i1⟩
  | 77 => ⟨S128x384, .i32⟩
  | 78 => ⟨S128x384, .i32⟩
  | 79 => ⟨S_, .i32⟩
  | 80 => ⟨S128x384, .i32⟩
  | 81 => ⟨S128x384, .i1⟩
  | 82 => ⟨S128x384, .i32⟩
  | 83 => ⟨S128x384, .i32⟩
  | 84 => ⟨S_, .i32⟩
  | 85 => ⟨S128x384, .i32⟩
  | 86 => ⟨S128x384, .i1⟩
  | 87 => ⟨S128x384, .i32⟩
  | 88 => ⟨S128x384, .i32⟩
  | 89 => ⟨S_, .i32⟩
  | 90 => ⟨S128x384, .i32⟩
  | 91 => ⟨S128x384, .i32⟩
  | 92 => ⟨S_, .i32⟩
  | 93 => ⟨S128x384, .i32⟩
  | 94 => ⟨S128x384, .i1⟩
  | 95 => ⟨S128x384, .i32⟩
  | 96 => ⟨S128x384, .i32⟩
  | 97 => ⟨S1x128x384, .i32⟩
  | 98 => ⟨S32, .i32⟩
  | 99 => ⟨S32x1x1, .i32⟩
  | 100 => ⟨S32x128x384, .i32⟩
  | 101 => ⟨S32x128x384, .i32⟩
  | 102 => ⟨S32x128x384, .i1⟩
  | 103 => ⟨S32x128x384, .f32⟩
  | 104 => ⟨S8x128x384, .f32⟩
  | 105 => ⟨S_, .f32⟩
  | 106 => ⟨S_, .f32⟩
  | 107 => ⟨S_, .f32⟩
  | 108 => ⟨S_, .f32⟩
  | 109 => ⟨S8x128x384, .f32⟩
  | 110 => ⟨S8x128x384, .f32⟩
  | 111 => ⟨S128x384, .i32⟩
  | 112 => ⟨S_, .i32⟩
  | 113 => ⟨S128x384, .i32⟩
  | 114 => ⟨S128x384, .i1⟩
  | 115 => ⟨S_, .i32⟩
  | 116 => ⟨S128x384, .i32⟩
  | 117 => ⟨S128x384, .i1⟩
  | 118 => ⟨S_, .i1⟩
  | 119 => ⟨S128x384, .i1⟩
  | 120 => ⟨S128x384, .i1⟩
  | 121 => ⟨S128x384, .i1⟩
  | 122 => ⟨S128x384, .i1⟩
  | 123 => ⟨S_, .i32⟩
  | 124 => ⟨S128x384, .i32⟩
  | 125 => ⟨S128x384, .i1⟩
  | 126 => ⟨S_, .i1⟩
  | 127 => ⟨S128x384, .i1⟩
  | _ => ⟨S8x4096x5920, .f32⟩

abbrev hbmTy0_1 (i : Nat) : BufTy := match i % 128 with
  | 0 => ⟨S128x384, .i1⟩
  | 1 => ⟨S128x384, .i1⟩
  | 2 => ⟨S128x384, .i1⟩
  | 3 => ⟨S1x128x384, .i1⟩
  | 4 => ⟨S_, .f32⟩
  | 5 => ⟨S_, .f32⟩
  | 6 => ⟨S8x128x384, .i1⟩
  | 7 => ⟨S8x128x384, .f32⟩
  | 8 => ⟨S8x128x384, .f32⟩
  | 9 => ⟨S_, .i32⟩
  | 10 => ⟨S128x384, .i32⟩
  | 11 => ⟨S128x384, .i1⟩
  | 12 => ⟨S_, .i1⟩
  | 13 => ⟨S128x384, .i1⟩
  | 14 => ⟨S128x384, .i1⟩
  | 15 => ⟨S128x384, .i1⟩
  | 16 => ⟨S128x384, .i1⟩
  | 17 => ⟨S_, .i32⟩
  | 18 => ⟨S128x384, .i32⟩
  | 19 => ⟨S128x384, .i1⟩
  | 20 => ⟨S_, .i1⟩
  | 21 => ⟨S128x384, .i1⟩
  | 22 => ⟨S128x384, .i1⟩
  | 23 => ⟨S128x384, .i1⟩
  | 24 => ⟨S128x384, .i1⟩
  | 25 => ⟨S1x128x384, .i1⟩
  | 26 => ⟨S_, .f32⟩
  | 27 => ⟨S_, .f32⟩
  | 28 => ⟨S8x128x384, .i1⟩
  | 29 => ⟨S8x128x384, .f32⟩
  | 30 => ⟨S8x128x384, .f32⟩
  | 31 => ⟨S_, .i32⟩
  | 32 => ⟨S128x384, .i32⟩
  | 33 => ⟨S128x384, .i1⟩
  | 34 => ⟨S_, .i1⟩
  | 35 => ⟨S128x384, .i1⟩
  | 36 => ⟨S128x384, .i1⟩
  | 37 => ⟨S128x384, .i1⟩
  | 38 => ⟨S128x384, .i1⟩
  | 39 => ⟨S_, .i32⟩
  | 40 => ⟨S128x384, .i32⟩
  | 41 => ⟨S128x384, .i1⟩
  | 42 => ⟨S_, .i1⟩
  | 43 => ⟨S128x384, .i1⟩
  | 44 => ⟨S128x384, .i1⟩
  | 45 => ⟨S128x384, .i1⟩
  | 46 => ⟨S128x384, .i1⟩
  | 47 => ⟨S1x128x384, .i1⟩
  | 48 => ⟨S_, .f32⟩
  | 49 => ⟨S_, .f32⟩
  | 50 => ⟨S8x128x384, .i1⟩
  | 51 => ⟨S8x128x384, .f32⟩
  | 52 => ⟨S8x128x384, .f32⟩
  | 53 => ⟨S_, .i32⟩
  | 54 => ⟨S128x384, .i32⟩
  | 55 => ⟨S128x384, .i1⟩
  | 56 => ⟨S_, .i1⟩
  | 57 => ⟨S128x384, .i1⟩
  | 58 => ⟨S128x384, .i1⟩
  | 59 => ⟨S128x384, .i1⟩
  | 60 => ⟨S128x384, .i1⟩
  | 61 => ⟨S_, .i32⟩
  | 62 => ⟨S128x384, .i32⟩
  | 63 => ⟨S128x384, .i1⟩
  | 64 => ⟨S_, .i1⟩
  | 65 => ⟨S128x384, .i1⟩
  | 66 => ⟨S128x384, .i1⟩
  | 67 => ⟨S128x384, .i1⟩
  | 68 => ⟨S128x384, .i1⟩
  | 69 => ⟨S1x128x384, .i1⟩
  | 70 => ⟨S_, .f32⟩
  | 71 => ⟨S_, .f32⟩
  | 72 => ⟨S8x128x384, .i1⟩
  | 73 => ⟨S8x128x384, .f32⟩
  | 74 => ⟨S8x128x384, .f32⟩
  | 75 => ⟨S1x8x128x384, .f32⟩
  | 76 => ⟨S1x8x128x384, .f32⟩
  | 77 => ⟨S1x8x128x384, .f32⟩
  | 78 => ⟨S1x8x128x384, .f32⟩
  | 79 => ⟨S4x8x128x384, .f32⟩
  | 80 => ⟨S4x8x384x128, .f32⟩
  | 81 => ⟨S8x4096x512, .bf16⟩
  | _ => ⟨S8x4096x5920, .f32⟩

abbrev hbmTy (i : Nat) : BufTy := match i / 128 with
  | 0 => hbmTy0_0 i
  | 1 => hbmTy0_1 i
  | _ => ⟨S8x4096x5920, .f32⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x2048x512, .bf16⟩
  | .local _ .vmem, ⟨15, _⟩ => ⟨S1x2048x512, .bf16⟩
  | .local _ .vmem, ⟨16, _⟩ => ⟨S4x8x384x128, .f32⟩
  | .local _ .vmem, ⟨17, _⟩ => ⟨S8x128, .f32⟩
  | .local _ .vmem, ⟨18, _⟩ => ⟨S1x2048x512, .bf16⟩
  | .local _ .vmem, ⟨19, _⟩ => ⟨S1x2048x512, .bf16⟩
  | .local _ .vmem, ⟨20, _⟩ => ⟨S2304x128, .bf16⟩
  | .local _ .vmem, ⟨21, _⟩ => ⟨S2304x128, .bf16⟩
  | .local _ .vmem, ⟨22, _⟩ => ⟨S18x128x128, .bf16⟩
  | _, _ => ⟨S8x4096x5920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_15 : Ref sig .tc := ⟨.hbm, 89, rfl⟩
abbrev main_v69 : Ref sig .tc := ⟨.hbm, 90, rfl⟩
abbrev main_v70 : Ref sig .tc := ⟨.hbm, 91, rfl⟩
abbrev main_c_16 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_17 : Ref sig .tc := ⟨.hbm, 105, rfl⟩
abbrev main_v83 : Ref sig .tc := ⟨.hbm, 106, rfl⟩
abbrev main_cst_18 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c_19 : Ref sig .tc := ⟨.hbm, 112, rfl⟩
abbrev main_v88 : Ref sig .tc := ⟨.hbm, 113, rfl⟩
abbrev main_v89 : Ref sig .tc := ⟨.hbm, 114, rfl⟩
abbrev main_c_20 : Ref sig .tc := ⟨.hbm, 115, rfl⟩
abbrev main_v90 : Ref sig .tc := ⟨.hbm, 116, rfl⟩
abbrev main_v91 : Ref sig .tc := ⟨.hbm, 117, rfl⟩
abbrev main_c_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_22 : Ref sig .tc := ⟨.hbm, 123, rfl⟩
abbrev main_v96 : Ref sig .tc := ⟨.hbm, 124, rfl⟩
abbrev main_v97 : Ref sig .tc := ⟨.hbm, 125, rfl⟩
abbrev main_c_23 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_24 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v103 : Ref sig .tc := ⟨.hbm, 136, rfl⟩
abbrev main_c_25 : Ref sig .tc := ⟨.hbm, 137, rfl⟩
abbrev main_v104 : Ref sig .tc := ⟨.hbm, 138, rfl⟩
abbrev main_v105 : Ref sig .tc := ⟨.hbm, 139, rfl⟩
abbrev main_c_26 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_v110 : Ref sig .tc := ⟨.hbm, 146, rfl⟩
abbrev main_v111 : Ref sig .tc := ⟨.hbm, 147, rfl⟩
abbrev main_c_28 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_29 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v117 : Ref sig .tc := ⟨.hbm, 158, rfl⟩
abbrev main_c_30 : Ref sig .tc := ⟨.hbm, 159, rfl⟩
abbrev main_v118 : Ref sig .tc := ⟨.hbm, 160, rfl⟩
abbrev main_v119 : Ref sig .tc := ⟨.hbm, 161, rfl⟩
abbrev main_c_31 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_32 : Ref sig .tc := ⟨.hbm, 167, rfl⟩
abbrev main_v124 : Ref sig .tc := ⟨.hbm, 168, rfl⟩
abbrev main_v125 : Ref sig .tc := ⟨.hbm, 169, rfl⟩
abbrev main_c_33 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_34 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_v131 : Ref sig .tc := ⟨.hbm, 180, rfl⟩
abbrev main_c_35 : Ref sig .tc := ⟨.hbm, 181, rfl⟩
abbrev main_v132 : Ref sig .tc := ⟨.hbm, 182, rfl⟩
abbrev main_v133 : Ref sig .tc := ⟨.hbm, 183, rfl⟩
abbrev main_c_36 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_c_37 : Ref sig .tc := ⟨.hbm, 189, rfl⟩
abbrev main_v138 : Ref sig .tc := ⟨.hbm, 190, rfl⟩
abbrev main_v139 : Ref sig .tc := ⟨.hbm, 191, rfl⟩
abbrev main_c_38 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_39 : Ref sig .tc := ⟨.hbm, 198, rfl⟩
abbrev main_call4_v0 : Ref sig .tc := ⟨.hbm, 199, rfl⟩
abbrev main_call4_v1 : Ref sig .tc := ⟨.hbm, 200, rfl⟩
abbrev main_call4_v2 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  let c128_i32 : BitVec 32 := 128#32
  let v171 : BitVec 32 := Scalar.muli c0_i32 c128_i32
  v171
def k0_off1 (c0_i32 : BitVec 32) : Fin 3 → Nat :=
  let c0_90 : Index := 0#32
  let c128_i32 : BitVec 32 := 128#32
  let v171 : BitVec 32 := Scalar.muli c0_i32 c128_i32
  let v172 : BitVec 32 := v171
  let v173 : Index := Scalar.indexCast v172
  let c0_91 : Index := 0#32
  ![0, v173.toNat, 0]
def k0_off2 (c0_i32 : BitVec 32) : Fin 2 → Nat :=
  let c128_i32 : BitVec 32 := 128#32
  let v171 : BitVec 32 := Scalar.muli c0_i32 c128_i32
  let v172 : BitVec 32 := v171
  let v176 : Index := Scalar.indexCast v172
  let c0_92 : Index := 0#32
  ![v176.toNat, 0]
def k0_off3 (c0_i32 : BitVec 32) (c1_i32 : BitVec 32) : Fin 3 → Nat :=
  let v184 : BitVec 32 := Scalar.addi c0_i32 c1_i32
  let v185 : Index := Scalar.indexCast v184
  let c0_96 : Index := 0#32
  let c0_97 : Index := 0#32
  ![v185.toNat, 0, 0]
def k0_off4 (i : grid0.Coords) (c0_i32 : BitVec 32) : Fin 4 → Nat :=
  let arg1 : BitVec 32 := BitVec.ofNat 32 (i 1).val
  let c0_i32_100 : BitVec 32 := 0#32
  let v193 : BitVec 1 := Scalar.cmpi .eq arg1 c0_i32_100
  let c0_i32_101 : BitVec 32 := 0#32
  let v194 : BitVec 1 := Scalar.cmpi .eq c0_i32 c0_i32_101
  let v195 : BitVec 1 := Scalar.andi v193 v194
  let v199 : BitVec 32 := Scalar.extui v195
  let c2_i32_103 : BitVec 32 := 2#32
  let c1_i32_102 : BitVec 32 := 1#32
  let v196 : BitVec 1 := Scalar.cmpi .eq arg1 c1_i32_102
  let c15_i32 : BitVec 32 := 15#32
  let v197 : BitVec 1 := Scalar.cmpi .eq c0_i32 c15_i32
  let v198 : BitVec 1 := Scalar.andi v196 v197
  let v200 : BitVec 32 := Scalar.extui v198
  let v201 : BitVec 32 := Scalar.muli c2_i32_103 v200
  let v202 : BitVec 32 := Scalar.addi v199 v201
  let v206 : Index := Scalar.indexCast v202
  let c0_105 : Index := 0#32
  let c0_106 : Index := 0#32
  let c0_107 : Index := 0#32
  ![v206.toNat, 0, 0, 0]
def k0_off5 (i : grid0.Coords) (c0_i32 : BitVec 32) : Fin 4 → Nat :=
  let arg1 : BitVec 32 := BitVec.ofNat 32 (i 1).val
  let c0_i32_100 : BitVec 32 := 0#32
  let v193 : BitVec 1 := Scalar.cmpi .eq arg1 c0_i32_100
  let c0_i32_101 : BitVec 32 := 0#32
  let v194 : BitVec 1 := Scalar.cmpi .eq c0_i32 c0_i32_101
  let v195 : BitVec 1 := Scalar.andi v193 v194
  let v199 : BitVec 32 := Scalar.extui v195
  let c2_i32_103 : BitVec 32 := 2#32
  let c1_i32_102 : BitVec 32 := 1#32
  let v196 : BitVec 1 := Scalar.cmpi .eq arg1 c1_i32_102
  let c15_i32 : BitVec 32 := 15#32
  let v197 : BitVec 1 := Scalar.cmpi .eq c0_i32 c15_i32
  let v198 : BitVec 1 := Scalar.andi v196 v197
  let v200 : BitVec 32 := Scalar.extui v198
  let v201 : BitVec 32 := Scalar.muli c2_i32_103 v200
  let v202 : BitVec 32 := Scalar.addi v199 v201
  let v230 : Index := Scalar.indexCast v202
  let c4_114 : Index := 4#32
  let c0_115 : Index := 0#32
  let c0_116 : Index := 0#32
  ![v230.toNat, 4, 0, 0]
def k0_off6 (i : grid0.Coords) (c0_i32 : BitVec 32) : Fin 4 → Nat :=
  let arg1 : BitVec 32 := BitVec.ofNat 32 (i 1).val
  let c0_i32_100 : BitVec 32 := 0#32
  let v193 : BitVec 1 := Scalar.cmpi .eq arg1 c0_i32_100
  let c0_i32_101 : BitVec 32 := 0#32
  let v194 : BitVec 1 := Scalar.cmpi .eq c0_i32 c0_i32_101
  let v195 : BitVec 1 := Scalar.andi v193 v194
  let v199 : BitVec 32 := Scalar.extui v195
  let c2_i32_103 : BitVec 32 := 2#32
  let c1_i32_102 : BitVec 32 := 1#32
  let v196 : BitVec 1 := Scalar.cmpi .eq arg1 c1_i32_102
  let c15_i32 : BitVec 32 := 15#32
  let v197 : BitVec 1 := Scalar.cmpi .eq c0_i32 c15_i32
  let v198 : BitVec 1 := Scalar.andi v196 v197
  let v200 : BitVec 32 := Scalar.extui v198
  let v201 : BitVec 32 := Scalar.muli c2_i32_103 v200
  let v202 : BitVec 32 := Scalar.addi v199 v201
  let v258 : Index := Scalar.indexCast v202
  let c1_124 : Index := 1#32
  let c0_125 : Index := 0#32
  let c0_126 : Index := 0#32
  ![v258.toNat, 1, 0, 0]
def k0_off7 (i : grid0.Coords) (c0_i32 : BitVec 32) : Fin 4 → Nat :=
  let arg1 : BitVec 32 := BitVec.ofNat 32 (i 1).val
  let c0_i32_100 : BitVec 32 := 0#32
  let v193 : BitVec 1 := Scalar.cmpi .eq arg1 c0_i32_100
  let c0_i32_101 : BitVec 32 := 0#32
  let v194 : BitVec 1 := Scalar.cmpi .eq c0_i32 c0_i32_101
  let v195 : BitVec 1 := Scalar.andi v193 v194
  let v199 : BitVec 32 := Scalar.extui v195
  let c2_i32_103 : BitVec 32 := 2#32
  let c1_i32_102 : BitVec 32 := 1#32
  let v196 : BitVec 1 := Scalar.cmpi .eq arg1 c1_i32_102
  let c15_i32 : BitVec 32 := 15#32
  let v197 : BitVec 1 := Scalar.cmpi .eq c0_i32 c15_i32
  let v198 : BitVec 1 := Scalar.andi v196 v197
  let v200 : BitVec 32 := Scalar.extui v198
  let v201 : BitVec 32 := Scalar.muli c2_i32_103 v200
  let v202 : BitVec 32 := Scalar.addi v199 v201
  let v282 : Index := Scalar.indexCast v202
  let c5_133 : Index := 5#32
  let c0_134 : Index := 0#32
  let c0_135 : Index := 0#32
  ![v282.toNat, 5, 0, 0]
def k0_off8 (i : grid0.Coords) (c0_i32 : BitVec 32) : Fin 4 → Nat :=
  let arg1 : BitVec 32 := BitVec.ofNat 32 (i 1).val
  let c0_i32_100 : BitVec 32 := 0#32
  let v193 : BitVec 1 := Scalar.cmpi .eq arg1 c0_i32_100
  let c0_i32_101 : BitVec 32 := 0#32
  let v194 : BitVec 1 := Scalar.cmpi .eq c0_i32 c0_i32_101
  let v195 : BitVec 1 := Scalar.andi v193 v194
  let v199 : BitVec 32 := Scalar.extui v195
  let c2_i32_103 : BitVec 32 := 2#32
  let c1_i32_102 : BitVec 32 := 1#32
  let v196 : BitVec 1 := Scalar.cmpi .eq arg1 c1_i32_102
  let c15_i32 : BitVec 32 := 15#32
  let v197 : BitVec 1 := Scalar.cmpi .eq c0_i32 c15_i32
  let v198 : BitVec 1 := Scalar.andi v196 v197
  let v200 : BitVec 32 := Scalar.extui v198
  let v201 : BitVec 32 := Scalar.muli c2_i32_103 v200
  let v202 : BitVec 32 := Scalar.addi v199 v201
  let v310 : Index := Scalar.indexCast v202
  let c2_143 : Index := 2#32
  let c0_144 : Index := 0#32
  let c0_145 : Index := 0#32
  ![v310.toNat, 2, 0, 0]
def k0_off9 (i : grid0.Coords) (c0_i32 : BitVec 32) : Fin 4 → Nat :=
  let arg1 : BitVec 32 := BitVec.ofNat 32 (i 1).val
  let c0_i32_100 : BitVec 32 := 0#32
  let v193 : BitVec 1 := Scalar.cmpi .eq arg1 c0_i32_100
  let c0_i32_101 : BitVec 32 := 0#32
  let v194 : BitVec 1 := Scalar.cmpi .eq c0_i32 c0_i32_101
  let v195 : BitVec 1 := Scalar.andi v193 v194
  let v199 : BitVec 32 := Scalar.extui v195
  let c2_i32_103 : BitVec 32 := 2#32
  let c1_i32_102 : BitVec 32 := 1#32
  let v196 : BitVec 1 := Scalar.cmpi .eq arg1 c1_i32_102
  let c15_i32 : BitVec 32 := 15#32
  let v197 : BitVec 1 := Scalar.cmpi .eq c0_i32 c15_i32
  let v198 : BitVec 1 := Scalar.andi v196 v197
  let v200 : BitVec 32 := Scalar.extui v198
  let v201 : BitVec 32 := Scalar.muli c2_i32_103 v200
  let v202 : BitVec 32 := Scalar.addi v199 v201
  let v334 : Index := Scalar.indexCast v202
  let c6_152 : Index := 6#32
  let c0_153 : Index := 0#32
  let c0_154 : Index := 0#32
  ![v334.toNat, 6, 0, 0]
def k0_off10 (i : grid0.Coords) (c0_i32 : BitVec 32) : Fin 4 → Nat :=
  let arg1 : BitVec 32 := BitVec.ofNat 32 (i 1).val
  let c0_i32_100 : BitVec 32 := 0#32
  let v193 : BitVec 1 := Scalar.cmpi .eq arg1 c0_i32_100
  let c0_i32_101 : BitVec 32 := 0#32
  let v194 : BitVec 1 := Scalar.cmpi .eq c0_i32 c0_i32_101
  let v195 : BitVec 1 := Scalar.andi v193 v194
  let v199 : BitVec 32 := Scalar.extui v195
  let c2_i32_103 : BitVec 32 := 2#32
  let c1_i32_102 : BitVec 32 := 1#32
  let v196 : BitVec 1 := Scalar.cmpi .eq arg1 c1_i32_102
  let c15_i32 : BitVec 32 := 15#32
  let v197 : BitVec 1 := Scalar.cmpi .eq c0_i32 c15_i32
  let v198 : BitVec 1 := Scalar.andi v196 v197
  let v200 : BitVec 32 := Scalar.extui v198
  let v201 : BitVec 32 := Scalar.muli c2_i32_103 v200
  let v202 : BitVec 32 := Scalar.addi v199 v201
  let v362 : Index := Scalar.indexCast v202
  let c3_162 : Index := 3#32
  let c0_163 : Index := 0#32
  let c0_164 : Index := 0#32
  ![v362.toNat, 3, 0, 0]
def k0_off11 (i : grid0.Coords) (c0_i32 : BitVec 32) : Fin 4 → Nat :=
  let arg1 : BitVec 32 := BitVec.ofNat 32 (i 1).val
  let c0_i32_100 : BitVec 32 := 0#32
  let v193 : BitVec 1 := Scalar.cmpi .eq arg1 c0_i32_100
  let c0_i32_101 : BitVec 32 := 0#32
  let v194 : BitVec 1 := Scalar.cmpi .eq c0_i32 c0_i32_101
  let v195 : BitVec 1 := Scalar.andi v193 v194
  let v199 : BitVec 32 := Scalar.extui v195
  let c2_i32_103 : BitVec 32 := 2#32
  let c1_i32_102 : BitVec 32 := 1#32
  let v196 : BitVec 1 := Scalar.cmpi .eq arg1 c1_i32_102
  let c15_i32 : BitVec 32 := 15#32
  let v197 : BitVec 1 := Scalar.cmpi .eq c0_i32 c15_i32
  let v198 : BitVec 1 := Scalar.andi v196 v197
  let v200 : BitVec 32 := Scalar.extui v198
  let v201 : BitVec 32 := Scalar.muli c2_i32_103 v200
  let v202 : BitVec 32 := Scalar.addi v199 v201
  let v386 : Index := Scalar.indexCast v202
  let c7_171 : Index := 7#32
  let c0_172 : Index := 0#32
  let c0_173 : Index := 0#32
  ![v386.toNat, 7, 0, 0]
def k0_mult2 : BitVec 32 :=
  let c1_i32_190 : BitVec 32 := 1#32
  let c128_i32_191 : BitVec 32 := 128#32
  let v440 : BitVec 32 := Scalar.muli c1_i32_190 c128_i32_191
  v440
def k0_mult3 : BitVec 32 :=
  let c2_i32_295 : BitVec 32 := 2#32
  let c128_i32_296 : BitVec 32 := 128#32
  let v709 : BitVec 32 := Scalar.muli c2_i32_295 c128_i32_296
  v709
def k0_mult4 : BitVec 32 :=
  let c3_i32 : BitVec 32 := 3#32
  let c128_i32_400 : BitVec 32 := 128#32
  let v978 : BitVec 32 := Scalar.muli c3_i32 c128_i32_400
  v978
def k0_mult5 : BitVec 32 :=
  let c4_i32 : BitVec 32 := 4#32
  let c128_i32_504 : BitVec 32 := 128#32
  let v1247 : BitVec 32 := Scalar.muli c4_i32 c128_i32_504
  v1247
def k0_mult6 : BitVec 32 :=
  let c5_i32 : BitVec 32 := 5#32
  let c128_i32_608 : BitVec 32 := 128#32
  let v1516 : BitVec 32 := Scalar.muli c5_i32 c128_i32_608
  v1516
def k0_mult7 : BitVec 32 :=
  let c6_i32 : BitVec 32 := 6#32
  let c128_i32_712 : BitVec 32 := 128#32
  let v1785 : BitVec 32 := Scalar.muli c6_i32 c128_i32_712
  v1785
def k0_mult8 : BitVec 32 :=
  let c7_i32 : BitVec 32 := 7#32
  let c128_i32_816 : BitVec 32 := 128#32
  let v2054 : BitVec 32 := Scalar.muli c7_i32 c128_i32_816
  v2054
def k0_mult9 : BitVec 32 :=
  let c8_i32 : BitVec 32 := 8#32
  let c128_i32_920 : BitVec 32 := 128#32
  let v2323 : BitVec 32 := Scalar.muli c8_i32 c128_i32_920
  v2323
def k0_mult10 : BitVec 32 :=
  let c9_i32 : BitVec 32 := 9#32
  let c128_i32_1024 : BitVec 32 := 128#32
  let v2592 : BitVec 32 := Scalar.muli c9_i32 c128_i32_1024
  v2592
def k0_mult11 : BitVec 32 :=
  let c10_i32 : BitVec 32 := 10#32
  let c128_i32_1128 : BitVec 32 := 128#32
  let v2861 : BitVec 32 := Scalar.muli c10_i32 c128_i32_1128
  v2861
def k0_mult12 : BitVec 32 :=
  let c11_i32 : BitVec 32 := 11#32
  let c128_i32_1232 : BitVec 32 := 128#32
  let v3130 : BitVec 32 := Scalar.muli c11_i32 c128_i32_1232
  v3130
def k0_mult13 : BitVec 32 :=
  let c12_i32 : BitVec 32 := 12#32
  let c128_i32_1336 : BitVec 32 := 128#32
  let v3399 : BitVec 32 := Scalar.muli c12_i32 c128_i32_1336
  v3399
def k0_mult14 : BitVec 32 :=
  let c13_i32 : BitVec 32 := 13#32
  let c128_i32_1440 : BitVec 32 := 128#32
  let v3668 : BitVec 32 := Scalar.muli c13_i32 c128_i32_1440
  v3668
def k0_mult15 : BitVec 32 :=
  let c14_i32 : BitVec 32 := 14#32
  let c128_i32_1544 : BitVec 32 := 128#32
  let v3937 : BitVec 32 := Scalar.muli c14_i32 c128_i32_1544
  v3937
def k0_mult16 : BitVec 32 :=
  let c15_i32_1648 : BitVec 32 := 15#32
  let c128_i32_1649 : BitVec 32 := 128#32
  let v4206 : BitVec 32 := Scalar.muli c15_i32_1648 c128_i32_1649
  v4206
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c44_i32 : BitVec 32 := 44#32
  let c0_i32_0 : BitVec 32 := 0#32
  ![arg0.toNat, v2.toNat, c44_i32.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, arg1.toNat, c44_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c31_i32 : BitVec 32 := 31#32
  let v2 : BitVec 32 := Scalar.minsi v1 c31_i32
  let c44_i32 : BitVec 32 := 44#32
  let c0_i32 : BitVec 32 := 0#32
  ![arg0.toNat, v2.toNat, c44_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c45_i32 : BitVec 32 := 45#32
  let c0_i32_0 : BitVec 32 := 0#32
  ![arg0.toNat, v2.toNat, c45_i32.toNat]

def cc0_transform_5 (i : grid0.Coords) : Fin 3 → Nat :=
  let arg0 : BitVec 32 := BitVec.ofNat 32 (i 0).val
  let arg1 : BitVec 32 := BitVec.ofNat 32 (i 1).val
  let c45_i32 : BitVec 32 := 45#32
  let c0_i32 : BitVec 32 := 0#32
  ![arg0.toNat, arg1.toNat, c45_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c31_i32 : BitVec 32 := 31#32
  let v2 : BitVec 32 := Scalar.minsi v1 c31_i32
  let c45_i32 : BitVec 32 := 45#32
  let c0_i32 : BitVec 32 := 0#32
  ![arg0.toNat, v2.toNat, c45_i32.toNat]

def cc0_transform_7 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x8x384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x4096x5920 : Shape := ⟨3, ![8, 4096, 5920]⟩
abbrev S32x8 : Shape := ⟨2, ![32, 8]⟩
abbrev S8 : Shape := ⟨1, ![8]⟩
abbrev S8x4096x512 : Shape := ⟨3, ![8, 4096, 512]⟩
abbrev S8x4096x128 : Shape := ⟨3, ![8, 4096, 128]⟩
abbrev S8x32x128x2x4x64 : Shape := ⟨6, ![8, 32, 128, 2, 4, 64]⟩
abbrev S8x4096x2x64 : Shape := ⟨4, ![8, 4096, 2, 64]⟩
abbrev S_ : Shape := ⟨0, ![]⟩
abbrev S8x4352x2x64 : Shape := ⟨4, ![8, 4352, 2, 64]⟩
abbrev S8x34x128x2x64 : Shape := ⟨5, ![8, 34, 128, 2, 64]⟩
abbrev S8x32x128x2x64 : Shape := ⟨5, ![8, 32, 128, 2, 64]⟩
abbrev S8x32x384x2x64 : Shape := ⟨5, ![8, 32, 384, 2, 64]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S32x128x384 : Shape := ⟨3, ![32, 128, 384]⟩
abbrev S1x128x384 : Shape := ⟨3, ![1, 128, 384]⟩
abbrev S8x32x2x384x128x4 : Shape := ⟨6, ![8, 32, 2, 384, 128, 4]⟩
abbrev S8x32x2x4x128x384 : Shape := ⟨6, ![8, 32, 2, 4, 128, 384]⟩
abbrev S1x1x2x4x128x384 : Shape := ⟨6, ![1, 1, 2, 4, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩
abbrev S8x4096 : Shape := ⟨2, ![8, 4096]⟩
abbrev S8x4096x1 : Shape := ⟨3, ![8, 4096, 1]⟩
abbrev S8x4096x2x4x64 : Shape := ⟨5, ![8, 4096, 2, 4, 64]⟩
abbrev S8x4096x4x2x64 : Shape := ⟨5, ![8, 4096, 4, 2, 64]⟩

abbrev nBuf : Space → Nat
  | .hbm => 214
  | .vmem => 0
  | .smem => 0
  | _ => 0

abbrev hbmTy0_0 (i : Nat) : BufTy := match i % 128 with
  | 0 => ⟨S8x4096x5920, .f32⟩
  | 1 => ⟨S32x8, .f32⟩
  | 2 => ⟨S8, .f32⟩
  | 3 => ⟨S8x4096x512, .f32⟩
  | 4 => ⟨S8x4096x128, .f32⟩
  | 5 => ⟨S8x4096x128, .f32⟩
  | 6 => ⟨S8x4096x512, .f32⟩
  | 7 => ⟨S8x32x128x2x4x64, .f32⟩
  | 8 => ⟨S8x4096x2x64, .f32⟩
  | 9 => ⟨S_, .i32⟩
  | 10 => ⟨S_, .f32⟩
  | 11 => ⟨S8x4352x2x64, .f32⟩
  | 12 => ⟨S8x34x128x2x64, .f32⟩
  | 13 => ⟨S8x32x128x2x64, .f32⟩
  | 14 => ⟨S8x32x128x2x64, .f32⟩
  | 15 => ⟨S8x32x128x2x64, .f32⟩
  | 16 => ⟨S8x32x384x2x64, .f32⟩
  | 17 => ⟨S8x4096x2x64, .f32⟩
  | 18 => ⟨S_, .i32⟩
  | 19 => ⟨S_, .f32⟩
  | 20 => ⟨S8x4352x2x64, .f32⟩
  | 21 => ⟨S8x34x128x2x64, .f32⟩
  | 22 => ⟨S8x32x128x2x64, .f32⟩
  | 23 => ⟨S8x32x128x2x64, .f32⟩
  | 24 => ⟨S8x32x128x2x64, .f32⟩
  | 25 => ⟨S8x32x384x2x64, .f32⟩
  | 26 => ⟨S128x384, .i32⟩
  | 27 => ⟨S128x384, .i32⟩
  | 28 => ⟨S_, .i32⟩
  | 29 => ⟨S128x384, .i32⟩
  | 30 => ⟨S128x384, .i32⟩
  | 31 => ⟨S128x384, .i32⟩
  | 32 => ⟨S_, .i32⟩
  | 33 => ⟨S128x384, .i32⟩
  | 34 => ⟨S128x384, .i1⟩
  | 35 => ⟨S_, .i32⟩
  | 36 => ⟨S_, .i32⟩
  | 37 => ⟨S128x384, .i32⟩
  | 38 => ⟨S128x384, .i32⟩
  | 39 => ⟨S128x384, .i32⟩
  | 40 => ⟨S128x384, .i32⟩
  | 41 => ⟨S_, .i32⟩
  | 42 => ⟨S128x384, .i32⟩
  | 43 => ⟨S128x384, .i1⟩
  | 44 => ⟨S_, .i32⟩
  | 45 => ⟨S_, .i32⟩
  | 46 => ⟨S128x384, .i32⟩
  | 47 => ⟨S128x384, .i32⟩
  | 48 => ⟨S128x384, .i32⟩
  | 49 => ⟨S_, .i32⟩
  | 50 => ⟨S128x384, .i32⟩
  | 51 => ⟨S128x384, .i32⟩
  | 52 => ⟨S_, .i32⟩
  | 53 => ⟨S128x384, .i32⟩
  | 54 => ⟨S128x384, .i1⟩
  | 55 => ⟨S_, .i32⟩
  | 56 => ⟨S_, .i32⟩
  | 57 => ⟨S128x384, .i32⟩
  | 58 => ⟨S128x384, .i32⟩
  | 59 => ⟨S128x384, .i32⟩
  | 60 => ⟨S128x384, .i32⟩
  | 61 => ⟨S_, .i32⟩
  | 62 => ⟨S128x384, .i32⟩
  | 63 => ⟨S128x384, .i1⟩
  | 64 => ⟨S_, .i32⟩
  | 65 => ⟨S_, .i32⟩
  | 66 => ⟨S128x384, .i32⟩
  | 67 => ⟨S128x384, .i32⟩
  | 68 => ⟨S128x384, .i32⟩
  | 69 => ⟨S128x384, .i32⟩
  | 70 => ⟨S_, .i32⟩
  | 71 => ⟨S128x384, .i32⟩
  | 72 => ⟨S128x384, .i1⟩
  | 73 => ⟨S_, .i32⟩
  | 74 => ⟨S_, .i32⟩
  | 75 => ⟨S128x384, .i32⟩
  | 76 => ⟨S128x384, .i32⟩
  | 77 => ⟨S128x384, .i32⟩
  | 78 => ⟨S128x384, .i32⟩
  | 79 => ⟨S_, .i32⟩
  | 80 => ⟨S128x384, .i32⟩
  | 81 => ⟨S128x384, .i1⟩
  | 82 => ⟨S_, .i32⟩
  | 83 => ⟨S_, .i32⟩
  | 84 => ⟨S128x384, .i32⟩
  | 85 => ⟨S128x384, .i32⟩
  | 86 => ⟨S128x384, .i32⟩
  | 87 => ⟨S128x384, .i32⟩
  | 88 => ⟨S_, .i32⟩
  | 89 => ⟨S128x384, .i32⟩
  | 90 => ⟨S128x384, .i1⟩
  | 91 => ⟨S_, .i32⟩
  | 92 => ⟨S_, .i32⟩
  | 93 => ⟨S128x384, .i32⟩
  | 94 => ⟨S128x384, .i32⟩
  | 95 => ⟨S128x384, .i32⟩
  | 96 => ⟨S128x384, .i32⟩
  | 97 => ⟨S_, .i32⟩
  | 98 => ⟨S128x384, .i32⟩
  | 99 => ⟨S128x384, .i1⟩
  | 100 => ⟨S_, .i32⟩
  | 101 => ⟨S_, .i32⟩
  | 102 => ⟨S128x384, .i32⟩
  | 103 => ⟨S128x384, .i32⟩
  | 104 => ⟨S128x384, .i32⟩
  | 105 => ⟨S128x384, .i32⟩
  | 106 => ⟨S_, .i32⟩
  | 107 => ⟨S128x384, .i32⟩
  | 108 => ⟨S128x384, .i32⟩
  | 109 => ⟨S_, .i32⟩
  | 110 => ⟨S128x384, .i32⟩
  | 111 => ⟨S128x384, .i1⟩
  | 112 => ⟨S128x384, .i32⟩
  | 113 => ⟨S128x384, .i32⟩
  | 114 => ⟨S128x384, .i32⟩
  | 115 => ⟨S128x384, .i32⟩
  | 116 => ⟨S_, .i32⟩
  | 117 => ⟨S128x384, .i32⟩
  | 118 => ⟨S128x384, .i1⟩
  | 119 => ⟨S_, .i32⟩
  | 120 => ⟨S128x384, .i32⟩
  | 121 => ⟨S128x384, .i32⟩
  | 122 => ⟨S128x384, .i32⟩
  | 123 => ⟨S128x384x1, .i32⟩
  | 124 => ⟨S128x384x8, .f32⟩
  | 125 => ⟨S8x128x384, .f32⟩
  | 126 => ⟨S2x4x128x384, .f32⟩
  | 127 => ⟨S32x128x384, .i32⟩
  | _ => ⟨S8x4096x5920, .f32⟩

abbrev hbmTy0_1 (i : Nat) : BufTy := match i % 128 with
  | 0 => ⟨S_, .i32⟩
  | 1 => ⟨S32x128x384, .i32⟩
  | 2 => ⟨S32x128x384, .i32⟩
  | 3 => ⟨S_, .i32⟩
  | 4 => ⟨S32x128x384, .i32⟩
  | 5 => ⟨S32x128x384, .i32⟩
  | 6 => ⟨S1x128x384, .i32⟩
  | 7 => ⟨S32x128x384, .i32⟩
  | 8 => ⟨S32x128x384, .i32⟩
  | 9 => ⟨S128x384, .i32⟩
  | 10 => ⟨S_, .i32⟩
  | 11 => ⟨S128x384, .i32⟩
  | 12 => ⟨S128x384, .i1⟩
  | 13 => ⟨S1x128x384, .i1⟩
  | 14 => ⟨S_, .i32⟩
  | 15 => ⟨S32x128x384, .i32⟩
  | 16 => ⟨S32x128x384, .i1⟩
  | 17 => ⟨S32x128x384, .i1⟩
  | 18 => ⟨S32x128x384, .i1⟩
  | 19 => ⟨S_, .i32⟩
  | 20 => ⟨S32x128x384, .i32⟩
  | 21 => ⟨S32x128x384, .i1⟩
  | 22 => ⟨S32x128x384, .i1⟩
  | 23 => ⟨S8x32x2x384x128x4, .f32⟩
  | 24 => ⟨S8x32x2x4x128x384, .f32⟩
  | 25 => ⟨S_, .f32⟩
  | 26 => ⟨S8x32x2x4x128x384, .f32⟩
  | 27 => ⟨S8x32x2x4x128x384, .f32⟩
  | 28 => ⟨S1x1x2x4x128x384, .f32⟩
  | 29 => ⟨S8x32x2x4x128x384, .f32⟩
  | 30 => ⟨S8x32x2x4x128x384, .f32⟩
  | 31 => ⟨S1x32x1x1x128x384, .i1⟩
  | 32 => ⟨S_, .f32⟩
  | 33 => ⟨S_, .f32⟩
  | 34 => ⟨S8x32x2x4x128x384, .i1⟩
  | 35 => ⟨S8x32x2x4x128x384, .f32⟩
  | 36 => ⟨S8x32x2x4x128x384, .f32⟩
  | 37 => ⟨S2x4, .f32⟩
  | 38 => ⟨S1x1x2x4x1x1, .f32⟩
  | 39 => ⟨S_, .f32⟩
  | 40 => ⟨S8x32x2x4x128, .f32⟩
  | 41 => ⟨S8x32x2x4x128x1, .f32⟩
  | 42 => ⟨S8x32x2x4x128x1, .f32⟩
  | 43 => ⟨S8x32x2x4x128x1, .f32⟩
  | 44 => ⟨S8x32x2x4x128x384, .f32⟩
  | 45 => ⟨S8x32x2x4x128x384, .f32⟩
  | 46 => ⟨S8x32x2x4x128x384, .f32⟩
  | 47 => ⟨S_, .f32⟩
  | 48 => ⟨S8x32x2x4x128, .f32⟩
  | 49 => ⟨S8x32x2x4x128x1, .f32⟩
  | 50 => ⟨S8x32x2x4x128x1, .f32⟩
  | 51 => ⟨S8x32x2x4x128x1, .f32⟩
  | 52 => ⟨S8x32x2x4x128x1, .f32⟩
  | 53 => ⟨S8x32x2x4x128x1, .f32⟩
  | 54 => ⟨S8x32x2x4x128x384, .f32⟩
  | 55 => ⟨S8x32x2x4x128x384, .f32⟩
  | 56 => ⟨S8x32x2x64x4x128, .f32⟩
  | 57 => ⟨S8x32x128x2x4x64, .f32⟩
  | 58 => ⟨S8x4096x512, .f32⟩
  | 59 => ⟨S8x4096x512, .f32⟩
  | 60 => ⟨S8x4096x512, .f32⟩
  | 61 => ⟨S_, .f32⟩
  | 62 => ⟨S8x4096x512, .f32⟩
  | 63 => ⟨S8x4096x512, .f32⟩
  | 64 => ⟨S_, .f32⟩
  | 65 => ⟨S8x4096x512, .f32⟩
  | 66 => ⟨S8x4096x512, .f32⟩
  | 67 => ⟨S8x4096x512, .f32⟩
  | 68 => ⟨S8x4096x512, .f32⟩
  | 69 => ⟨S8x4096x512, .f32⟩
  | 70 => ⟨S_, .f32⟩
  | 71 => ⟨S8x4096, .f32⟩
  | 72 => ⟨S8x4096x1, .f32⟩
  | 73 => ⟨S_, .f32⟩
  | 74 => ⟨S8x4096x1, .f32⟩
  | 75 => ⟨S8x4096x1, .f32⟩
  | 76 => ⟨S_, .f32⟩
  | 77 => ⟨S8x4096x1, .f32⟩
  | 78 => ⟨S8x4096x1, .f32⟩
  | 79 => ⟨S8x4096x1, .f32⟩
  | 80 => ⟨S8x4096x512, .f32⟩
  | 81 => ⟨S8x4096x512, .f32⟩
  | 82 => ⟨S8x4096x2x4x64, .f32⟩
  | 83 => ⟨S8x4096x4x2x64, .f32⟩
  | 84 => ⟨S8x4096x512, .f32⟩
  | 85 => ⟨S8x4096x512, .bf16⟩
  | _ => ⟨S8x4096x5920, .f32⟩

abbrev hbmTy (i : Nat) : BufTy := match i / 128 with
  | 0 => hbmTy0_0 i
  | 1 => hbmTy0_1 i
  | _ => ⟨S8x4096x5920, .f32⟩

abbrev bufTy : (tb : Table) → Fin (tcTables nBuf tb) → BufTy
  | .hbm, ⟨i, _⟩ => hbmTy i
  | _, _ => ⟨S8x4096x5920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_c_4 : Ref sig .tc := ⟨.hbm, 36, rfl⟩
abbrev main_call2_v0 : Ref sig .tc := ⟨.hbm, 37, rfl⟩
abbrev main_call2_v1 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_c_7 : Ref sig .tc := ⟨.hbm, 45, rfl⟩
abbrev main_call3_v0 : Ref sig .tc := ⟨.hbm, 46, rfl⟩
abbrev main_call3_v1 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_c_11 : Ref sig .tc := ⟨.hbm, 56, rfl⟩
abbrev main_call4_v0 : Ref sig .tc := ⟨.hbm, 57, rfl⟩
abbrev main_call4_v1 : Ref sig .tc := ⟨.hbm, 58, rfl⟩
abbrev main_v35 : Ref sig .tc := ⟨.hbm, 59, rfl⟩
abbrev main_v36 : Ref sig .tc := ⟨.hbm, 60, rfl⟩
abbrev main_c_12 : Ref sig .tc := ⟨.hbm, 61, rfl⟩
abbrev main_v37 : Ref sig .tc := ⟨.hbm, 62, rfl⟩
abbrev main_v38 : Ref sig .tc := ⟨.hbm, 63, rfl⟩
abbrev main_c_13 : Ref sig .tc := ⟨.hbm, 64, rfl⟩
abbrev main_c_14 : Ref sig .tc := ⟨.hbm, 65, rfl⟩
abbrev main_call5_v0 : Ref sig .tc := ⟨.hbm, 66, rfl⟩
abbrev main_call5_v1 : Ref sig .tc := ⟨.hbm, 67, rfl⟩
abbrev main_v39 : Ref sig .tc := ⟨.hbm, 68, rfl⟩
abbrev main_v40 : Ref sig .tc := ⟨.hbm, 69, rfl⟩
abbrev main_c_15 : Ref sig .tc := ⟨.hbm, 70, rfl⟩
abbrev main_v41 : Ref sig .tc := ⟨.hbm, 71, rfl⟩
abbrev main_v42 : Ref sig .tc := ⟨.hbm, 72, rfl⟩
abbrev main_c_16 : Ref sig .tc := ⟨.hbm, 73, rfl⟩
abbrev main_c_17 : Ref sig .tc := ⟨.hbm, 74, rfl⟩
abbrev main_call6_v0 : Ref sig .tc := ⟨.hbm, 75, rfl⟩
abbrev main_call6_v1 : Ref sig .tc := ⟨.hbm, 76, rfl⟩
abbrev main_v43 : Ref sig .tc := ⟨.hbm, 77, rfl⟩
abbrev main_v44 : Ref sig .tc := ⟨.hbm, 78, rfl⟩
abbrev main_c_18 : Ref sig .tc := ⟨.hbm, 79, rfl⟩
abbrev main_v45 : Ref sig .tc := ⟨.hbm, 80, rfl⟩
abbrev main_v46 : Ref sig .tc := ⟨.hbm, 81, rfl⟩
abbrev main_c_19 : Ref sig .tc := ⟨.hbm, 82, rfl⟩
abbrev main_c_20 : Ref sig .tc := ⟨.hbm, 83, rfl⟩
abbrev main_call7_v0 : Ref sig .tc := ⟨.hbm, 84, rfl⟩
abbrev main_call7_v1 : Ref sig .tc := ⟨.hbm, 85, rfl⟩
abbrev main_v47 : Ref sig .tc := ⟨.hbm, 86, rfl⟩
abbrev main_v48 : Ref sig .tc := ⟨.hbm, 87, rfl⟩
abbrev main_c_21 : Ref sig .tc := ⟨.hbm, 88, rfl⟩
abbrev main_v49 : Ref sig .tc := ⟨.hbm, 89, rfl⟩
abbrev main_v50 : Ref sig .tc := ⟨.hbm, 90, rfl⟩
abbrev main_c_22 : Ref sig .tc := ⟨.hbm, 91, rfl⟩
abbrev main_c_23 : Ref sig .tc := ⟨.hbm, 92, rfl⟩
abbrev main_call8_v0 : Ref sig .tc := ⟨.hbm, 93, rfl⟩
abbrev main_call8_v1 : Ref sig .tc := ⟨.hbm, 94, rfl⟩
abbrev main_v51 : Ref sig .tc := ⟨.hbm, 95, rfl⟩
abbrev main_v52 : Ref sig .tc := ⟨.hbm, 96, rfl⟩
abbrev main_c_24 : Ref sig .tc := ⟨.hbm, 97, rfl⟩
abbrev main_v53 : Ref sig .tc := ⟨.hbm, 98, rfl⟩
abbrev main_v54 : Ref sig .tc := ⟨.hbm, 99, rfl⟩
abbrev main_c_25 : Ref sig .tc := ⟨.hbm, 100, rfl⟩
abbrev main_c_26 : Ref sig .tc := ⟨.hbm, 101, rfl⟩
abbrev main_call9_v0 : Ref sig .tc := ⟨.hbm, 102, rfl⟩
abbrev main_call9_v1 : Ref sig .tc := ⟨.hbm, 103, rfl⟩
abbrev main_v55 : Ref sig .tc := ⟨.hbm, 104, rfl⟩
abbrev main_v56 : Ref sig .tc := ⟨.hbm, 105, rfl⟩
abbrev main_c_27 : Ref sig .tc := ⟨.hbm, 106, rfl⟩
abbrev main_v57 : Ref sig .tc := ⟨.hbm, 107, rfl⟩
abbrev main_v58 : Ref sig .tc := ⟨.hbm, 108, rfl⟩
abbrev main_c_28 : Ref sig .tc := ⟨.hbm, 109, rfl⟩
abbrev main_v59 : Ref sig .tc := ⟨.hbm, 110, rfl⟩
abbrev main_v60 : Ref sig .tc := ⟨.hbm, 111, rfl⟩
abbrev main_call10_v0 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_c_29 : Ref sig .tc := ⟨.hbm, 116, rfl⟩
abbrev main_v64 : Ref sig .tc := ⟨.hbm, 117, rfl⟩
abbrev main_v65 : Ref sig .tc := ⟨.hbm, 118, rfl⟩
abbrev main_c_30 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_c_31 : Ref sig .tc := ⟨.hbm, 128, rfl⟩
abbrev main_v74 : Ref sig .tc := ⟨.hbm, 129, rfl⟩
abbrev main_v75 : Ref sig .tc := ⟨.hbm, 130, rfl⟩
abbrev main_c_32 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_c_33 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_c_34 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_c_35 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_36 : Ref sig .tc := ⟨.hbm, 160, rfl⟩
abbrev main_call11_v0 : Ref sig .tc := ⟨.hbm, 161, rfl⟩
abbrev main_call11_v1 : Ref sig .tc := ⟨.hbm, 162, rfl⟩
abbrev main_call11_v2 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_37 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_38 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_call12_v0 : Ref sig .tc := ⟨.hbm, 187, rfl⟩
abbrev main_call12_v1 : Ref sig .tc := ⟨.hbm, 188, rfl⟩
abbrev main_call12_cst : Ref sig .tc := ⟨.hbm, 189, rfl⟩
abbrev main_call12_v2 : Ref sig .tc := ⟨.hbm, 190, rfl⟩
abbrev main_call12_v3 : Ref sig .tc := ⟨.hbm, 191, rfl⟩
abbrev main_call12_cst_0 : Ref sig .tc := ⟨.hbm, 192, rfl⟩
abbrev main_call12_v4 : Ref sig .tc := ⟨.hbm, 193, rfl⟩
abbrev main_call12_v5 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_cst_39 : Ref sig .tc := ⟨.hbm, 198, rfl⟩
abbrev main_v124 : Ref sig .tc := ⟨.hbm, 199, rfl⟩
abbrev main_v125 : Ref sig .tc := ⟨.hbm, 200, rfl⟩
abbrev main_cst_40 : Ref sig .tc := ⟨.hbm, 201, rfl⟩
abbrev main_v126 : Ref sig .tc := ⟨.hbm, 202, rfl⟩
abbrev main_v127 : Ref sig .tc := ⟨.hbm, 203, rfl⟩
abbrev main_cst_41 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩

abbrev nD : Nat := 1
abbrev τ : Topo := Topo.v7x

variable {F : FTy → Type} [FloatOps F]
-- ==== Inproj.lean ====
abbrev S32768x2048 : Shape := ⟨2, ![32768, 2048]⟩
abbrev S2048 : Shape := ⟨1, ![2048]⟩
abbrev S2048x6016 : Shape := ⟨2, ![2048, 6016]⟩
abbrev S1x2048 : Shape := ⟨2, ![1, 2048]⟩
abbrev S32768x6016 : Shape := ⟨2, ![32768, 6016]⟩
abbrev S32768x128 : Shape := ⟨2, ![32768, 128]⟩
abbrev S512x2048 : Shape := ⟨2, ![512, 2048]⟩
abbrev S512x6016 : Shape := ⟨2, ![512, 6016]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S2048x384 : Shape := ⟨2, ![2048, 384]⟩
abbrev S256x384 : Shape := ⟨2, ![256, 384]⟩
abbrev S256x128 : Shape := ⟨2, ![256, 128]⟩

abbrev nBuf : Space → Nat
  | .hbm => 7
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6016, .f32⟩
  | .hbm, ⟨3, _⟩ => ⟨S1x2048, .f32⟩
  | .hbm, ⟨4, _⟩ => ⟨S2048x6016, .bf16⟩
  | .hbm, ⟨5, _⟩ => ⟨S32768x6016, .bf16⟩
  | .hbm, ⟨6, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x6016, .bf16⟩
  | .local _ .vmem, ⟨4, _⟩ => ⟨S512x6016, .bf16⟩
  | .local _ .vmem, ⟨5, _⟩ => ⟨S512x6016, .bf16⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6016 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6016 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InprojRefIdeal.lean ====
abbrev S32768x2048 : Shape := ⟨2, ![32768, 2048]⟩
abbrev S2048 : Shape := ⟨1, ![2048]⟩
abbrev S2048x6016 : Shape := ⟨2, ![2048, 6016]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x6016 : Shape := ⟨2, ![32768, 6016]⟩
abbrev S32768x128 : Shape := ⟨2, ![32768, 128]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6016, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x6016, .f32⟩
  | .hbm, ⟨20, _⟩ => ⟨S32768x6016, .bf16⟩
  | .hbm, ⟨21, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Outproj.lean ====
abbrev S32768x2048 : Shape := ⟨2, ![32768, 2048]⟩
abbrev S32768x1024 : Shape := ⟨2, ![32768, 1024]⟩
abbrev S32768x512 : Shape := ⟨2, ![32768, 512]⟩
abbrev S32768x6016 : Shape := ⟨2, ![32768, 6016]⟩
abbrev S512 : Shape := ⟨1, ![512]⟩
abbrev S2048x2048 : Shape := ⟨2, ![2048, 2048]⟩
abbrev S_ : Shape := ⟨0, ![]⟩
abbrev S1x2048 : Shape := ⟨2, ![1, 2048]⟩
abbrev S16384x1024 : Shape := ⟨2, ![16384, 1024]⟩
abbrev S1x512 : Shape := ⟨2, ![1, 512]⟩
abbrev S512x2048 : Shape := ⟨2, ![512, 2048]⟩
abbrev S512x1024 : Shape := ⟨2, ![512, 1024]⟩
abbrev S512x512 : Shape := ⟨2, ![512, 512]⟩
abbrev S256x1024 : Shape := ⟨2, ![256, 1024]⟩
abbrev S4x256x128 : Shape := ⟨3, ![4, 256, 128]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1024x2048 : Shape := ⟨2, ![1024, 2048]⟩

abbrev nBuf : Space → Nat
  | .hbm => 22
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x6016, .f32⟩
  | .hbm, ⟨7, _⟩ => ⟨S512, .f32⟩
  | .hbm, ⟨8, _⟩ => ⟨S2048x2048, .f32⟩
  | .hbm, ⟨9, _⟩ => ⟨S32768x1024, .bf16⟩
  | .hbm, ⟨10, _⟩ => ⟨S32768x512, .bf16⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S32768x6016, .bf16⟩
  | .hbm, ⟨15, _⟩ => ⟨S2048x2048, .bf16⟩
  | .hbm, ⟨16, _⟩ => ⟨S_, .f32⟩
  | .hbm, ⟨17, _⟩ => ⟨S1x2048, .f32⟩
  | .hbm, ⟨18, _⟩ => ⟨S16384x1024, .bf16⟩
  | .hbm, ⟨19, _⟩ => ⟨S16384x1024, .bf16⟩
  | .hbm, ⟨20, _⟩ => ⟨S1x512, .f32⟩
  | .hbm, ⟨21, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S2048x2048, .bf16⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S4x256x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojRefIdeal.lean ====
abbrev S32768x2048 : Shape := ⟨2, ![32768, 2048]⟩
abbrev S32768x1024 : Shape := ⟨2, ![32768, 1024]⟩
abbrev S32768x512 : Shape := ⟨2, ![32768, 512]⟩
abbrev S32768x6016 : Shape := ⟨2, ![32768, 6016]⟩
abbrev S512 : Shape := ⟨1, ![512]⟩
abbrev S2048x2048 : Shape := ⟨2, ![2048, 2048]⟩
abbrev S1x512 : Shape := ⟨2, ![1, 512]⟩
abbrev S_ : Shape := ⟨0, ![]⟩
abbrev S32768 : Shape := ⟨1, ![32768]⟩
abbrev S32768x1 : Shape := ⟨2, ![32768, 1]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x6016, .f32⟩
  | .hbm, ⟨7, _⟩ => ⟨S512, .f32⟩
  | .hbm, ⟨8, _⟩ => ⟨S2048x2048, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S_, .f32⟩
  | .hbm, ⟨18, _⟩ => ⟨S32768x512, .f32⟩
  | .hbm, ⟨19, _⟩ => ⟨S32768x512, .f32⟩
  | .hbm, ⟨20, _⟩ => ⟨S_, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x512, .f32⟩
  | .hbm, ⟨37, _⟩ => ⟨S32768x512, .f32⟩
  | .hbm, ⟨38, _⟩ => ⟨S32768x2048, .f32⟩
  | .hbm, ⟨39, _⟩ => ⟨S32768x2048, .f32⟩
  | .hbm, ⟨40, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Last.lean ====
abbrev S32768x2048 : Shape := ⟨2, ![32768, 2048]⟩
abbrev S32768x1024 : Shape := ⟨2, ![32768, 1024]⟩
abbrev S32768x512 : Shape := ⟨2, ![32768, 512]⟩
abbrev S32768x6016 : Shape := ⟨2, ![32768, 6016]⟩
abbrev S512 : Shape := ⟨1, ![512]⟩
abbrev S2048x2048 : Shape := ⟨2, ![2048, 2048]⟩
abbrev S2048 : Shape := ⟨1, ![2048]⟩
abbrev S16384x1024 : Shape := ⟨2, ![16384, 1024]⟩
abbrev S1x512 : Shape := ⟨2, ![1, 512]⟩
abbrev S1x2048 : Shape := ⟨2, ![1, 2048]⟩
abbrev S512x2048 : Shape := ⟨2, ![512, 2048]⟩
abbrev S512x1024 : Shape := ⟨2, ![512, 1024]⟩
abbrev S512x512 : Shape := ⟨2, ![512, 512]⟩
abbrev S256x1024 : Shape := ⟨2, ![256, 1024]⟩
abbrev S4x256x128 : Shape := ⟨3, ![4, 256, 128]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1024x2048 : Shape := ⟨2, ![1024, 2048]⟩

abbrev nBuf : Space → Nat
  | .hbm => 22
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x6016, .f32⟩
  | .hbm, ⟨7, _⟩ => ⟨S512, .f32⟩
  | .hbm, ⟨8, _⟩ => ⟨S2048x2048, .f32⟩
  | .hbm, ⟨9, _⟩ => ⟨S2048, .f32⟩
  | .hbm, ⟨10, _⟩ => ⟨S32768x1024, .bf16⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S32768x512, .bf16⟩
  | .hbm, ⟨15, _⟩ => ⟨S32768x6016, .bf16⟩
  | .hbm, ⟨16, _⟩ => ⟨S2048x2048, .bf16⟩
  | .hbm, ⟨17, _⟩ => ⟨S16384x1024, .bf16⟩
  | .hbm, ⟨18, _⟩ => ⟨S16384x1024, .bf16⟩
  | .hbm, ⟨19, _⟩ => ⟨S1x512, .f32⟩
  | .hbm, ⟨20, _⟩ => ⟨S1x2048, .f32⟩
  | .hbm, ⟨21, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S2048x2048, .bf16⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S4x256x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LastIdeal.lean ====
abbrev S32768x2048 : Shape := ⟨2, ![32768, 2048]⟩
abbrev S32768x1024 : Shape := ⟨2, ![32768, 1024]⟩
abbrev S32768x512 : Shape := ⟨2, ![32768, 512]⟩
abbrev S32768x6016 : Shape := ⟨2, ![32768, 6016]⟩
abbrev S512 : Shape := ⟨1, ![512]⟩
abbrev S2048x2048 : Shape := ⟨2, ![2048, 2048]⟩
abbrev S2048 : Shape := ⟨1, ![2048]⟩
abbrev S16384x1024 : Shape := ⟨2, ![16384, 1024]⟩
abbrev S1x512 : Shape := ⟨2, ![1, 512]⟩
abbrev S1x2048 : Shape := ⟨2, ![1, 2048]⟩
abbrev S512x2048 : Shape := ⟨2, ![512, 2048]⟩
abbrev S512x1024 : Shape := ⟨2, ![512, 1024]⟩
abbrev S512x512 : Shape := ⟨2, ![512, 512]⟩
abbrev S256x1024 : Shape := ⟨2, ![256, 1024]⟩
abbrev S4x256x128 : Shape := ⟨3, ![4, 256, 128]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1024x2048 : Shape := ⟨2, ![1024, 2048]⟩

abbrev nBuf : Space → Nat
  | .hbm => 22
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x6016, .f32⟩
  | .hbm, ⟨7, _⟩ => ⟨S512, .f32⟩
  | .hbm, ⟨8, _⟩ => ⟨S2048x2048, .f32⟩
  | .hbm, ⟨9, _⟩ => ⟨S2048, .f32⟩
  | .hbm, ⟨10, _⟩ => ⟨S32768x1024, .bf16⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S32768x512, .bf16⟩
  | .hbm, ⟨15, _⟩ => ⟨S32768x6016, .bf16⟩
  | .hbm, ⟨16, _⟩ => ⟨S2048x2048, .bf16⟩
  | .hbm, ⟨17, _⟩ => ⟨S16384x1024, .bf16⟩
  | .hbm, ⟨18, _⟩ => ⟨S16384x1024, .bf16⟩
  | .hbm, ⟨19, _⟩ => ⟨S1x512, .f32⟩
  | .hbm, ⟨20, _⟩ => ⟨S1x2048, .f32⟩
  | .hbm, ⟨21, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S2048x2048, .bf16⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S4x256x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LastRefIdeal.lean ====
abbrev S32768x2048 : Shape := ⟨2, ![32768, 2048]⟩
abbrev S32768x1024 : Shape := ⟨2, ![32768, 1024]⟩
abbrev S32768x512 : Shape := ⟨2, ![32768, 512]⟩
abbrev S32768x6016 : Shape := ⟨2, ![32768, 6016]⟩
abbrev S512 : Shape := ⟨1, ![512]⟩
abbrev S2048x2048 : Shape := ⟨2, ![2048, 2048]⟩
abbrev S2048 : Shape := ⟨1, ![2048]⟩
abbrev S1x512 : Shape := ⟨2, ![1, 512]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x6016, .f32⟩
  | .hbm, ⟨7, _⟩ => ⟨S512, .f32⟩
  | .hbm, ⟨8, _⟩ => ⟨S2048x2048, .f32⟩
  | .hbm, ⟨9, _⟩ => ⟨S2048, .f32⟩
  | .hbm, ⟨10, _⟩ => ⟨S1x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x512, .f32⟩
  | .hbm, ⟨38, _⟩ => ⟨S32768x512, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x2048, .f32⟩
  | .hbm, ⟨54, _⟩ => ⟨S32768x2048, .f32⟩
  | .hbm, ⟨55, _⟩ => ⟨S1x2048, .f32⟩
  | .hbm, ⟨56, _⟩ => ⟨S32768x2048, .f32⟩
  | .hbm, ⟨57, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Prompt.lean ====
abbrev S16384x2048 : Shape := ⟨2, ![16384, 2048]⟩
abbrev S16384x1024 : Shape := ⟨2, ![16384, 1024]⟩
abbrev S16384x512 : Shape := ⟨2, ![16384, 512]⟩
abbrev S16384x6016 : Shape := ⟨2, ![16384, 6016]⟩
abbrev S512 : Shape := ⟨1, ![512]⟩
abbrev S2048x2048 : Shape := ⟨2, ![2048, 2048]⟩
abbrev S2048 : Shape := ⟨1, ![2048]⟩
abbrev S8192x1024 : Shape := ⟨2, ![8192, 1024]⟩
abbrev S1x512 : Shape := ⟨2, ![1, 512]⟩
abbrev S1x2048 : Shape := ⟨2, ![1, 2048]⟩
abbrev S512x2048 : Shape := ⟨2, ![512, 2048]⟩
abbrev S512x1024 : Shape := ⟨2, ![512, 1024]⟩
abbrev S512x512 : Shape := ⟨2, ![512, 512]⟩
abbrev S256x1024 : Shape := ⟨2, ![256, 1024]⟩
abbrev S4x256x128 : Shape := ⟨3, ![4, 256, 128]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1024x2048 : Shape := ⟨2, ![1024, 2048]⟩

abbrev nBuf : Space → Nat
  | .hbm => 22
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x6016, .f32⟩
  | .hbm, ⟨7, _⟩ => ⟨S512, .f32⟩
  | .hbm, ⟨8, _⟩ => ⟨S2048x2048, .f32⟩
  | .hbm, ⟨9, _⟩ => ⟨S2048, .f32⟩
  | .hbm, ⟨10, _⟩ => ⟨S16384x1024, .bf16⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x512, .bf16⟩
  | .hbm, ⟨15, _⟩ => ⟨S16384x6016, .bf16⟩
  | .hbm, ⟨16, _⟩ => ⟨S2048x2048, .bf16⟩
  | .hbm, ⟨17, _⟩ => ⟨S8192x1024, .bf16⟩
  | .hbm, ⟨18, _⟩ => ⟨S8192x1024, .bf16⟩
  | .hbm, ⟨19, _⟩ => ⟨S1x512, .f32⟩
  | .hbm, ⟨20, _⟩ => ⟨S1x2048, .f32⟩
  | .hbm, ⟨21, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S2048x2048, .bf16⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S4x256x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PromptRefIdeal.lean ====
abbrev S16384x2048 : Shape := ⟨2, ![16384, 2048]⟩
abbrev S16384x1024 : Shape := ⟨2, ![16384, 1024]⟩
abbrev S16384x512 : Shape := ⟨2, ![16384, 512]⟩
abbrev S16384x6016 : Shape := ⟨2, ![16384, 6016]⟩
abbrev S512 : Shape := ⟨1, ![512]⟩
abbrev S2048x2048 : Shape := ⟨2, ![2048, 2048]⟩
abbrev S2048 : Shape := ⟨1, ![2048]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x6016, .f32⟩
  | .hbm, ⟨7, _⟩ => ⟨S512, .f32⟩
  | .hbm, ⟨8, _⟩ => ⟨S2048x2048, .f32⟩
  | .hbm, ⟨9, _⟩ => ⟨S2048, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x512, .f32⟩
  | .hbm, ⟨38, _⟩ => ⟨S16384x512, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x2048, .f32⟩
  | .hbm, ⟨54, _⟩ => ⟨S16384x2048, .f32⟩
  | .hbm, ⟨55, _⟩ => ⟨S1x2048, .f32⟩
  | .hbm, ⟨56, _⟩ => ⟨S16384x2048, .f32⟩
  | .hbm, ⟨57, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Shortconv.lean ====
abbrev S8x4096x6016 : Shape := ⟨3, ![8, 4096, 6016]⟩
abbrev S3x1536 : Shape := ⟨2, ![3, 1536]⟩
abbrev S1536 : Shape := ⟨1, ![1536]⟩
abbrev S_ : Shape := ⟨0, ![]⟩
abbrev S5x1536 : Shape := ⟨2, ![5, 1536]⟩
abbrev S8x1536 : Shape := ⟨2, ![8, 1536]⟩
abbrev S1x1536 : Shape := ⟨2, ![1, 1536]⟩
abbrev S8x2048x1024 : Shape := ⟨3, ![8, 2048, 1024]⟩
abbrev S8x4096x512 : Shape := ⟨3, ![8, 4096, 512]⟩
abbrev S1x1024x1536 : Shape := ⟨3, ![1, 1024, 1536]⟩
abbrev S1x16x1536 : Shape := ⟨3, ![1, 16, 1536]⟩
abbrev S1x512x1024 : Shape := ⟨3, ![1, 512, 1024]⟩
abbrev S1x1024x512 : Shape := ⟨3, ![1, 1024, 512]⟩
abbrev S1056x1536 : Shape := ⟨2, ![1056, 1536]⟩
abbrev S4x1024x128 : Shape := ⟨3, ![4, 1024, 128]⟩
abbrev S16x1536 : Shape := ⟨2, ![16, 1536]⟩
abbrev S1024x1536 : Shape := ⟨2, ![1024, 1536]⟩
abbrev S128x160 : Shape := ⟨2, ![128, 160]⟩
abbrev S256x160 : Shape := ⟨2, ![256, 160]⟩
abbrev S160x512 : Shape := ⟨2, ![160, 512]⟩
abbrev S256x512 : Shape := ⟨2, ![256, 512]⟩
abbrev S128x512 : Shape := ⟨2, ![128, 512]⟩
abbrev S1x512 : Shape := ⟨2, ![1, 512]⟩
abbrev S1024x512 : Shape := ⟨2, ![1024, 512]⟩
abbrev S1024x128 : Shape := ⟨2, ![1024, 128]⟩
abbrev S1x1024x128 : Shape := ⟨3, ![1, 1024, 128]⟩
abbrev S1x512x128 : Shape := ⟨3, ![1, 512, 128]⟩
abbrev S512x128 : Shape := ⟨2, ![512, 128]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8x4096x6016, .f32⟩
  | .hbm, ⟨1, _⟩ => ⟨S3x1536, .f32⟩
  | .hbm, ⟨2, _⟩ => ⟨S1536, .f32⟩
  | .hbm, ⟨3, _⟩ => ⟨S8x4096x6016, .bf16⟩
  | .hbm, ⟨4, _⟩ => ⟨S_, .f32⟩
  | .hbm, ⟨5, _⟩ => ⟨S5x1536, .f32⟩
  | .hbm, ⟨6, _⟩ => ⟨S8x1536, .f32⟩
  | .hbm, ⟨7, _⟩ => ⟨S1x1536, .f32⟩
  | .hbm, ⟨8, _⟩ => ⟨S8x2048x1024, .bf16⟩
  | .hbm, ⟨9, _⟩ => ⟨S8x4096x512, .bf16⟩
  | .local _ .vmem, ⟨0, _⟩ => ⟨S1x1024x1536, .bf16⟩
  | .local _ .vmem, ⟨1, _⟩ => ⟨S1x1024x1536, .bf16⟩
  | .local _ .vmem, ⟨2, _⟩ => ⟨S1x16x1536, .bf16⟩
  | .local _ .vmem, ⟨3, _⟩ => ⟨S1x16x1536, .bf16⟩
  | .local _ .vmem, ⟨4, _⟩ => ⟨S1x16x1536, .bf16⟩
  | .local _ .vmem, ⟨5, _⟩ => ⟨S1x16x1536, .bf16⟩
  | .local _ .vmem, ⟨6, _⟩ => ⟨S8x1536, .f32⟩
  | .local _ .vmem, ⟨7, _⟩ => ⟨S1x1536, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1024x512, .bf16⟩
  | .local _ .vmem, ⟨11, _⟩ => ⟨S1x1024x512, .bf16⟩
  | .local _ .vmem, ⟨12, _⟩ => ⟨S1056x1536, .bf16⟩
  | .local _ .vmem, ⟨13, _⟩ => ⟨S4x1024x128, .f32⟩
  | _, _ => ⟨S8x4096x6016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c1_i32_0 : BitVec 32 := 1#32
  let c0_i32 : BitVec 32 := 0#32
  ![arg0.toNat, v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ShortconvRefIdeal.lean ====
abbrev S8x4096x6016 : Shape := ⟨3, ![8, 4096, 6016]⟩
abbrev S3x1536 : Shape := ⟨2, ![3, 1536]⟩
abbrev S1536 : Shape := ⟨1, ![1536]⟩
abbrev S8x4096x1536 : Shape := ⟨3, ![8, 4096, 1536]⟩
abbrev S_ : Shape := ⟨0, ![]⟩
abbrev S8x4098x1536 : Shape := ⟨3, ![8, 4098, 1536]⟩
abbrev S1x1536 : Shape := ⟨2, ![1, 1536]⟩
abbrev S1x1x1536 : Shape := ⟨3, ![1, 1, 1536]⟩
abbrev S8x4096x512 : Shape := ⟨3, ![8, 4096, 512]⟩
abbrev S8x2048x1024 : Shape := ⟨3, ![8, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x6016, .f32⟩
  | .hbm, ⟨1, _⟩ => ⟨S3x1536, .f32⟩
  | .hbm, ⟨2, _⟩ => ⟨S1536, .f32⟩
  | .hbm, ⟨3, _⟩ => ⟨S8x4096x1536, .f32⟩
  | .hbm, ⟨4, _⟩ => ⟨S_, .i32⟩
  | .hbm, ⟨5, _⟩ => ⟨S_, .f32⟩
  | .hbm, ⟨6, _⟩ => ⟨S8x4098x1536, .f32⟩
  | .hbm, ⟨7, _⟩ => ⟨S8x4096x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S8x4096x1536, .f32⟩
  | .hbm, ⟨12, _⟩ => ⟨S8x4096x1536, .f32⟩
  | .hbm, ⟨13, _⟩ => ⟨S8x4096x1536, .f32⟩
  | .hbm, ⟨14, _⟩ => ⟨S1x1536, .f32⟩
  | .hbm, ⟨15, _⟩ => ⟨S1536, .f32⟩
  | .hbm, ⟨16, _⟩ => ⟨S1x1x1536, .f32⟩
  | .hbm, ⟨17, _⟩ => ⟨S8x4096x1536, .f32⟩
  | .hbm, ⟨18, _⟩ => ⟨S8x4096x1536, .f32⟩
  | .hbm, ⟨19, _⟩ => ⟨S8x4096x1536, .f32⟩
  | .hbm, ⟨20, _⟩ => ⟨S8x4096x1536, .f32⟩
  | .hbm, ⟨21, _⟩ => ⟨S1x1536, .f32⟩
  | .hbm, ⟨22, _⟩ => ⟨S1536, .f32⟩
  | .hbm, ⟨23, _⟩ => ⟨S1x1x1536, .f32⟩
  | .hbm, ⟨24, _⟩ => ⟨S8x4096x1536, .f32⟩
  | .hbm, ⟨25, _⟩ => ⟨S8x4096x1536, .f32⟩
  | .hbm, ⟨26, _⟩ => ⟨S8x4096x1536, .f32⟩
  | .hbm, ⟨27, _⟩ => ⟨S1x1x1536, .f32⟩
  | .hbm, ⟨28, _⟩ => ⟨S8x4096x1536, .f32⟩
  | .hbm, ⟨29, _⟩ => ⟨S8x4096x1536, .f32⟩
  | .hbm, ⟨30, _⟩ => ⟨S8x4096x512, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S8x2048x1024, .f32⟩
  | .hbm, ⟨35, _⟩ => ⟨S8x2048x1024, .bf16⟩
  | .hbm, ⟨36, _⟩ => ⟨S8x4096x512, .bf16⟩
  | _, _ => ⟨S8x4096x6016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.RefFrames.lean ====
module

public import proofs.«01_k».proof.Defs
public import proofs.«01_k».proof.Proof.Gen.ReferenceIdeal.Run
public import proofs.«01_k».proof.Proof.Gen.InprojRefIdeal.Run
public import proofs.«01_k».proof.Proof.Gen.OutprojRefIdeal.Run
public import proofs.«01_k».proof.Proof.Gen.LastRefIdeal.Run
public import proofs.«01_k».proof.Proof.Gen.PromptRefIdeal.Run
public import proofs.«01_k».proof.Proof.Gen.ShortconvRefIdeal.Run

/-! # The references run and leave their arguments

A reference is a line of host operations: its run is the generated one, and it declares no semaphore. -/

@[expose] public section

noncomputable section

namespace Cert.RefFrames

open Idealize.ShloMosaic Idealize.SL.Sem

theorem attention : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

theorem inproj : Cert.quiescent_InprojRefIdeal (hInprojRefIdeal := Cert.InprojRefIdeal.Gen.facts) := fun m g _ =>
  (θ_run Cert.InprojRefIdeal.defs _ _).mono (fun r h => ⟨fun c => (h c).2.2, sem_eq_zero_of_no_sems (by decide) r.2⟩)
    (Cert.InprojRefIdeal.Value.run m g)

theorem outproj : Cert.quiescent_OutprojRefIdeal (hOutprojRefIdeal := Cert.OutprojRefIdeal.Gen.facts) := fun m g _ =>
  (θ_run Cert.OutprojRefIdeal.defs _ _).mono (fun r h => ⟨fun c => (h c).2, sem_eq_zero_of_no_sems (by decide) r.2⟩)
    (Cert.OutprojRefIdeal.Value.run m g)

theorem last : Cert.quiescent_LastRefIdeal (hLastRefIdeal := Cert.LastRefIdeal.Gen.facts) := fun m g _ =>
  (θ_run Cert.LastRefIdeal.defs _ _).mono (fun r h => ⟨fun c => (h c).2, sem_eq_zero_of_no_sems (by decide) r.2⟩)
    (Cert.LastRefIdeal.Value.run m g)

theorem prompt : Cert.quiescent_PromptRefIdeal (hPromptRefIdeal := Cert.PromptRefIdeal.Gen.facts) := fun m g _ =>
  (θ_run Cert.PromptRefIdeal.defs _ _).mono (fun r h => ⟨fun c => (h c).2, sem_eq_zero_of_no_sems (by decide) r.2⟩)
    (Cert.PromptRefIdeal.Value.run m g)

theorem shortconv : Cert.quiescent_ShortconvRefIdeal (hShortconvRefIdeal := Cert.ShortconvRefIdeal.Gen.facts) := fun m g _ =>
  (θ_run Cert.ShortconvRefIdeal.defs _ _).mono (fun r h => ⟨fun c => (h c).2.2, sem_eq_zero_of_no_sems (by decide) r.2⟩)
    (Cert.ShortconvRefIdeal.Value.run m g)

end Cert.RefFrames

end
-- ==== Proof.Layout.lean ====
module

public import Idealize.ShloMosaic.Lib.ValueIdx
public import Idealize.ShloMosaic.Lib.MatmulPlain
public import Idealize.ShloMosaic.Lib.Pipeline.Value
public import Idealize.ShloMosaic.Lib.Pipeline.ValueKit.Tiles

/-! # Layout operations and row sums read at an index

Small facts, for any extents, that the three kernels share: a column or a row spread over a matrix, a vector set up as a
column, the sum and the maximum along a row, a matrix product at an index, the index of a rectangle. -/

@[expose] public section

noncomputable section

namespace Cert.Layout

open Idealize.ShloMosaic Idealize.ShloMosaic.ValueIdx

variable {α : Type}

/-- A column spread over the columns of a matrix reads its row. -/
theorem spread_col {R C : Nat} (x : (⟨2, ![R, 1]⟩ : Shape).Idx → α) (h : (⟨2, ![R, 1]⟩ : Shape).Broadcasts ⟨2, ![R, C]⟩)
    (j : (⟨2, ![R, C]⟩ : Shape).Idx) : broadcastTo ⟨2, ![R, C]⟩ x h j = x (ix2 (j 0) 0) :=
  broadcastTo_apply x h j (ix2 (j 0) 0) fun a => by
    match a with
    | ⟨0, _⟩ =>
      show (j 0).val = if R = 1 then 0 else (j 0).val
      split
      · have := (j 0).isLt; simp at this; omega
      · rfl
    | ⟨1, _⟩ => rfl

/-- A row spread over the rows of a matrix reads its column. -/
theorem spread_row {R C : Nat} (x : (⟨2, ![1, C]⟩ : Shape).Idx → α) (h : (⟨2, ![1, C]⟩ : Shape).Broadcasts ⟨2, ![R, C]⟩)
    (j : (⟨2, ![R, C]⟩ : Shape).Idx) : broadcastTo ⟨2, ![R, C]⟩ x h j = x (ix2 0 (j 1)) :=
  broadcastTo_apply x h j (ix2 0 (j 1)) fun a => by
    match a with
    | ⟨0, _⟩ => rfl
    | ⟨1, _⟩ =>
      show (j 1).val = if C = 1 then 0 else (j 1).val
      split
      · have := (j 1).isLt; simp at this; omega
      · rfl

/-- A vector set up as a column. -/
theorem as_col {R : Nat} (x : (⟨1, ![R]⟩ : Shape).Idx → α) (h : (⟨1, ![R]⟩ : Shape).ShapeCasts ⟨2, ![R, 1]⟩)
    (r : Fin R) (c : Fin 1) : shapeCast ⟨2, ![R, 1]⟩ x h (ix2 r c) = x (ix1 r) :=
  shapeCast_apply x h _ _ (by
    show Shape.rankPi ![R] (ix1 r) = Shape.rankPi ![R, 1] (ix2 r c)
    simp [Shape.rankPi, Shape.prodPi, ix1, ix2])

/-- The sum along the rows of a matrix. -/
theorem row_sum {R C : Nat} {φ : FTy} (src : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (r : Fin R) :
    multiReduction .add [1] ⟨1, ![R]⟩ src acc h hφ hacc (ix1 r) = ∑ k : Fin C, src (ix2 r k) := by
  rw [Ideal.multiReduction_add_single]
  refine Finset.sum_congr rfl fun k _ => congrArg src ?_
  funext a; apply Fin.ext
  match a with
  | ⟨0, _⟩ => rfl
  | ⟨1, _⟩ => rfl

/-- A product of matrices into zeros, at an index. -/
theorem product {M K N : Nat} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

end Cert.Layout

end
-- ==== Proof.AttnBody.lean ====
module

public import proofs.«01_k».proof.Proof.Gen.KernelIdeal.Value
public import proofs.«01_k».proof.Proof.Layout
public import Idealize.ShloMosaic.Lib.IdealHost

/-! # What one grid point of the attention computes, block by block

A grid point holds 2048 tokens and takes them in 16 blocks of 128. The body is unrolled; every block is the same
function (`block`) of its queries, its band of 384 keys and values, its bias and sinks, and its gate. -/

@[expose] public section

set_option maxRecDepth 65536

noncomputable section

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx

/-! ## One block's values -/

/-- One head's output for all 128 lanes, keys down and queries across: scores `s`, sink `sk`, values `vt`. -/
def head (vt : FVec Ideal S128x384 .bf16) (s : FVec Ideal S384x128 .f32) (sk : FVec Ideal S1x128 .f32) : FVec Ideal S128x128 .f32 :=
  have m : FVec Ideal S1x128 .f32 := maximumf (shapeCast S1x128 (multiReduction .maximumf [0] S128 s 0xFF800000#32 reduces_S384x128_S128 (.inl rfl) rfl) shapeCasts_S128_S1x128) sk
  have p : FVec Ideal S384x128 .f32 := exp2 (subf s (broadcastTo S384x128 m broadcasts_S1x128_S384x128))
  have den : FVec Ideal S1x128 .f32 := addf (shapeCast S1x128 (multiReduction .add [0] S128 p 0x00000000#32 reduces_S384x128_S128 (.inl rfl) rfl) shapeCasts_S128_S1x128) (exp2 (subf sk m))
  mulf (matmul dot_S128x384_S384x128_S128x128_1_0_0_1_n_n none vt (truncf .bf16 p bitsLt_bf16_f32) (constant S128x128 .f32 0x00000000#32))
    (broadcastTo S128x128 (divf (broadcast S1x128 (Scalar.ofBits .f32 0x3F800000#32)) den) broadcasts_S1x128_S128x128)

/-- The scores of 128 queries with the 768 rows of keys, those of the first group's lanes above those of the second's. -/
def dots (kst : FVec Ideal S768x128 .bf16) (q : FVec Ideal S128x128 .bf16) : FVec Ideal S768x128 .f32 :=
  matmul dot_S768x128_S128x128_S768x128_1_1_0_0_n_n none kst q (constant S768x128 .f32 0x00000000#32)

/-- A pair of heads, one of each group, in the two halves of 128 lanes. -/
def pair (kst : FVec Ideal S768x128 .bf16) (vt : FVec Ideal S128x384 .bf16) (q : FVec Ideal S128x128 .bf16)
    (b0 b1 : Vec Ideal S1x1x384x128 .f32) (s0 s1 : Vec Ideal S1x128 .f32) : FVec Ideal S128x128 .f32 :=
  transpose S128x128 [1, 0]
    (select k0_pay24
      (head vt (addf (extractStridedSlice S384x128 ![0, 0] (dots kst q) slices_S768x128_o0_0_S384x128) (shapeCast S384x128 b0 shapeCasts_S1x1x384x128_S384x128)) (shapeCast S1x128 s0 shapeCasts_S1x128_S1x128))
      (head vt (addf (extractStridedSlice S384x128 ![384, 0] (dots kst q) slices_S768x128_o384_0_S384x128) (shapeCast S384x128 b1 shapeCasts_S1x1x384x128_S384x128)) (shapeCast S1x128 s1 shapeCasts_S1x128_S1x128)))
    transposes_S128x128_p1_0_S128x128

/-- The four pairs side by side. -/
def heads (q : FVec Ideal S128x512 .bf16) (kst : FVec Ideal S768x128 .bf16) (vt : FVec Ideal S128x384 .bf16)
    (b : Fin 8 → Vec Ideal S1x1x384x128 .f32) (s : Fin 8 → Vec Ideal S1x128 .f32) : FVec Ideal S128x512 .f32 :=
  concatenate S128x512 1
    [⟨S128x128, pair kst vt (extractStridedSlice S128x128 ![0, 0] q slices_S128x512_o0_0_S128x128) (b 0) (b 4) (s 0) (s 4)⟩,
     ⟨S128x128, pair kst vt (extractStridedSlice S128x128 ![0, 128] q slices_S128x512_o0_128_S128x128) (b 1) (b 5) (s 1) (s 5)⟩,
     ⟨S128x128, pair kst vt (extractStridedSlice S128x128 ![0, 256] q slices_S128x512_o0_256_S128x128) (b 2) (b 6) (s 2) (s 6)⟩,
     ⟨S128x128, pair kst vt (extractStridedSlice S128x128 ![0, 384] q slices_S128x512_o0_384_S128x128) (b 3) (b 7) (s 3) (s 7)⟩]
    concatenates_S128x128_S128x128_S128x128_S128x128_S128x512_d1

/-- The gate and the norm of 128 rows. -/
def gated (o g : FVec Ideal S128x512 .f32) : FVec Ideal S1x128x512 .bf16 := k0_pay52 o g

/-- One block: 128 queries, their keys in two copies, their values, biases, sinks and gate. -/
def block (q : Vec Ideal S1x128x512 .bf16) (klo khi : Vec Ideal S384x128 .bf16) (va vb vc : Vec Ideal S1x128x128 .bf16)
    (b : Fin 8 → Vec Ideal S1x1x384x128 .f32) (s : Fin 8 → Vec Ideal S1x128 .f32) (g : Vec Ideal S1x128x512 .bf16) : FVec Ideal S1x128x512 .bf16 :=
  gated (heads (k0_pay25 q) (k0_pay26 klo khi) (k0_pay27 va vb vc) b s) (k0_pay51 g)

/-! ## The scratch buffers -/

/-- Token row `r` of the band: the block before, the grid point's tokens, the block after. -/
def band (xp : Vec Ideal S1x128x128 .bf16) (xc : Vec Ideal S1x2048x128 .bf16) (xn : Vec Ideal S1x128x128 .bf16) (r : Fin 2304) (l : Fin 128) : EReal :=
  if h : r.val < 128 then xp (ix3 0 ⟨r.val, h⟩ l)
  else if h' : r.val < 2176 then xc (ix3 0 ⟨r.val - 128, by omega⟩ l)
  else xn (ix3 0 ⟨r.val - 2176, by omega⟩ l)

/-- The keys with the lanes of the second group cleared, -/
def keysLo (xp : Vec Ideal S1x128x128 .bf16) (xc : Vec Ideal S1x2048x128 .bf16) (xn : Vec Ideal S1x128x128 .bf16) (y : S2304x128.Idx) : EReal :=
  if (y 1).val < 64 then band xp xc xn (y 0) (y 1) else 0

/-- and with those of the first group cleared. -/
def keysHi (xp : Vec Ideal S1x128x128 .bf16) (xc : Vec Ideal S1x2048x128 .bf16) (xn : Vec Ideal S1x128x128 .bf16) (y : S2304x128.Idx) : EReal :=
  if (y 1).val < 64 then 0 else band xp xc xn (y 0) (y 1)

/-- The values, each tile of 128 tokens transposed. -/
def valuesT (xp : Vec Ideal S1x128x128 .bf16) (xc : Vec Ideal S1x2048x128 .bf16) (xn : Vec Ideal S1x128x128 .bf16) (y : S18x128x128.Idx) : EReal :=
  band xp xc xn ⟨(y 0).val * 128 + (y 2).val, by
    have h0 : (y 0).val < 18 := (y 0).isLt
    have h2 : (y 2).val < 128 := (y 2).isLt
    omega⟩ (y 1)

theorem tile_inb (n : Nat) (hn : n < 18) (a : Fin 3) : (![n, 0, 0] : Fin 3 → Nat) a + (![1, 128, 128] : Fin 3 → Nat) a ≤ S18x128x128.size a := by
  match a with
  | ⟨0, _⟩ => show n + 1 ≤ 18; omega
  | ⟨1, _⟩ => show 0 + 128 ≤ 128; omega
  | ⟨2, _⟩ => show 0 + 128 ≤ 128; omega

/-! What the scratch buffers hold, row by row. -/

section Rows

variable (xp : Vec Ideal S1x128x128 .bf16) (xc : Vec Ideal S1x2048x128 .bf16) (xn : Vec Ideal S1x128x128 .bf16)

theorem band_prev (r : Fin 2304) (l : Fin 128) (i : Fin 128) (h : r.val = i.val) : band xp xc xn r l = xp (ix3 0 i l) := by
  unfold band
  rw [dif_pos (show r.val < 128 by omega)]
  exact congrArg (fun i => xp (ix3 0 i l)) (Fin.ext h)

theorem band_cur (r : Fin 2304) (l : Fin 128) (i : Fin 2048) (h : r.val = 128 + i.val) : band xp xc xn r l = xc (ix3 0 i l) := by
  unfold band
  rw [dif_neg (show ¬ r.val < 128 by omega), dif_pos (show r.val < 2176 by omega)]
  exact congrArg (fun i => xc (ix3 0 i l)) (Fin.ext (show r.val - 128 = i.val by omega))

theorem band_next (r : Fin 2304) (l : Fin 128) (i : Fin 128) (h : r.val = 2176 + i.val) : band xp xc xn r l = xn (ix3 0 i l) := by
  unfold band
  rw [dif_neg (show ¬ r.val < 128 by omega), dif_neg (show ¬ r.val < 2176 by omega)]
  exact congrArg (fun i => xn (ix3 0 i l)) (Fin.ext (show r.val - 2176 = i.val by omega))

/-- A tile of the values, transposed. -/
def tile (v : Vec Ideal S1x128x128 .bf16) : FVec Ideal S1x128x128 .bf16 := k0_pay6 v

theorem tile_apply (v : Vec Ideal S1x128x128 .bf16) (x : S1x128x128.Idx) : tile v x = v (ix3 0 (x 2) (x 1)) := by
  unfold tile k0_pay6
  refine (shapeCast_addUnit_apply ![128, 128] _ _ x).trans ?_
  refine (transpose_apply [1, 0] (shapeCast S128x128 v shapeCasts_S1x128x128_S128x128) transposes_S128x128_p1_0_S128x128 (fun a => x a.succ) (ix2 (x 2) (x 1)) (fun b => match b with
    | ⟨0, _⟩ => rfl
    | ⟨1, _⟩ => rfl)).trans ?_
  refine (shapeCast_dropUnit_apply ![128, 128] v _ _).trans (congrArg v ?_)
  funext a; match a with
  | ⟨0, _⟩ => rfl
  | ⟨1, _⟩ => rfl
  | ⟨2, _⟩ => rfl

theorem whole_tile (v : Vec Ideal S1x128x128 .bf16) (x : S1x128x128.Idx) :
    tile (View.ld v (Rect.unit ![0, 0, 0] ![1, 128, 128] inb_S1x128x128_S1x128x128_0_0_0)) x = v (ix3 0 (x 2) (x 1)) := by
  rw [tile_apply]
  refine congrArg v (funext fun a => Fin.ext ?_)
  rw [Rect.idx_unit_val]
  match a with
  | ⟨0, _⟩ => rfl
  | ⟨1, _⟩ => exact Nat.zero_add _
  | ⟨2, _⟩ => exact Nat.zero_add _

/-- Where a tile's element goes. -/
theorem tile_place (t : Nat) (inb : ∀ a, (![t, 0, 0] : Fin 3 → Nat) a + (![1, 128, 128] : Fin 3 → Nat) a ≤ S18x128x128.size a) (x : S1x128x128.Idx) :
    valuesT xp xc xn ((Rect.unit (s := S18x128x128) ![t, 0, 0] ![1, 128, 128] inb).emb x)
      = band xp xc xn ⟨t * 128 + (x 2).val, by
          have h0 : t + 1 ≤ 18 := inb 0
          have h2 : (x 2).val < 128 := (x 2).isLt
          omega⟩ (x 1) := by
  have x0 : (x 0).val < 1 := (x 0).isLt
  have e : ∀ a, (((Rect.unit (s := S18x128x128) ![t, 0, 0] ![1, 128, 128] inb).emb x) a : Nat) = (![t, 0, 0] : Fin 3 → Nat) a + (x a).val :=
    fun a => Rect.idx_unit_val _ _ _ _ _
  have e0 := e 0
  have e1 := e 1
  have e2 := e 2
  unfold valuesT
  refine congrArg₂ (band xp xc xn) (Fin.ext ?_) (Fin.ext ?_)
  · show (((Rect.unit (s := S18x128x128) ![t, 0, 0] ![1, 128, 128] inb).emb x) 0 : Nat) * 128 + (((Rect.unit (s := S18x128x128) ![t, 0, 0] ![1, 128, 128] inb).emb x) 2 : Nat) = t * 128 + (x 2).val
    rw [e0, e2]; show (t + (x 0).val) * 128 + (0 + (x 2).val) = _
    rw [show (x 0).val = 0 by omega]; omega
  · show (((Rect.unit (s := S18x128x128) ![t, 0, 0] ![1, 128, 128] inb).emb x) 1 : Nat) = (x 1).val
    rw [e1]; exact Nat.zero_add _

theorem tile_prev (inb : ∀ a, (![0, 0, 0] : Fin 3 → Nat) a + (![1, 128, 128] : Fin 3 → Nat) a ≤ S18x128x128.size a) (x : S1x128x128.Idx) :
    tile (View.ld xp (Rect.unit ![0, 0, 0] ![1, 128, 128] inb_S1x128x128_S1x128x128_0_0_0)) x
      = valuesT xp xc xn ((Rect.unit (s := S18x128x128) ![0, 0, 0] ![1, 128, 128] inb).emb x) :=
  (whole_tile xp x).trans ((band_prev xp xc xn _ _ _ (show 0 * 128 + (x 2).val = (x 2).val by omega)).symm.trans (tile_place xp xc xn 0 inb x).symm)

theorem tile_next (inb : ∀ a, (![17, 0, 0] : Fin 3 → Nat) a + (![1, 128, 128] : Fin 3 → Nat) a ≤ S18x128x128.size a) (x : S1x128x128.Idx) :
    tile (View.ld xn (Rect.unit ![0, 0, 0] ![1, 128, 128] inb_S1x128x128_S1x128x128_0_0_0)) x
      = valuesT xp xc xn ((Rect.unit (s := S18x128x128) ![17, 0, 0] ![1, 128, 128] inb).emb x) :=
  (whole_tile xn x).trans ((band_next xp xc xn _ _ _ (show 17 * 128 + (x 2).val = 2176 + (x 2).val by omega)).symm.trans (tile_place xp xc xn 17 inb x).symm)

theorem tile_cur (t o : Nat) (ho : t * 128 = 128 + o)
    (inb : ∀ a, (![0, o, 0] : Fin 3 → Nat) a + (![1, 128, 128] : Fin 3 → Nat) a ≤ S1x2048x128.size a)
    (inb' : ∀ a, (![t, 0, 0] : Fin 3 → Nat) a + (![1, 128, 128] : Fin 3 → Nat) a ≤ S18x128x128.size a) (x : S1x128x128.Idx) :
    tile (View.ld xc (Rect.unit ![0, o, 0] ![1, 128, 128] inb)) x
      = valuesT xp xc xn ((Rect.unit (s := S18x128x128) ![t, 0, 0] ![1, 128, 128] inb').emb x) := by
  have hx : (x 2).val < 128 := (x 2).isLt
  have h1 : o + 128 ≤ 2048 := inb 1
  refine Eq.trans ?_ ((band_cur xp xc xn _ _ ⟨o + (x 2).val, by omega⟩ (show t * 128 + (x 2).val = 128 + (o + (x 2).val) by omega)).symm.trans (tile_place xp xc xn t inb' x).symm)
  rw [tile_apply]
  refine congrArg xc (funext fun a => Fin.ext ?_)
  rw [Rect.idx_unit_val]
  match a with
  | ⟨0, _⟩ => rfl
  | ⟨1, _⟩ => rfl
  | ⟨2, _⟩ => exact Nat.zero_add _

theorem whole_load {R : Nat} (v : Vec Ideal ⟨3, ![1, R, 128]⟩ .bf16) (inb : ∀ a, (![0, 0, 0] : Fin 3 → Nat) a + (![1, R, 128] : Fin 3 → Nat) a ≤ (⟨3, ![1, R, 128]⟩ : Shape).size a)
    (h : (⟨3, ![1, R, 128]⟩ : Shape).ShapeCasts ⟨2, ![R, 128]⟩) (r : Fin R) (l : Fin 128) :
    shapeCast ⟨2, ![R, 128]⟩ (View.ld v (Rect.unit ![0, 0, 0] ![1, R, 128] inb)) h (ix2 r l) = v (ix3 0 r l) := by
  refine (shapeCast_dropUnit_apply ![R, 128] _ h _).trans (congrArg v (funext fun a => Fin.ext ?_))
  rw [Rect.idx_unit_val]
  match a with
  | ⟨0, _⟩ => rfl
  | ⟨1, _⟩ => exact Nat.zero_add _
  | ⟨2, _⟩ => exact Nat.zero_add _

/-- The whole band, before a group's lanes are cleared. -/
theorem stacked (r : Fin 2304) (l : Fin 128) :
    k0_pay3 (F := Ideal) (View.ld xp (Rect.unit ![0, 0, 0] ![1, 128, 128] inb_S1x128x128_S1x128x128_0_0_0))
        (View.ld xc (Rect.unit ![0, 0, 0] ![1, 2048, 128] inb_S1x2048x128_S1x2048x128_0_0_0))
        (View.ld xn (Rect.unit ![0, 0, 0] ![1, 128, 128] inb_S1x128x128_S1x128x128_0_0_0)) (ix2 r l)
      = band xp xc xn r l := by
  unfold k0_pay3
  have off : ∀ {R : Nat} (i : Fin R) (b : Fin 2), b ≠ 0 → ((ix2 i l : (⟨2, ![R, 128]⟩ : Shape).Idx) b).val = ((ix2 r l : S2304x128.Idx) b).val := fun i b hb => by
    match b with
    | ⟨0, _⟩ => exact absurd rfl hb
    | ⟨1, _⟩ => rfl
  have hr : r.val < 128 ∨ 128 ≤ r.val ∧ r.val < 2176 ∨ 2176 ≤ r.val := by omega
  rcases hr with hr | hr | hr
  · refine (concatenate_apply_piece (t := S2304x128) 0 _ _ (ix2 r l) 0 (by simp) S128x128 _ rfl rfl 0 rfl (ix2 ⟨r.val, by omega⟩ l) (off _) (show 0 + r.val = r.val by omega)).trans ?_
    exact (whole_load xp _ _ _ _).trans (band_prev xp xc xn r l _ rfl).symm
  · refine (concatenate_apply_piece (t := S2304x128) 0 _ _ (ix2 r l) 1 (by simp) S2048x128 _ rfl rfl 128 rfl (ix2 ⟨r.val - 128, by omega⟩ l) (off _) (show 128 + (r.val - 128) = r.val by omega)).trans ?_
    exact (whole_load xc _ _ _ _).trans (band_cur xp xc xn r l ⟨r.val - 128, by omega⟩ (show r.val = 128 + (r.val - 128) by omega)).symm
  · refine (concatenate_apply_piece (t := S2304x128) 0 _ _ (ix2 r l) 2 (by simp) S128x128 _ rfl rfl 2176 rfl (ix2 ⟨r.val - 2176, by omega⟩ l) (off _) (show 2176 + (r.val - 2176) = r.val by omega)).trans ?_
    exact (whole_load xn _ _ _ _).trans (band_next xp xc xn r l ⟨r.val - 2176, by omega⟩ (show r.val = 2176 + (r.val - 2176) by omega)).symm

/-- The first group's lanes. -/
theorem lane_bit : ∀ l : Fin 128, Scalar.cmpi .slt (BitVec.ofNat 32 l.val) 64#32 = if l.val < 64 then 1#1 else 0#1 := by
  decide +kernel

theorem lane_mask (r : Fin 2304) (l : Fin 128) :
    broadcastTo S2304x128 (shapeCast S1x128 k0_pay2 shapeCasts_S1x128_S1x128) broadcasts_S1x128_S2304x128 (ix2 r l) = if l.val < 64 then 1#1 else 0#1 := by
  refine (Layout.spread_row _ _ (ix2 r l)).trans ?_
  rw [shapeCast_self]
  unfold k0_pay2
  show Scalar.cmpi .slt (iota .tc S1x128 32 [1] iota_S1x128_d1_w32 (ix2 0 l)) 64#32 = _
  rw [iota_single_apply]
  exact lane_bit l

end Rows

/-- The 18 stores of the values. -/
def tiles (x4 : Vec Ideal S1x128x128 .bf16) (x5 : Vec Ideal S1x2048x128 .bf16) (x6 : Vec Ideal S1x128x128 .bf16) : List (View.Piece (Elt Ideal) S18x128x128 .bf16) :=
  [⟨Rect.unit ![17, 0, 0] ![1, 128, 128] inb_S18x128x128_S1x128x128_17_0_0, k0_pay23 (View.ld x6 (Rect.unit ![0, 0, 0] ![1, 128, 128] inb_S1x128x128_S1x128x128_0_0_0))⟩,
   ⟨Rect.unit ![16, 0, 0] ![1, 128, 128] inb_S18x128x128_S1x128x128_16_0_0, k0_pay22 (View.ld x5 (Rect.unit ![0, 1920, 0] ![1, 128, 128] inb_S1x2048x128_S1x128x128_0_1920_0))⟩,
   ⟨Rect.unit ![15, 0, 0] ![1, 128, 128] inb_S18x128x128_S1x128x128_15_0_0, k0_pay21 (View.ld x5 (Rect.unit ![0, 1792, 0] ![1, 128, 128] inb_S1x2048x128_S1x128x128_0_1792_0))⟩,
   ⟨Rect.unit ![14, 0, 0] ![1, 128, 128] inb_S18x128x128_S1x128x128_14_0_0, k0_pay20 (View.ld x5 (Rect.unit ![0, 1664, 0] ![1, 128, 128] inb_S1x2048x128_S1x128x128_0_1664_0))⟩,
   ⟨Rect.unit ![13, 0, 0] ![1, 128, 128] inb_S18x128x128_S1x128x128_13_0_0, k0_pay19 (View.ld x5 (Rect.unit ![0, 1536, 0] ![1, 128, 128] inb_S1x2048x128_S1x128x128_0_1536_0))⟩,
   ⟨Rect.unit ![12, 0, 0] ![1, 128, 128] inb_S18x128x128_S1x128x128_12_0_0, k0_pay18 (View.ld x5 (Rect.unit ![0, 1408, 0] ![1, 128, 128] inb_S1x2048x128_S1x128x128_0_1408_0))⟩,
   ⟨Rect.unit ![11, 0, 0] ![1, 128, 128] inb_S18x128x128_S1x128x128_11_0_0, k0_pay17 (View.ld x5 (Rect.unit ![0, 1280, 0] ![1, 128, 128] inb_S1x2048x128_S1x128x128_0_1280_0))⟩,
   ⟨Rect.unit ![10, 0, 0] ![1, 128, 128] inb_S18x128x128_S1x128x128_10_0_0, k0_pay16 (View.ld x5 (Rect.unit ![0, 1152, 0] ![1, 128, 128] inb_S1x2048x128_S1x128x128_0_1152_0))⟩,
   ⟨Rect.unit ![9, 0, 0] ![1, 128, 128] inb_S18x128x128_S1x128x128_9_0_0, k0_pay15 (View.ld x5 (Rect.unit ![0, 1024, 0] ![1, 128, 128] inb_S1x2048x128_S1x128x128_0_1024_0))⟩,
   ⟨Rect.unit ![8, 0, 0] ![1, 128, 128] inb_S18x128x128_S1x128x128_8_0_0, k0_pay14 (View.ld x5 (Rect.unit ![0, 896, 0] ![1, 128, 128] inb_S1x2048x128_S1x128x128_0_896_0))⟩,
   ⟨Rect.unit ![7, 0, 0] ![1, 128, 128] inb_S18x128x128_S1x128x128_7_0_0, k0_pay13 (View.ld x5 (Rect.unit ![0, 768, 0] ![1, 128, 128] inb_S1x2048x128_S1x128x128_0_768_0))⟩,
   ⟨Rect.unit ![6, 0, 0] ![1, 128, 128] inb_S18x128x128_S1x128x128_6_0_0, k0_pay12 (View.ld x5 (Rect.unit ![0, 640, 0] ![1, 128, 128] inb_S1x2048x128_S1x128x128_0_640_0))⟩,
   ⟨Rect.unit ![5, 0, 0] ![1, 128, 128] inb_S18x128x128_S1x128x128_5_0_0, k0_pay11 (View.ld x5 (Rect.unit ![0, 512, 0] ![1, 128, 128] inb_S1x2048x128_S1x128x128_0_512_0))⟩,
   ⟨Rect.unit ![4, 0, 0] ![1, 128, 128] inb_S18x128x128_S1x128x128_4_0_0, k0_pay10 (View.ld x5 (Rect.unit ![0, 384, 0] ![1, 128, 128] inb_S1x2048x128_S1x128x128_0_384_0))⟩,
   ⟨Rect.unit ![3, 0, 0] ![1, 128, 128] inb_S18x128x128_S1x128x128_3_0_0, k0_pay9 (View.ld x5 (Rect.unit ![0, 256, 0] ![1, 128, 128] inb_S1x2048x128_S1x128x128_0_256_0))⟩,
   ⟨Rect.unit ![2, 0, 0] ![1, 128, 128] inb_S18x128x128_S1x128x128_2_0_0, k0_pay8 (View.ld x5 (Rect.unit ![0, 128, 0] ![1, 128, 128] inb_S1x2048x128_S1x128x128_0_128_0))⟩,
   ⟨Rect.unit ![1, 0, 0] ![1, 128, 128] inb_S18x128x128_S1x128x128_1_0_0, k0_pay7 (View.ld x5 (Rect.unit ![0, 0, 0] ![1, 128, 128] inb_S1x2048x128_S1x128x128_0_0_0))⟩,
   ⟨Rect.unit ![0, 0, 0] ![1, 128, 128] inb_S18x128x128_S1x128x128_0_0_0, k0_pay6 (View.ld x4 (Rect.unit ![0, 0, 0] ![1, 128, 128] inb_S1x128x128_S1x128x128_0_0_0))⟩]

theorem tiles_canon (x4 : Vec Ideal S1x128x128 .bf16) (x5 : Vec Ideal S1x2048x128 .bf16) (x6 : Vec Ideal S1x128x128 .bf16) (y : S18x128x128.Idx) :
    View.canon (tiles x4 x5 x6) y = valuesT x4 x5 x6 y := by
  refine View.canon_apply_of_pieces (valuesT x4 x5 x6) (tiles x4 x5 x6) ?_ y ?_
  · unfold tiles
    simp only [List.forall_mem_cons]
    refine ⟨fun x => tile_next x4 x5 x6 _ x, ?_⟩
    iterate 16 refine ⟨fun x => tile_cur x4 x5 x6 _ _ rfl _ _ x, ?_⟩
    exact ⟨fun x => tile_prev x4 x5 x6 _ x, fun _ h => absurd h List.not_mem_nil⟩
  · have hrect : ∀ c : Fin 18, ((tiles x4 x5 x6)[17 - c.val]'(show 17 - c.val < 18 by omega)).1 = Rect.unit ![c.val, 0, 0] ![1, 128, 128] (tile_inb c.val c.isLt) := by
      intro c
      fin_cases c <;> rfl
    have y1 : (y 1).val < 128 := (y 1).isLt
    have y2 : (y 2).val < 128 := (y 2).isLt
    refine ⟨_, List.getElem_mem (l := tiles x4 x5 x6) (n := 17 - (y 0).val) (show 17 - (y 0).val < 18 by omega), ?_⟩
    rw [hrect (y 0), LoadRect.mem_set]
    intro a
    match a with
    | ⟨0, _⟩ => exact ⟨0, Nat.one_pos, show (y 0).val = (y 0).val + 1 * 0 by omega⟩
    | ⟨1, _⟩ => exact ⟨(y 1).val, y1, show (y 1).val = 0 + 1 * (y 1).val by omega⟩
    | ⟨2, _⟩ => exact ⟨(y 2).val, y2, show (y 2).val = 0 + 1 * (y 2).val by omega⟩

theorem read_tiles (arg : Memref sig .tc .vmem S18x128x128 .bf16) (x4 : Vec Ideal S1x128x128 .bf16) (x5 : Vec Ideal S1x2048x128 .bf16) (x6 : Vec Ideal S1x128x128 .bf16)
    (B : LoadRect S18x128x128) :
    arg.view.readCov (Val := Elt Ideal)
  [⟨Rect.unit ![17, 0, 0] ![1, 128, 128] inb_S18x128x128_S1x128x128_17_0_0, k0_pay23 (View.ld x6 (Rect.unit ![0, 0, 0] ![1, 128, 128] inb_S1x128x128_S1x128x128_0_0_0))⟩,
   ⟨Rect.unit ![16, 0, 0] ![1, 128, 128] inb_S18x128x128_S1x128x128_16_0_0, k0_pay22 (View.ld x5 (Rect.unit ![0, 1920, 0] ![1, 128, 128] inb_S1x2048x128_S1x128x128_0_1920_0))⟩,
   ⟨Rect.unit ![15, 0, 0] ![1, 128, 128] inb_S18x128x128_S1x128x128_15_0_0, k0_pay21 (View.ld x5 (Rect.unit ![0, 1792, 0] ![1, 128, 128] inb_S1x2048x128_S1x128x128_0_1792_0))⟩,
   ⟨Rect.unit ![14, 0, 0] ![1, 128, 128] inb_S18x128x128_S1x128x128_14_0_0, k0_pay20 (View.ld x5 (Rect.unit ![0, 1664, 0] ![1, 128, 128] inb_S1x2048x128_S1x128x128_0_1664_0))⟩,
   ⟨Rect.unit ![13, 0, 0] ![1, 128, 128] inb_S18x128x128_S1x128x128_13_0_0, k0_pay19 (View.ld x5 (Rect.unit ![0, 1536, 0] ![1, 128, 128] inb_S1x2048x128_S1x128x128_0_1536_0))⟩,
   ⟨Rect.unit ![12, 0, 0] ![1, 128, 128] inb_S18x128x128_S1x128x128_12_0_0, k0_pay18 (View.ld x5 (Rect.unit ![0, 1408, 0] ![1, 128, 128] inb_S1x2048x128_S1x128x128_0_1408_0))⟩,
   ⟨Rect.unit ![11, 0, 0] ![1, 128, 128] inb_S18x128x128_S1x128x128_11_0_0, k0_pay17 (View.ld x5 (Rect.unit ![0, 1280, 0] ![1, 128, 128] inb_S1x2048x128_S1x128x128_0_1280_0))⟩,
   ⟨Rect.unit ![10, 0, 0] ![1, 128, 128] inb_S18x128x128_S1x128x128_10_0_0, k0_pay16 (View.ld x5 (Rect.unit ![0, 1152, 0] ![1, 128, 128] inb_S1x2048x128_S1x128x128_0_1152_0))⟩,
   ⟨Rect.unit ![9, 0, 0] ![1, 128, 128] inb_S18x128x128_S1x128x128_9_0_0, k0_pay15 (View.ld x5 (Rect.unit ![0, 1024, 0] ![1, 128, 128] inb_S1x2048x128_S1x128x128_0_1024_0))⟩,
   ⟨Rect.unit ![8, 0, 0] ![1, 128, 128] inb_S18x128x128_S1x128x128_8_0_0, k0_pay14 (View.ld x5 (Rect.unit ![0, 896, 0] ![1, 128, 128] inb_S1x2048x128_S1x128x128_0_896_0))⟩,
   ⟨Rect.unit ![7, 0, 0] ![1, 128, 128] inb_S18x128x128_S1x128x128_7_0_0, k0_pay13 (View.ld x5 (Rect.unit ![0, 768, 0] ![1, 128, 128] inb_S1x2048x128_S1x128x128_0_768_0))⟩,
   ⟨Rect.unit ![6, 0, 0] ![1, 128, 128] inb_S18x128x128_S1x128x128_6_0_0, k0_pay12 (View.ld x5 (Rect.unit ![0, 640, 0] ![1, 128, 128] inb_S1x2048x128_S1x128x128_0_640_0))⟩,
   ⟨Rect.unit ![5, 0, 0] ![1, 128, 128] inb_S18x128x128_S1x128x128_5_0_0, k0_pay11 (View.ld x5 (Rect.unit ![0, 512, 0] ![1, 128, 128] inb_S1x2048x128_S1x128x128_0_512_0))⟩,
   ⟨Rect.unit ![4, 0, 0] ![1, 128, 128] inb_S18x128x128_S1x128x128_4_0_0, k0_pay10 (View.ld x5 (Rect.unit ![0, 384, 0] ![1, 128, 128] inb_S1x2048x128_S1x128x128_0_384_0))⟩,
   ⟨Rect.unit ![3, 0, 0] ![1, 128, 128] inb_S18x128x128_S1x128x128_3_0_0, k0_pay9 (View.ld x5 (Rect.unit ![0, 256, 0] ![1, 128, 128] inb_S1x2048x128_S1x128x128_0_256_0))⟩,
   ⟨Rect.unit ![2, 0, 0] ![1, 128, 128] inb_S18x128x128_S1x128x128_2_0_0, k0_pay8 (View.ld x5 (Rect.unit ![0, 128, 0] ![1, 128, 128] inb_S1x2048x128_S1x128x128_0_128_0))⟩,
   ⟨Rect.unit ![1, 0, 0] ![1, 128, 128] inb_S18x128x128_S1x128x128_1_0_0, k0_pay7 (View.ld x5 (Rect.unit ![0, 0, 0] ![1, 128, 128] inb_S1x2048x128_S1x128x128_0_0_0))⟩,
   ⟨Rect.unit ![0, 0, 0] ![1, 128, 128] inb_S18x128x128_S1x128x128_0_0_0, k0_pay6 (View.ld x4 (Rect.unit ![0, 0, 0] ![1, 128, 128] inb_S1x128x128_S1x128x128_0_0_0))⟩]
      B = fun j => valuesT x4 x5 x6 (B.idx j) := by
  refine (View.readCov_eq_canon' arg.view (tiles x4 x5 x6) B).trans ?_
  funext j
  exact tiles_canon x4 x5 x6 _

theorem whole_canon (w : FVec Ideal S2304x128 .bf16) (G : S2304x128.Idx → EReal) (h : ∀ r l, w (ix2 r l) = G (ix2 r l)) (y : S2304x128.Idx) :
    View.canon (Val := Elt Ideal) (e := .bf16) [⟨Rect.unit ![0, 0] ![2304, 128] inb_S2304x128_S2304x128_0_0, w⟩] y = (G y : Elt Ideal .bf16) := by
  refine View.canon_apply_of_pieces (Val := Elt Ideal) (e := .bf16) G _ ?_ y ?_
  · intro p hp x
    obtain rfl := List.mem_singleton.mp hp
    obtain ⟨r, l, rfl⟩ : ∃ (r : Fin 2304) (l : Fin 128), x = ix2 r l := ⟨x 0, x 1, eq_ix2 x⟩
    refine (h r l).trans (congrArg G (funext fun a => Fin.ext ?_))
    match a with
    | ⟨0, _⟩ => exact (show r.val = 0 + 1 * r.val by omega)
    | ⟨1, _⟩ => exact (show l.val = 0 + 1 * l.val by omega)
  · refine ⟨_, List.mem_singleton.mpr rfl, ?_⟩
    rw [LoadRect.mem_set]
    have y0 : (y 0).val < 2304 := (y 0).isLt
    have y1 : (y 1).val < 128 := (y 1).isLt
    intro a
    match a with
    | ⟨0, _⟩ => exact ⟨(y 0).val, y0, show (y 0).val = 0 + 1 * (y 0).val by omega⟩
    | ⟨1, _⟩ => exact ⟨(y 1).val, y1, show (y 1).val = 0 + 1 * (y 1).val by omega⟩

theorem read_lo (arg : Memref sig .tc .vmem S2304x128 .bf16) (x1 : Vec Ideal S1x128x128 .bf16) (x2 : Vec Ideal S1x2048x128 .bf16) (x3 : Vec Ideal S1x128x128 .bf16)
    (B : LoadRect S2304x128) :
    arg.view.readCov (Val := Elt Ideal) [⟨Rect.unit ![0, 0] ![2304, 128] inb_S2304x128_S2304x128_0_0,
                      k0_pay4 (View.ld x1 (Rect.unit ![0, 0, 0] ![1, 128, 128] inb_S1x128x128_S1x128x128_0_0_0))
                        (View.ld x2 (Rect.unit ![0, 0, 0] ![1, 2048, 128] inb_S1x2048x128_S1x2048x128_0_0_0))
                        (View.ld x3 (Rect.unit ![0, 0, 0] ![1, 128, 128] inb_S1x128x128_S1x128x128_0_0_0))⟩]
      B = fun j => keysLo x1 x2 x3 (B.idx j) := by
  refine (View.readCov_eq_canon' arg.view _ B).trans ?_
  funext j
  refine whole_canon _ (keysLo x1 x2 x3) (fun r l => ?_) _
  unfold k0_pay4 keysLo
  rw [shapeCast_self]
  show (if broadcastTo S2304x128 (shapeCast S1x128 k0_pay2 shapeCasts_S1x128_S1x128) broadcasts_S1x128_S2304x128 (ix2 r l) = 1#1 then k0_pay3 (F := Ideal) _ _ _ (ix2 r l) else Ideal.ofBits .bf16 0x0000#16) = _
  rw [lane_mask, stacked]
  show _ = if l.val < 64 then band x1 x2 x3 r l else 0
  rw [Ideal.ofBits_zero_bf16]
  by_cases hl : l.val < 64
  · simp only [if_pos hl, if_true]
  · simp only [if_neg hl]; rfl

theorem read_hi (arg : Memref sig .tc .vmem S2304x128 .bf16) (x1 : Vec Ideal S1x128x128 .bf16) (x2 : Vec Ideal S1x2048x128 .bf16) (x3 : Vec Ideal S1x128x128 .bf16)
    (B : LoadRect S2304x128) :
    arg.view.readCov (Val := Elt Ideal) [⟨Rect.unit ![0, 0] ![2304, 128] inb_S2304x128_S2304x128_0_0,
                      k0_pay5 (View.ld x1 (Rect.unit ![0, 0, 0] ![1, 128, 128] inb_S1x128x128_S1x128x128_0_0_0))
                        (View.ld x2 (Rect.unit ![0, 0, 0] ![1, 2048, 128] inb_S1x2048x128_S1x2048x128_0_0_0))
                        (View.ld x3 (Rect.unit ![0, 0, 0] ![1, 128, 128] inb_S1x128x128_S1x128x128_0_0_0))⟩]
      B = fun j => keysHi x1 x2 x3 (B.idx j) := by
  refine (View.readCov_eq_canon' arg.view _ B).trans ?_
  funext j
  refine whole_canon _ (keysHi x1 x2 x3) (fun r l => ?_) _
  unfold k0_pay5 keysHi
  rw [shapeCast_self]
  show (if broadcastTo S2304x128 (shapeCast S1x128 k0_pay2 shapeCasts_S1x128_S1x128) broadcasts_S1x128_S2304x128 (ix2 r l) = 1#1 then Ideal.ofBits .bf16 0x0000#16 else k0_pay3 (F := Ideal) _ _ _ (ix2 r l)) = _
  rw [lane_mask, stacked]
  show _ = if l.val < 64 then 0 else band x1 x2 x3 r l
  rw [Ideal.ofBits_zero_bf16]
  by_cases hl : l.val < 64
  · simp only [if_pos hl, if_true]
  · simp only [if_neg hl]; rfl

/-! ## Which bias a block takes -/

/-- 0 inside the sequence, 1 at its first block, 2 at its last: the body's own words for it. -/
def variant (a n : Nat) : Nat :=
  BitVec.toNat (Scalar.indexCast (Scalar.addi
    (Scalar.extui (Scalar.andi (Scalar.cmpi .eq (BitVec.ofNat 32 a) 0#32) (Scalar.cmpi .eq (BitVec.ofNat 32 n) 0#32)))
    (Scalar.muli (2#32) (Scalar.extui (Scalar.andi (Scalar.cmpi .eq (BitVec.ofNat 32 a) 1#32) (Scalar.cmpi .eq (BitVec.ofNat 32 n) 15#32))))))

theorem variant_eq : ∀ (a : Fin 2) (n : Fin 16),
    variant a.val n.val = (if a.val = 0 ∧ n.val = 0 then 1 else 0) + (if a.val = 1 ∧ n.val = 15 then 2 else 0) := by
  decide +kernel

theorem variant_lt (a : Fin 2) (n : Fin 16) : variant a.val n.val < 4 := by
  rw [variant_eq]
  split <;> split <;> omega

/-! ## Block `n` of a grid point -/

theorem rows_inb (n : Fin 16) (a : Fin 3) : (![0, 128 * n.val, 0] : Fin 3 → Nat) a + (![1, 128, 512] : Fin 3 → Nat) a ≤ S1x2048x512.size a := by
  match a with
  | ⟨0, _⟩ => show 0 + 1 ≤ 1; omega
  | ⟨1, _⟩ => show 128 * n.val + 128 ≤ 2048; omega
  | ⟨2, _⟩ => show 0 + 512 ≤ 512; omega

theorem keys_inb (n : Fin 16) (a : Fin 2) : (![128 * n.val, 0] : Fin 2 → Nat) a + (![384, 128] : Fin 2 → Nat) a ≤ S2304x128.size a := by
  match a with
  | ⟨0, _⟩ => show 128 * n.val + 384 ≤ 2304; omega
  | ⟨1, _⟩ => show 0 + 128 ≤ 128; omega

theorem bias_inb (v : Nat) (hv : v < 4) (h : Fin 8) (a : Fin 4) : (![v, h.val, 0, 0] : Fin 4 → Nat) a + (![1, 1, 384, 128] : Fin 4 → Nat) a ≤ S4x8x384x128.size a := by
  match a with
  | ⟨0, _⟩ => show v + 1 ≤ 4; omega
  | ⟨1, _⟩ => show h.val + 1 ≤ 8; omega
  | ⟨2, _⟩ => show 0 + 384 ≤ 384; omega
  | ⟨3, _⟩ => show 0 + 128 ≤ 128; omega

theorem sink_inb (h : Fin 8) (a : Fin 2) : (![h.val, 0] : Fin 2 → Nat) a + (![1, 128] : Fin 2 → Nat) a ≤ S8x128.size a := by
  match a with
  | ⟨0, _⟩ => show h.val + 1 ≤ 8; omega
  | ⟨1, _⟩ => show 0 + 128 ≤ 128; omega

/-- Block `n` at the grid point whose second coordinate is `a`. -/
def blockAt (x0 : Vec Ideal S1x2048x512 .bf16) (x1 : Vec Ideal S1x128x128 .bf16) (x2 : Vec Ideal S1x2048x128 .bf16) (x3 : Vec Ideal S1x128x128 .bf16)
    (x4 : Vec Ideal S1x128x128 .bf16) (x5 : Vec Ideal S1x2048x128 .bf16) (x6 : Vec Ideal S1x128x128 .bf16) (x7 : Vec Ideal S1x2048x512 .bf16)
    (x8 : Vec Ideal S4x8x384x128 .f32) (x9 : Vec Ideal S8x128 .f32) (a : Fin 2) (n : Fin 16) : FVec Ideal S1x128x512 .bf16 :=
  block (View.ld x0 (Rect.unit ![0, 128 * n.val, 0] ![1, 128, 512] (rows_inb n)))
    (View.ld (Val := Elt Ideal) (e' := .bf16) (keysLo x1 x2 x3) (Rect.unit ![128 * n.val, 0] ![384, 128] (keys_inb n)))
    (View.ld (Val := Elt Ideal) (e' := .bf16) (keysHi x1 x2 x3) (Rect.unit ![128 * n.val, 0] ![384, 128] (keys_inb n)))
    (View.ld (Val := Elt Ideal) (e' := .bf16) (valuesT x4 x5 x6) (Rect.unit ![n.val, 0, 0] ![1, 128, 128] (tile_inb n.val (by omega))))
    (View.ld (Val := Elt Ideal) (e' := .bf16) (valuesT x4 x5 x6) (Rect.unit ![n.val + 1, 0, 0] ![1, 128, 128] (tile_inb (n.val + 1) (by omega))))
    (View.ld (Val := Elt Ideal) (e' := .bf16) (valuesT x4 x5 x6) (Rect.unit ![n.val + 2, 0, 0] ![1, 128, 128] (tile_inb (n.val + 2) (by omega))))
    (fun h => View.ld x8 (Rect.unit ![variant a.val n.val, h.val, 0, 0] ![1, 1, 384, 128] (bias_inb _ (variant_lt a n) h)))
    (fun h => View.ld x9 (Rect.unit ![h.val, 0] ![1, 128] (sink_inb h)))
    (View.ld x7 (Rect.unit ![0, 128 * n.val, 0] ![1, 128, 512] (rows_inb n)))

end Cert.KernelIdeal.Block
end
-- ==== Proof.AttnBlock.lean ====
module

public import proofs.«01_k».proof.Proof.AttnBody
@[expose] public section
set_option maxRecDepth 65536
set_option maxHeartbeats 4000000
noncomputable section
namespace Cert.KernelIdeal.Block
open Cert.KernelIdeal Cert.KernelIdeal.Gen Idealize.ShloMosaic Idealize.ShloMosaic.TcCoe Idealize.SL.Sem
open Idealize.ShloMosaic.Tactic Idealize.ShloMosaic.ValueIdx

variable (c : Dev nD) (i : grid0.Coords) (arg2 : Memref sig .tc .vmem S1x2048x512 .bf16) (harg2 : arg2.IsWhole) (arg3 : Memref sig .tc .vmem S1x128x128 .bf16) (harg3 : arg3.IsWhole) (arg4 : Memref sig .tc .vmem S1x2048x128 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1x2048x128 .bf16) (harg7 : arg7.IsWhole) (arg8 : Memref sig .tc .vmem S1x128x128 .bf16) (harg8 : arg8.IsWhole) (arg9 : Memref sig .tc .vmem S1x2048x512 .bf16) (harg9 : arg9.IsWhole) (arg10 : Memref sig .tc .vmem S4x8x384x128 .f32) (harg10 : arg10.IsWhole) (arg11 : Memref sig .tc .vmem S8x128 .f32) (harg11 : arg11.IsWhole) (arg12 : Memref sig .tc .vmem S1x2048x512 .bf16) (harg12 : arg12.IsWhole) (arg13 : Memref sig .tc .vmem S2304x128 .bf16) (harg13 : arg13.IsWhole) (arg14 : Memref sig .tc .vmem S2304x128 .bf16) (harg14 : arg14.IsWhole) (arg15 : Memref sig .tc .vmem S18x128x128 .bf16) (harg15 : arg15.IsWhole)
  (x0 : Vec Ideal S1x2048x512 .bf16) (x1 : Vec Ideal S1x128x128 .bf16) (x2 : Vec Ideal S1x2048x128 .bf16) (x3 : Vec Ideal S1x128x128 .bf16) (x4 : Vec Ideal S1x128x128 .bf16) (x5 : Vec Ideal S1x2048x128 .bf16) (x6 : Vec Ideal S1x128x128 .bf16) (x7 : Vec Ideal S1x2048x512 .bf16) (x8 : Vec Ideal S4x8x384x128 .f32) (x9 : Vec Ideal S8x128 .f32)
/-- The output block, from what each group of 128 rows stores. -/
theorem out10_eq (G : S1x2048x512.Idx → EReal)
  (hG : ∀ (n : Fin 16) (x : (Rect.unit (s := S1x2048x512) ![0, 128 * n.val, 0] ![1, 128, 512] (rows_inb n)).shape.Idx), blockAt x0 x1 x2 x3 x4 x5 x6 x7 x8 x9 (i 1) n x = G ((Rect.unit ![0, 128 * n.val, 0] ![1, 128, 512] (rows_inb n)).emb x)) : out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 = G := by
  funext y
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  refine View.canon_apply_of_pieces G _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, read_tiles, read_lo, read_hi, List.forall_mem_cons]
  exact ⟨hG ⟨15, by decide⟩, hG ⟨14, by decide⟩, hG ⟨13, by decide⟩, hG ⟨12, by decide⟩, hG ⟨11, by decide⟩, hG ⟨10, by decide⟩, hG ⟨9, by decide⟩, hG ⟨8, by decide⟩, hG ⟨7, by decide⟩, hG ⟨6, by decide⟩, hG ⟨5, by decide⟩, hG ⟨4, by decide⟩, hG ⟨3, by decide⟩, hG ⟨2, by decide⟩, hG ⟨1, by decide⟩, hG ⟨0, by decide⟩, fun _ h => absurd h List.not_mem_nil⟩
end Cert.KernelIdeal.Block
end
-- ==== Proof.OutprojRows.lean ====
module

public import proofs.«01_k».proof.Proof.Layout

/-! # The output projection of a row, in plain terms

A row's hyena output is gated and normalised; the row's three outputs, side by side, are multiplied by the weight and
added to the residual. -/

@[expose] public section

noncomputable section

namespace Cert.OutRow

open Idealize.ShloMosaic Idealize.ShloMosaic.ValueIdx

/-- `z` times the logistic function of `z`. -/
def silu (z : EReal) : EReal :=
  z * Ideal.div (Ideal.ofBits .f32 0x3F800000#32) (Ideal.ofBits .f32 0x3F800000#32 + Ideal.exp (-z))

/-- The hyena output of a row, gated. -/
def gated (xa conv v d g : Fin 512 → EReal) (k : Fin 512) : EReal :=
  xa k * (conv k + v k * d k) * silu (g k)

/-- A row over the root of its mean square. -/
def unit (y : Fin 512 → EReal) (k : Fin 512) : EReal :=
  y k * Ideal.rsqrt (Ideal.div (∑ j : Fin 512, y j * y j) (Ideal.ofBits .f32 0x44000000#32)
    + Ideal.ofBits .f32 0x358637BD#32)

/-- One column of a row's result: `w` is that column of the weight. -/
def out (x : EReal) (ys : Fin 1024 → EReal) (ya yh : Fin 512 → EReal) (w : Fin 2048 → EReal) : EReal :=
  x + ∑ k : Fin 1024, ys k * w ⟨k.val, by omega⟩ + ∑ k : Fin 512, ya k * w ⟨1024 + k.val, by omega⟩
    + ∑ k : Fin 512, yh k * w ⟨1536 + k.val, by omega⟩

/-- A row of 2048 over the root of its mean square. -/
def normed (y : Fin 2048 → EReal) (n : Fin 2048) : EReal :=
  y n * Ideal.rsqrt (Ideal.div (∑ j : Fin 2048, y j * y j) (Ideal.ofBits .f32 0x45000000#32)
    + Ideal.ofBits .f32 0x358637BD#32)

/-! ## Of whole arrays -/

variable {T : Nat} (x0 : (⟨2, ![T, 2048]⟩ : Shape).Idx → EReal) (x1 : (⟨2, ![T, 1024]⟩ : Shape).Idx → EReal)
  (x2 x3 x4 x5 : (⟨2, ![T, 512]⟩ : Shape).Idx → EReal) (x6 : (⟨2, ![T, 6016]⟩ : Shape).Idx → EReal)
  (x7 : (⟨1, ![512]⟩ : Shape).Idx → EReal) (x8 : (⟨2, ![2048, 2048]⟩ : Shape).Idx → EReal) (x9 : (⟨1, ![2048]⟩ : Shape).Idx → EReal)

/-- The gated hyena output of token `r`. -/
def gatedRow (r : Fin T) : Fin 512 → EReal :=
  gated (fun k => x5 (ix2 r k)) (fun k => x3 (ix2 r k)) (fun k => x4 (ix2 r k)) (fun k => x7 (ix1 k))
    (fun k => x6 (ix2 r ⟨5120 + k.val, by omega⟩))

/-- The result. -/
def res (i : (⟨2, ![T, 2048]⟩ : Shape).Idx) : EReal :=
  out (x0 i) (fun k => x1 (ix2 (i 0) k)) (fun k => x2 (ix2 (i 0) k)) (unit (gatedRow x3 x4 x5 x6 x7 (i 0)))
    (fun k => x8 (ix2 k (i 1)))

/-- The last layer's result. -/
def last (i : (⟨2, ![T, 2048]⟩ : Shape).Idx) : EReal :=
  normed (fun j => res x0 x1 x2 x3 x4 x5 x6 x7 x8 (ix2 (i 0) j)) (i 1) * x9 (ix1 (i 1))

/-! ## Side by side -/

/-- A sum over 2048 in its three parts. -/
theorem sum_parts (f : Fin 2048 → EReal) :
    ∑ k : Fin 2048, f k = ∑ k : Fin 1024, f ⟨k.val, by omega⟩ + ∑ k : Fin 512, f ⟨1024 + k.val, by omega⟩ + ∑ k : Fin 512, f ⟨1536 + k.val, by omega⟩ :=
  (Fin.sum_univ_add (a := 1536) (b := 512) f).trans
    (congrArg (fun s : EReal => s + ∑ k : Fin 512, f ⟨1536 + k.val, by omega⟩)
      (Fin.sum_univ_add (a := 1024) (b := 512) fun k : Fin 1536 => f ⟨k.val, by omega⟩))

/-- Two tokens in a row of 1024: token `R` is half `R % 2` of row `R / 2`. -/
theorem pair_entry {P : Nat} (hT : T = 2 * P) (x : FVec Ideal ⟨2, ![T, 512]⟩ .bf16) (h : Shape.ShapeCasts ⟨2, ![T, 512]⟩ ⟨2, ![P, 1024]⟩)
    (R : Fin T) (k : Fin 512) (p : Fin P) (q : Fin 1024) (hp : p.val = R.val / 2) (hq : q.val = R.val % 2 * 512 + k.val) :
    shapeCast ⟨2, ![P, 1024]⟩ x h (ix2 p q) = x (ix2 R k) :=
  shapeCast_apply x h _ _ (by
    show Shape.rankPi ![T, 512] (ix2 R k) = Shape.rankPi ![P, 1024] (ix2 p q)
    simp [Shape.rankPi, Shape.prodPi, ix2, hp, hq]
    omega)

/-- The three outputs joined along the columns, against a column of the weight. -/
theorem sum_joined {φ : FTy} (a : FVec Ideal ⟨2, ![T, 1024]⟩ φ) (b y : FVec Ideal ⟨2, ![T, 512]⟩ φ)
    (h : Shape.Concatenates [⟨2, ![T, 1024]⟩, ⟨2, ![T, 512]⟩, ⟨2, ![T, 512]⟩] ⟨2, ![T, 2048]⟩ 1) (r : Fin T) (w : Fin 2048 → EReal) :
    ∑ k : Fin 2048, concatenate ⟨2, ![T, 2048]⟩ 1 [⟨_, a⟩, ⟨_, b⟩, ⟨_, y⟩] h (ix2 r k) * w k
      = ∑ k : Fin 1024, a (ix2 r k) * w ⟨k.val, by omega⟩ + ∑ k : Fin 512, b (ix2 r k) * w ⟨1024 + k.val, by omega⟩
        + ∑ k : Fin 512, y (ix2 r k) * w ⟨1536 + k.val, by omega⟩ := by
  have off : ∀ {C C' : Nat} (l : Fin C) (k : Fin C') (b : Fin 2), b ≠ 1 → ((ix2 r l : (⟨2, ![T, C]⟩ : Shape).Idx) b).val = ((ix2 r k : (⟨2, ![T, C']⟩ : Shape).Idx) b).val :=
    fun l k b hb => by
      match b with
      | ⟨0, _⟩ => rfl
      | ⟨1, _⟩ => exact absurd rfl hb
  rw [sum_parts]
  refine congrArg₂ (· + · : EReal → EReal → EReal) (congrArg₂ (· + · : EReal → EReal → EReal) (Finset.sum_congr rfl fun k _ => ?_)
    (Finset.sum_congr rfl fun k _ => ?_)) (Finset.sum_congr rfl fun k _ => ?_)
  · exact congrArg (· * _) (concatenate_apply_piece (t := ⟨2, ![T, 2048]⟩) 1 [⟨_, a⟩, ⟨_, b⟩, ⟨_, y⟩] h (ix2 r _) 0 (by show 0 < 3; omega) _ a rfl rfl 0 rfl (ix2 r k) (off k _) (Nat.zero_add _))
  · exact congrArg (· * _) (concatenate_apply_piece (t := ⟨2, ![T, 2048]⟩) 1 [⟨_, a⟩, ⟨_, b⟩, ⟨_, y⟩] h (ix2 r _) 1 (by show 1 < 3; omega) _ b rfl rfl 1024 rfl (ix2 r k) (off k _) rfl)
  · exact congrArg (· * _) (concatenate_apply_piece (t := ⟨2, ![T, 2048]⟩) 1 [⟨_, a⟩, ⟨_, b⟩, ⟨_, y⟩] h (ix2 r _) 2 (by show 2 < 3; omega) _ y rfl rfl 1536 rfl (ix2 r k) (off k _) rfl)

/-- The residual plus the joined outputs against the weight is the result. -/
theorem joined_res {φ : FTy} (a : FVec Ideal ⟨2, ![T, 1024]⟩ φ) (b y : FVec Ideal ⟨2, ![T, 512]⟩ φ)
    (h : Shape.Concatenates [⟨2, ![T, 1024]⟩, ⟨2, ![T, 512]⟩, ⟨2, ![T, 512]⟩] ⟨2, ![T, 2048]⟩ 1) (r : Fin T) (n : Fin 2048)
    (hy : ∀ k, y (ix2 r k) = unit (gatedRow x3 x4 x5 x6 x7 r) k) :
    x0 (ix2 r n) + ∑ k : Fin 2048, concatenate ⟨2, ![T, 2048]⟩ 1 [⟨_, a⟩, ⟨_, b⟩, ⟨_, y⟩] h (ix2 r k) * x8 (ix2 k n)
      = res x0 a b x3 x4 x5 x6 x7 x8 (ix2 r n) := by
  rw [sum_joined a b y h r fun k => x8 (ix2 k n)]
  simp only [hy]
  rw [← add_assoc, ← add_assoc]
  rfl

end Cert.OutRow

end
-- ==== Proof.AttnRow.lean ====
module

public import proofs.«01_k».proof.Proof.OutprojRows
public import Idealize.ShloMosaic.Lib.IdealHost

/-! # One query of one head, in plain terms

The plain softmax with a sink, and the same in base 2 with the division taken out of the sum: scores in base 2 are the
scores over `log 2`, a masked score is `-∞` in both. -/

@[expose] public section

noncomputable section

namespace Cert.AttnRow

open Idealize.ShloMosaic

/-- The greatest of the scores and the sink. -/
def top (s : Fin 384 → EReal) (sk : EReal) : EReal := max (Finset.univ.fold max (Ideal.ofBits .f32 0xFF800000#32) s) sk

/-- The plain weights' denominator. -/
def den (s : Fin 384 → EReal) (sk : EReal) : EReal :=
  (∑ k : Fin 384, Ideal.exp (s k - top s sk)) + Ideal.exp (sk - top s sk)

/-- The values weighted by the plain softmax. -/
def soft (s : Fin 384 → EReal) (sk : EReal) (v : Fin 384 → EReal) : EReal :=
  ∑ k : Fin 384, v k * Ideal.div (Ideal.exp (s k - top s sk)) (den s sk)

/-- The denominator in base 2. -/
def den2 (s : Fin 384 → EReal) (sk : EReal) : EReal :=
  (∑ k : Fin 384, Ideal.exp2 (s k - top s sk)) + Ideal.exp2 (sk - top s sk)

/-- The values weighted in base 2, divided at the end. -/
def soft2 (s : Fin 384 → EReal) (sk : EReal) (v : Fin 384 → EReal) : EReal :=
  (∑ k : Fin 384, v k * Ideal.exp2 (s k - top s sk)) * Ideal.div (Ideal.ofBits .f32 0x3F800000#32) (den2 s sk)

theorem negInf : Ideal.ofBits .f32 0xFF800000#32 = (⊥ : EReal) := by
  simp [Ideal.ofBits, Ideal.ieee]

theorem two : Ideal.ofBits .f32 0x40000000#32 = ((2 : ℝ) : EReal) := by
  simp [Ideal.ofBits, Ideal.ieee]
  rw [← EReal.coe_mul]; norm_num

theorem eighth : Ideal.ofBits .f32 0x3E000000#32 = ((1 / 8 : ℝ) : EReal) := by
  simp [Ideal.ofBits, Ideal.ieee]
  rw [← EReal.coe_mul]; norm_num

/-- `1 / log 2`. -/
def ell : ℝ := 1 / Real.log 2

theorem log_two_pos : 0 < Real.log 2 := Real.log_pos (by norm_num)

theorem ell_pos : 0 < ell := one_div_pos.mpr log_two_pos

theorem ell_eq : Ideal.div (Ideal.ofBits .f32 0x3F800000#32) (Ideal.log (Ideal.ofBits .f32 0x40000000#32)) = ((ell : ℝ) : EReal) := by
  rw [two, Ideal.log_coe, if_neg (by norm_num), Ideal.ofBits_one_f32]
  unfold Ideal.div
  rw [if_neg (by
    intro h
    exact log_two_pos.ne' (EReal.coe_eq_zero.mp h)), one_mul, ← EReal.coe_inv]
  simp [ell]

theorem rpow_ell (x : ℝ) : Real.rpow 2 (x * ell) = Real.exp x := by
  show (2 : ℝ) ^ (x * ell) = _
  rw [Real.rpow_def_of_pos (by norm_num), ell]
  congr 1
  have := log_two_pos.ne'
  field_simp

/-- A score: real where it is kept, `-∞` where it is masked. -/
def masked (ok : Fin 384 → Prop) [DecidablePred ok] (r : Fin 384 → ℝ) (k : Fin 384) : EReal :=
  if ok k then ((r k : ℝ) : EReal) else ⊥

theorem fold_top (ok : Fin 384 → Prop) [DecidablePred ok] (r : Fin 384 → ℝ) (t : ℝ) (S : Finset (Fin 384)) :
    ∃ M : ℝ, max (S.fold max ⊥ (masked ok r)) ((t : ℝ) : EReal) = ((M : ℝ) : EReal)
      ∧ max (S.fold max ⊥ (masked ok fun k => r k * ell)) ((t * ell : ℝ) : EReal) = ((M * ell : ℝ) : EReal) := by
  induction S using Finset.induction with
  | empty => exact ⟨t, by simp, by simp⟩
  | insert a S ha ih =>
    obtain ⟨M, h1, h2⟩ := ih
    rw [Finset.fold_insert ha, Finset.fold_insert ha, max_assoc, max_assoc, h1, h2]
    unfold masked
    by_cases h : ok a
    · refine ⟨max (r a) M, ?_, ?_⟩
      · rw [if_pos h]; exact (EReal.coe_strictMono.monotone.map_max).symm
      · rw [if_pos h, max_mul_of_nonneg _ _ ell_pos.le]; exact (EReal.coe_strictMono.monotone.map_max).symm
    · exact ⟨M, by rw [if_neg h]; simp, by rw [if_neg h]; simp⟩

/-- A real weight: what a kept score gives. -/
def weight (ok : Fin 384 → Prop) [DecidablePred ok] (r : Fin 384 → ℝ) (M : ℝ) (k : Fin 384) : ℝ :=
  if ok k then Real.exp (r k - M) else 0

theorem exp_masked (ok : Fin 384 → Prop) [DecidablePred ok] (r : Fin 384 → ℝ) (M : ℝ) (k : Fin 384) :
    Ideal.exp (masked ok r k - ((M : ℝ) : EReal)) = ((weight ok r M k : ℝ) : EReal) := by
  unfold masked weight
  split
  · rw [← EReal.coe_sub, Ideal.exp_coe]
  · rw [EReal.bot_sub, Ideal.exp_bot, EReal.coe_zero]

theorem exp2_masked (ok : Fin 384 → Prop) [DecidablePred ok] (r : Fin 384 → ℝ) (M : ℝ) (k : Fin 384) :
    Ideal.exp2 (masked ok (fun k => r k * ell) k - ((M * ell : ℝ) : EReal)) = ((weight ok r M k : ℝ) : EReal) := by
  unfold masked weight
  split
  · rw [← EReal.coe_sub, Ideal.exp2_coe, ← sub_mul, rpow_ell]
  · rw [EReal.bot_sub, Ideal.exp2_bot, EReal.coe_zero]

theorem coe_sum (f : Fin 384 → ℝ) : ∑ k : Fin 384, ((f k : ℝ) : EReal) = ((∑ k : Fin 384, f k : ℝ) : EReal) :=
  (map_sum (⟨⟨((↑) : ℝ → EReal), EReal.coe_zero⟩, EReal.coe_add⟩ : ℝ →+ EReal) f Finset.univ).symm

theorem sum_mul_real {ι : Type} (S : Finset ι) (f : ι → EReal) (c : ℝ) (hc : 0 ≤ c) :
    (∑ k ∈ S, f k) * ((c : ℝ) : EReal) = ∑ k ∈ S, f k * ((c : ℝ) : EReal) := by
  classical
  induction S using Finset.induction with
  | empty => simp
  | insert a S ha ih =>
    rw [Finset.sum_insert ha, Finset.sum_insert ha,
      EReal.right_distrib_of_nonneg_of_ne_top (EReal.coe_nonneg.mpr hc) (EReal.coe_ne_top c), ih]

/-- The two agree: the scores are real where they are kept, and the values need only agree there. -/
theorem soft2_eq (ok : Fin 384 → Prop) [DecidablePred ok] (r : Fin 384 → ℝ) (t : ℝ) (v v' : Fin 384 → EReal) (hv : ∀ k, ok k → v' k = v k) :
    soft2 (masked ok fun k => r k * ell) ((t * ell : ℝ) : EReal) v' = soft (masked ok r) ((t : ℝ) : EReal) v := by
  obtain ⟨M, h1, h2⟩ := fold_top ok r t Finset.univ
  have t1 : top (masked ok r) ((t : ℝ) : EReal) = ((M : ℝ) : EReal) := by unfold top; rw [negInf]; exact h1
  have t2 : top (masked ok fun k => r k * ell) ((t * ell : ℝ) : EReal) = ((M * ell : ℝ) : EReal) := by unfold top; rw [negInf]; exact h2
  have e1 : Ideal.exp (((t : ℝ) : EReal) - ((M : ℝ) : EReal)) = ((Real.exp (t - M) : ℝ) : EReal) := by rw [← EReal.coe_sub, Ideal.exp_coe]
  have e2 : Ideal.exp2 (((t * ell : ℝ) : EReal) - ((M * ell : ℝ) : EReal)) = ((Real.exp (t - M) : ℝ) : EReal) := by
    rw [← EReal.coe_sub, Ideal.exp2_coe, ← sub_mul, rpow_ell]
  have hw : ∀ k, 0 ≤ weight ok r M k := fun k => by unfold weight; split <;> positivity
  have hD : 0 < (∑ k : Fin 384, weight ok r M k) + Real.exp (t - M) :=
    add_pos_of_nonneg_of_pos (Finset.sum_nonneg fun k _ => hw k) (Real.exp_pos _)
  have d1 : den (masked ok r) ((t : ℝ) : EReal) = (((∑ k : Fin 384, weight ok r M k) + Real.exp (t - M) : ℝ) : EReal) := by
    unfold den
    rw [t1, e1, EReal.coe_add, ← coe_sum]
    simp only [exp_masked]
  have d2 : den2 (masked ok fun k => r k * ell) ((t * ell : ℝ) : EReal) = (((∑ k : Fin 384, weight ok r M k) + Real.exp (t - M) : ℝ) : EReal) := by
    unfold den2
    rw [t2, e2, EReal.coe_add, ← coe_sum]
    simp only [exp2_masked]
  unfold soft2 soft
  rw [d1, d2, t1, t2, Ideal.ofBits_one_f32]
  generalize (∑ k : Fin 384, weight ok r M k) + Real.exp (t - M) = D at hD
  have hD' : ((D : ℝ) : EReal) ≠ 0 := fun h => hD.ne' (EReal.coe_eq_zero.mp h)
  simp only [Ideal.div, if_neg hD', exp_masked, exp2_masked, one_mul]
  rw [← EReal.coe_inv, sum_mul_real _ _ _ (inv_nonneg.mpr hD.le)]
  refine Finset.sum_congr rfl fun k _ => ?_
  by_cases h : ok k
  · rw [hv k h, mul_assoc]
  · have : weight ok r M k = 0 := if_neg h
    rw [this, EReal.coe_zero, mul_zero, zero_mul, mul_zero]

end Cert.AttnRow

end
-- ==== Proof.AttnHost.lean ====
module

public import proofs.«01_k».proof.Proof.Gen.KernelIdeal.Value
public import proofs.«01_k».proof.Proof.AttnRow
public import Idealize.ShloMosaic.Lib.Pipeline.ValueKit

/-! # What the attention's call is given

Before the call the columns are put in a new order, heads in pairs, queries scaled into base 2; the sinks are scaled and
spread; the bias is laid out for the four places a block can have in the sequence, masked keys at `-∞`. -/

@[expose] public section

set_option maxRecDepth 65536

noncomputable section

namespace Cert.KernelIdeal.Block

open Cert.KernelIdeal Cert.KernelIdeal.Gen Cert.KernelIdeal.Value Idealize.ShloMosaic.TcCoe Idealize.SL.Sem
open Idealize.ShloMosaic hiding ix1 ix2 eq_ix2
open Idealize.ShloMosaic.Tactic Idealize.ShloMosaic.ValueIdx Idealize.ShloMosaic.StableHlo

variable (m : (ℓ : Loc nD τ sig) → Buf (Elt Ideal) ℓ)

/-! ## The stages -/

/-- `1 / log 2`, as the host computes it. -/
def unitLog : FVec Ideal S_ .f32 := Host.divf (constant S_ .f32 0x3F800000#32) (Host.log (constant S_ .f32 0x40000000#32))

/-- The sinks in base 2, spread over a block's queries. -/
def sinks (s : FVec Ideal S8 .f32) : FVec Ideal S8x128 .f32 :=
  broadcastInDim S8x128 ![0, 1] bcast_S8x1_S8x128_0_1 (mulf (broadcastInDim S8x1 ![0] bcast_S8_S8x1_0 s) (broadcastInDim S8x1 ![] bcast_S_S8x1 unitLog))

/-- Heads in pairs, one of each group. -/
def paired (x : FVec Ideal S8x4096x512 .f32) : FVec Ideal S8x4096x512 .f32 :=
  shapeCast S8x4096x512 (transpose S8x4096x4x2x64 [0, 1, 3, 2, 4] (shapeCast S8x4096x2x4x64 x shapeCasts_S8x4096x512_S8x4096x2x4x64) transposes_S8x4096x2x4x64_S8x4096x4x2x64_0_1_3_2_4)
    shapeCasts_S8x4096x4x2x64_S8x4096x512

/-- The queries in pairs, scaled. -/
def queries (u : FVec Ideal S8x4096x5920 .f32) : FVec Ideal S8x4096x512 .f32 :=
  mulf (paired (extractStridedSlice S8x4096x512 ![0, 0, 2592] u slices_S8x4096x5920_S8x4096x512_0_0_2592))
    (broadcastInDim S8x4096x512 ![] bcast_S_S8x4096x512 (mulf (constant S_ .f32 0x3E000000#32) unitLog))

/-- The columns in the call's order. -/
def columns (u : FVec Ideal S8x4096x5920 .f32) : FVec Ideal S8x4096x6016 .bf16 :=
  truncf .bf16 (concatenate S8x4096x6016 2
    [⟨S8x4096x1536, extractStridedSlice S8x4096x1536 ![0, 0, 1024] u slices_S8x4096x5920_S8x4096x1536_0_0_1024⟩,
     ⟨S8x4096x1536, extractStridedSlice S8x4096x1536 ![0, 0, 3872] u slices_S8x4096x5920_S8x4096x1536_0_0_3872⟩,
     ⟨S8x4096x1024, extractStridedSlice S8x4096x1024 ![0, 0, 0] u slices_S8x4096x5920_S8x4096x1024_0_0_0⟩,
     ⟨S8x4096x512, queries u⟩,
     ⟨S8x4096x512, paired (extractStridedSlice S8x4096x512 ![0, 0, 3360] u slices_S8x4096x5920_S8x4096x512_0_0_3360)⟩,
     ⟨S8x4096x512, extractStridedSlice S8x4096x512 ![0, 0, 5408] u slices_S8x4096x5920_S8x4096x512_0_0_5408⟩,
     ⟨S8x4096x128, extractStridedSlice S8x4096x128 ![0, 0, 3104] u slices_S8x4096x5920_S8x4096x128_0_0_3104⟩,
     ⟨S8x4096x128, extractStridedSlice S8x4096x128 ![0, 0, 3232] u slices_S8x4096x5920_S8x4096x128_0_0_3232⟩,
     ⟨S8x4096x32, extractStridedSlice S8x4096x32 ![0, 0, 2560] u slices_S8x4096x5920_S8x4096x32_0_0_2560⟩,
     ⟨S8x4096x96, broadcastInDim S8x4096x96 ![] bcast_S_S8x4096x96 (constant S_ .f32 0x00000000#32)⟩]
    concatenates_S8x4096x1536_S8x4096x1536_S8x4096x1024_S8x4096x512_S8x4096x512_S8x4096x512_S8x4096x128_S8x4096x128_S8x4096x32_S8x4096x96_S8x4096x6016_d2) bitsLt_bf16_f32

/-- One word at every query and key of a block. -/
def every (w : BitVec 32) : IVec S128x384 32 := broadcastInDim S128x384 ![] bcast_S_S128x384 (constantI S_ 32 w)
def everyBit (b : BitVec 1) : IVec S128x384 1 := broadcastInDim S128x384 ![] bcast_S_S128x384 (constantI S_ 1 b)

/-- The key's number, and its distance from the query. -/
def keyNo : IVec S128x384 32 := iotaInDim S128x384 32 1
def distance : IVec S128x384 32 := subi (subi keyNo (every 128#32)) (iotaInDim S128x384 32 0)

/-- Whether a word is at least `t`, as a number. -/
def atLeast (w : IVec S128x384 32) (t : BitVec 32) : IVec S128x384 32 := extui 32 (cmpi .sge w (every t)) natLt_1_32

/-- The distance's bucket: exact below 8, then by thresholds; the keys behind after those ahead. -/
def bucket : IVec S128x384 32 :=
  addi (muli (extui 32 (cmpi .sgt distance (every 0#32)) natLt_1_32) (every 16#32))
    (select (cmpi .slt (absi distance) (every 8#32)) (absi distance)
      (addi (every 8#32) (addi (addi (addi (addi (addi (addi (addi (every 0#32) (atLeast (absi distance) 12#32)) (atLeast (absi distance) 16#32))
        (atLeast (absi distance) 23#32)) (atLeast (absi distance) 32#32)) (atLeast (absi distance) 46#32)) (atLeast (absi distance) 64#32)) (atLeast (absi distance) 91#32))))

/-- The bias of every head, query and key, in base 2. -/
def bias (b : FVec Ideal S32x8 .f32) : FVec Ideal S8x128x384 .f32 :=
  mulf (Host.dotGeneral dot_S32x8_S32x128x384_S8x128x384_0_0_1_12_n_n (some .fp32) b
      (uitofp .f32 (cmpi .eq (broadcastInDim S32x128x384 ![0, 1, 2] bcast_S1x128x384_S32x128x384_0_1_2 (broadcastInDim S1x128x384 ![1, 2] bcast_S128x384_S1x128x384_1_2 bucket))
        (broadcastInDim S32x128x384 ![0, 1, 2] bcast_S32x1x1_S32x128x384_0_1_2 (broadcastInDim S32x1x1 ![0] bcast_S32_S32x1x1_0 (iotaInDim S32 32 0))))))
    (broadcastInDim S8x128x384 ![] bcast_S_S8x128x384 unitLog)

/-- The keys a query may take, at the sequence's first block (`f`) and at its last (`l`). -/
def allowed (f l : BitVec 1) : IVec S128x384 1 :=
  andi (andi (cmpi .sle (absi distance) (every 128#32)) (noti (andi (everyBit f) (cmpi .slt keyNo (every 128#32)))))
    (noti (andi (everyBit l) (cmpi .sge keyNo (every 256#32))))

/-- The bias with the keys out of reach at `-∞`. -/
def masked (b : FVec Ideal S8x128x384 .f32) (f l : BitVec 1) : FVec Ideal S1x8x128x384 .f32 :=
  broadcastInDim S1x8x128x384 ![1, 2, 3] bcast_S8x128x384_S1x8x128x384_1_2_3
    (select (broadcastInDim S8x128x384 ![0, 1, 2] bcast_S1x128x384_S8x128x384_0_1_2 (broadcastInDim S1x128x384 ![1, 2] bcast_S128x384_S1x128x384_1_2 (allowed f l))) b
      (broadcastInDim S8x128x384 ![] bcast_S_S8x128x384 (constant (F := Ideal) S_ .f32 0xFF800000#32)))

/-- The bias for the four places, keys down. -/
def biases (b : FVec Ideal S8x128x384 .f32) : FVec Ideal S4x8x384x128 .f32 :=
  transpose S4x8x384x128 [0, 1, 3, 2] (concatenate S4x8x128x384 0
    [⟨S1x8x128x384, masked b 0#1 0#1⟩, ⟨S1x8x128x384, masked b 1#1 0#1⟩, ⟨S1x8x128x384, masked b 0#1 1#1⟩, ⟨S1x8x128x384, masked b 1#1 1#1⟩]
    concatenates_S1x8x128x384_S1x8x128x384_S1x8x128x384_S1x8x128x384_S4x8x128x384_d0) transposes_S4x8x128x384_S4x8x384x128_0_1_3_2

theorem v28_entry (c : Dev nD) : V m c main_v28 = sinks (m ((c : Thread nD τ).loc main_arg2)) := by
  unfold_abbrev_sides
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

theorem v22_entry (c : Dev nD) : V m c main_v22 = columns (m ((c : Thread nD τ).loc main_arg0)) := by
  unfold_abbrev_sides
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

set_option maxHeartbeats 4000000 in
theorem v151_entry (c : Dev nD) : V m c main_v151 = biases (bias (m ((c : Thread nD τ).loc main_arg1))) := by
  unfold_abbrev_sides
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

end Cert.KernelIdeal.Block
end
-- ==== Proof.AttnSpec.lean ====
module

public import Idealize.ShloMosaic.Lib.ValueIdx
public import proofs.«01_k».proof.Proof.AttnRow
public import proofs.«01_k».proof.Proof.OutprojRows

/-! # The attention at one entry

What both programs compute, said once over the arrays they are given: the columns, the bias table and the sinks. A query
of block `B` sees its own block, the block before and the block after; key `k` of the three is token `128 B + k − 128`. -/

@[expose] public section

set_option maxRecDepth 65536

noncomputable section

namespace Cert.Attn

open Idealize.ShloMosaic Idealize.ShloMosaic.ValueIdx

/-! ## Words -/

/-- How far a key is from a query, moved to be at least zero. -/
def apart (q : Fin 128) (k : Fin 384) : Fin 511 := ⟨k.val + 127 - q.val, by omega⟩

/-- The same as a word, moved back. -/
def rel (D : Fin 511) : BitVec 32 := BitVec.ofNat 32 D.val - 255#32

theorem rel_eq (q : Fin 128) (k : Fin 384) : BitVec.ofNat 32 k.val - 128#32 - BitVec.ofNat 32 q.val = rel (apart q k) := by
  have hq := q.isLt; have hk := k.isLt
  apply BitVec.eq_of_toNat_eq
  simp only [rel, apart, BitVec.toNat_sub, BitVec.toNat_ofNat]
  omega

/-- A threshold met counts one. -/
def stepK (w t : BitVec 32) : BitVec 32 := (IntOp.cmpi .sge w t).setWidth 32
def stepR (w t : BitVec 32) : BitVec 32 := Scalar.select (IntOp.cmpi .sge w t) 1#32 0#32

/-- The bucket's word from the distance's, given how a threshold is counted and how a side is chosen. -/
def codeOf (step : BitVec 32 → BitVec 32 → BitVec 32) (side : BitVec 1 → BitVec 32) (w : BitVec 32) : BitVec 32 :=
  IntOp.addi (side (IntOp.cmpi .sgt w 0#32))
    (Scalar.select (IntOp.cmpi .slt (IntOp.absi w) 8#32) (IntOp.absi w)
      (IntOp.addi 8#32 (IntOp.addi (IntOp.addi (IntOp.addi (IntOp.addi (IntOp.addi (IntOp.addi (IntOp.addi 0#32 (step (IntOp.absi w) 12#32)) (step (IntOp.absi w) 16#32))
        (step (IntOp.absi w) 23#32)) (step (IntOp.absi w) 32#32)) (step (IntOp.absi w) 46#32)) (step (IntOp.absi w) 64#32)) (step (IntOp.absi w) 91#32))))

def codeK (w : BitVec 32) : BitVec 32 := codeOf stepK (fun b => IntOp.muli (b.setWidth 32) 16#32) w
def codeR (w : BitVec 32) : BitVec 32 := codeOf stepR (fun b => Scalar.select b 16#32 0#32) w

/-- The bucket. -/
def bucketOf (D : Fin 511) : Fin 32 := ⟨(codeR (rel D)).toNat % 32, Nat.mod_lt _ (by decide)⟩

theorem codeK_eq : ∀ D : Fin 511, codeK (rel D) = BitVec.ofNat 32 (bucketOf D).val := by decide +kernel
theorem codeR_eq : ∀ D : Fin 511, codeR (rel D) = BitVec.ofNat 32 (bucketOf D).val := by decide +kernel

theorem near_eq : ∀ D : Fin 511, IntOp.cmpi .sle (IntOp.absi (rel D)) 128#32 = BitVec.ofBool (decide (127 ≤ D.val ∧ D.val ≤ 383)) := by decide +kernel

theorem first_eq : ∀ k : Fin 384, IntOp.cmpi .slt (BitVec.ofNat 32 k.val) 128#32 = BitVec.ofBool (decide (k.val < 128)) := by decide +kernel
theorem last_eq : ∀ k : Fin 384, IntOp.cmpi .sge (BitVec.ofNat 32 k.val) 256#32 = BitVec.ofBool (decide (256 ≤ k.val)) := by decide +kernel

/-- The token of key `k` of block `B`, as a word. -/
theorem place_eq (B : Fin 32) (k : Fin 384) :
    (BitVec.ofNat 32 B.val - 1#32) * 128#32 + BitVec.ofNat 32 k.val = BitVec.ofNat 32 (128 * B.val + k.val) - 128#32 := by
  have hB := B.isLt; have hk := k.isLt
  apply BitVec.eq_of_toNat_eq
  simp only [BitVec.toNat_sub, BitVec.toNat_add, BitVec.toNat_mul, BitVec.toNat_ofNat]
  omega

theorem started_eq : ∀ t : Fin 4352, IntOp.cmpi .sge (BitVec.ofNat 32 t.val - 128#32) 0#32 = BitVec.ofBool (decide (128 ≤ t.val)) := by decide +kernel
theorem ended_eq : ∀ t : Fin 4352, IntOp.cmpi .slt (BitVec.ofNat 32 t.val - 128#32) 4096#32 = BitVec.ofBool (decide (t.val < 4224)) := by decide +kernel

/-! ## One entry -/

/-- Whether query `q` of block `B` may take key `k`: within 128 tokens, and inside the sequence. -/
def ok (B : Fin 32) (q : Fin 128) (k : Fin 384) : Prop :=
  (127 ≤ (apart q k).val ∧ (apart q k).val ≤ 383) ∧ 128 ≤ 128 * B.val + k.val ∧ 128 * B.val + k.val < 4224

instance (B : Fin 32) (q : Fin 128) : DecidablePred (ok B q) := fun _ => instDecidableAnd

abbrev Cols := (⟨3, ![8, 4096, 5920]⟩ : Shape).Idx → EReal
abbrev Table := (⟨2, ![32, 8]⟩ : Shape).Idx → EReal
abbrev Sinks := (⟨1, ![8]⟩ : Shape).Idx → EReal

/-- Column `o` at key `k` of block `B`, zero outside the sequence. -/
def near (u : Cols) (b : Fin 8) (B : Fin 32) (k : Fin 384) (o : Fin 5920) : EReal :=
  if h : 128 ≤ 128 * B.val + k.val ∧ 128 * B.val + k.val < 4224 then u (ix3 b ⟨128 * B.val + k.val - 128, by omega⟩ o) else 0

/-- Query `q` of block `B` in the sequence. -/
def tok (B : Fin 32) (q : Fin 128) : Fin 4096 := ⟨128 * B.val + q.val, by omega⟩

/-- The columns of a head's entries: group `g`, head `r` of the group, entry `d`. -/
def qCol (g : Fin 2) (r : Fin 4) (d : Fin 64) : Fin 5920 := ⟨2592 + (256 * g.val + 64 * r.val + d.val), by omega⟩
def kCol (g : Fin 2) (d : Fin 64) : Fin 5920 := ⟨3104 + (64 * g.val + d.val), by omega⟩
def vCol (g : Fin 2) (d : Fin 64) : Fin 5920 := ⟨3232 + (64 * g.val + d.val), by omega⟩
def gCol (c : Fin 512) : Fin 5920 := ⟨3360 + c.val, by omega⟩
def hd (g : Fin 2) (r : Fin 4) : Fin 8 := ⟨4 * g.val + r.val, by omega⟩

/-- A score before masking. -/
def score (u : Cols) (rb : Table) (b : Fin 8) (B : Fin 32) (q : Fin 128) (g : Fin 2) (r : Fin 4) (k : Fin 384) : EReal :=
  (∑ d : Fin 64, near u b B k (kCol g d) * u (ix3 b (tok B q) (qCol g r d))) * Ideal.ofBits .f32 0x3E000000#32
    + rb (ix2 (bucketOf (apart q k)) (hd g r))

/-- A score. -/
def scoreM (u : Cols) (rb : Table) (b : Fin 8) (B : Fin 32) (q : Fin 128) (g : Fin 2) (r : Fin 4) (k : Fin 384) : EReal :=
  if ok B q k then score u rb b B q g r k else ⊥

/-- A head's output. -/
def headOut (u : Cols) (rb : Table) (sk : Sinks) (b : Fin 8) (B : Fin 32) (q : Fin 128) (g : Fin 2) (r : Fin 4) (d : Fin 64) : EReal :=
  AttnRow.soft (scoreM u rb b B q g r) (sk (ix1 (hd g r))) (fun k => near u b B k (vCol g d))

/-- The gated output of a token, heads in their order. -/
def gatedOut (u : Cols) (rb : Table) (sk : Sinks) (b : Fin 8) (B : Fin 32) (q : Fin 128) (c : Fin 512) : EReal :=
  headOut u rb sk b B q ⟨c.val / 256, by omega⟩ ⟨c.val / 64 % 4, by omega⟩ ⟨c.val % 64, by omega⟩
    * OutRow.silu (u (ix3 b (tok B q) (gCol c)))

/-- The place, heads in order, of place `c`, heads in pairs. -/
def unpair (c : Fin 512) : Fin 512 := ⟨256 * (c.val / 64 % 2) + 64 * (c.val / 128) + c.val % 64, by omega⟩
def repair (c : Fin 512) : Fin 512 := ⟨128 * (c.val / 64 % 4) + 64 * (c.val / 256) + c.val % 64, by omega⟩

theorem repair_unpair : ∀ c : Fin 512, repair (unpair c) = c := by decide +kernel
theorem unpair_repair : ∀ c : Fin 512, unpair (repair c) = c := by decide +kernel

def pairing : Fin 512 ≃ Fin 512 := ⟨unpair, repair, repair_unpair, unpair_repair⟩

/-- The normal form does not depend on the order. -/
theorem unit_pair (y : Fin 512 → EReal) (c : Fin 512) : OutRow.unit (fun c => y (unpair c)) c = OutRow.unit y (unpair c) := by
  unfold OutRow.unit
  refine congrArg (fun z : EReal => y (unpair c) * Ideal.rsqrt (Ideal.div z (Ideal.ofBits .f32 0x44000000#32) + Ideal.ofBits .f32 0x358637BD#32)) ?_
  exact Equiv.sum_comp pairing fun c => y c * y c

/-- Heads put in pairs, read at a place. -/
theorem paired_at {α : Type} (x : (⟨3, ![8, 4096, 512]⟩ : Shape).Idx → α) (h1 : (⟨3, ![8, 4096, 512]⟩ : Shape).ShapeCasts ⟨5, ![8, 4096, 2, 4, 64]⟩)
    (h2 : (⟨5, ![8, 4096, 2, 4, 64]⟩ : Shape).Transposes [0, 1, 3, 2, 4] ⟨5, ![8, 4096, 4, 2, 64]⟩)
    (h3 : (⟨5, ![8, 4096, 4, 2, 64]⟩ : Shape).ShapeCasts ⟨3, ![8, 4096, 512]⟩) (b : Fin 8) (t : Fin 4096) (c : Fin 512) :
    shapeCast ⟨3, ![8, 4096, 512]⟩ (transpose ⟨5, ![8, 4096, 4, 2, 64]⟩ [0, 1, 3, 2, 4] (shapeCast ⟨5, ![8, 4096, 2, 4, 64]⟩ x h1) h2) h3 (ix3 b t c)
      = x (ix3 b t (unpair c)) := by
  have hb := b.isLt; have ht := t.isLt; have hc := c.isLt
  refine (shapeCast_apply _ h3 (ix3 b t c) (ix5 b t ⟨c.val / 128, by omega⟩ ⟨c.val / 64 % 2, by omega⟩ ⟨c.val % 64, by omega⟩) (by
      rewrite [Shape.rowMajor_val_five, Shape.rowMajor_val_three]
      show (((b.val * 4096 + t.val) * 4 + c.val / 128) * 2 + c.val / 64 % 2) * 64 + c.val % 64 = (b.val * 4096 + t.val) * 512 + c.val
      omega)).trans ?_
  refine (transpose_apply [0, 1, 3, 2, 4] _ h2 _
    (ix5 b t ⟨c.val / 64 % 2, by omega⟩ ⟨c.val / 128, by omega⟩ ⟨c.val % 64, by omega⟩) (fun a => match a with
    | ⟨0, _⟩ => rfl
    | ⟨1, _⟩ => rfl
    | ⟨2, _⟩ => rfl
    | ⟨3, _⟩ => rfl
    | ⟨4, _⟩ => rfl)).trans ?_
  exact shapeCast_apply x h1 _ (ix3 b t (unpair c)) (by
      rewrite [Shape.rowMajor_val_five, Shape.rowMajor_val_three]
      show (b.val * 4096 + t.val) * 512 + (256 * (c.val / 64 % 2) + 64 * (c.val / 128) + c.val % 64)
        = (((b.val * 4096 + t.val) * 2 + c.val / 64 % 2) * 4 + c.val / 128) * 64 + c.val % 64
      omega)

/-- A cast keeps its value. -/
theorem narrowed {s : Shape} (x : FVec Ideal s .f32) (h : FTy.bf16.bits < FTy.f32.bits) (i : s.Idx) : truncf .bf16 x h i = x i := rfl

/-- The result at token `tok B q`, heads in pairs. -/
def result (u : Cols) (rb : Table) (sk : Sinks) (b : Fin 8) (B : Fin 32) (q : Fin 128) (c : Fin 512) : EReal :=
  OutRow.unit (gatedOut u rb sk b B q) (unpair c)

end Cert.Attn
end
-- ==== Proof.AttnEntry.lean ====
module

public import proofs.«01_k».proof.Proof.AttnHost
public import proofs.«01_k».proof.Proof.AttnSpec

/-! # What the attention's call is given, read at an index -/

@[expose] public section

set_option maxRecDepth 65536

noncomputable section

namespace Cert.KernelIdeal.Block

open Cert.KernelIdeal Cert.KernelIdeal.Gen Idealize.ShloMosaic.TcCoe Idealize.SL.Sem
open Idealize.ShloMosaic hiding ix0 ix1 ix2 ix3 ix4 ix5
open Idealize.ShloMosaic.Tactic Idealize.ShloMosaic.ValueIdx

theorem unitLog_apply (i : S_.Idx) : unitLog i = ((AttnRow.ell : ℝ) : EReal) := AttnRow.ell_eq

theorem sinks_apply (s : FVec Ideal S8 .f32) (h : Fin 8) (q : Fin 128) : sinks s (ix2 h q) = s (ix1 h) * ((AttnRow.ell : ℝ) : EReal) := by
  unfold sinks
  refine (broadcastInDim_apply _ bcast_S8x1_S8x128_0_1 _ (ix2 h q) (ix2 h 0) (fun a => match a with
    | ⟨0, _⟩ => rfl
    | ⟨1, _⟩ => rfl)).trans ?_
  refine congrArg₂ (· * · : EReal → EReal → EReal) (broadcastInDim_apply _ bcast_S8_S8x1_0 s (ix2 h 0) (ix1 h) (fun a => match a with
    | ⟨0, _⟩ => rfl)) ?_
  exact (broadcastInDim_apply _ bcast_S_S8x1 unitLog (ix2 h 0) ix0 (fun a => a.elim0)).trans (unitLog_apply _)

theorem paired_apply (x : FVec Ideal S8x4096x512 .f32) (b : Fin 8) (t : Fin 4096) (c : Fin 512) :
    paired x (ix3 b t c) = x (ix3 b t (Attn.unpair c)) := Attn.paired_at x _ _ _ b t c

/-- A cut of the columns. -/
theorem cut_apply {C : Nat} (o : Nat) (u : FVec Ideal S8x4096x5920 .f32) (h : S8x4096x5920.Slices ![0, 0, o] ⟨3, ![8, 4096, C]⟩)
    (b : Fin 8) (t : Fin 4096) (c : Fin C) (c' : Fin 5920) (hc : c'.val = o + c.val) :
    extractStridedSlice ⟨3, ![8, 4096, C]⟩ ![0, 0, o] u h (ix3 b t c) = u (ix3 b t c') :=
  extractStridedSlice_apply ![0, 0, o] u h (ix3 b t c) (ix3 b t c') fun a => match a with
    | ⟨0, _⟩ => (Nat.zero_add _).symm
    | ⟨1, _⟩ => (Nat.zero_add _).symm
    | ⟨2, _⟩ => hc

/-- The pieces of the columns agree off the joined axis. -/
theorem cols_off {C : Nat} (b : Fin 8) (t : Fin 4096) (c : Fin C) (c' : Fin 6016) (a : Fin 3) (ha : a ≠ 2) :
    (ix3 b t c a).val = (ix3 b t c' a).val :=
  match a, ha with
  | ⟨0, _⟩, _ => rfl
  | ⟨1, _⟩, _ => rfl
  | ⟨2, _⟩, ha => absurd rfl ha

theorem columns_q (u : FVec Ideal S8x4096x5920 .f32) (b : Fin 8) (t : Fin 4096) (c : Fin 512) :
    columns u (ix3 b t ⟨4096 + c.val, by omega⟩)
      = u (ix3 b t ⟨2592 + (Attn.unpair c).val, by omega⟩) * (((1 / 8 : ℝ) : EReal) * ((AttnRow.ell : ℝ) : EReal)) := by
  unfold columns
  refine (Attn.narrowed _ _ _).trans ?_
  refine (concatenate_apply_piece (t := S8x4096x6016) 2 _ _ _ 3 (by simp) S8x4096x512 _ rfl rfl 4096 rfl (ix3 b t c) (cols_off b t c _) rfl).trans ?_
  refine congrArg₂ (· * · : EReal → EReal → EReal) ((paired_apply _ b t c).trans (cut_apply 2592 u _ b t _ _ rfl)) ?_
  refine (broadcastInDim_apply _ bcast_S_S8x4096x512 _ (ix3 b t c) ix0 (fun a => a.elim0)).trans ?_
  exact congrArg₂ (· * · : EReal → EReal → EReal) AttnRow.eighth (unitLog_apply _)

theorem columns_g (u : FVec Ideal S8x4096x5920 .f32) (b : Fin 8) (t : Fin 4096) (c : Fin 512) :
    columns u (ix3 b t ⟨4608 + c.val, by omega⟩) = u (ix3 b t (Attn.gCol (Attn.unpair c))) := by
  unfold columns
  refine (Attn.narrowed _ _ _).trans ?_
  refine (concatenate_apply_piece (t := S8x4096x6016) 2 _ _ _ 4 (by simp) S8x4096x512 _ rfl rfl 4608 rfl (ix3 b t c) (cols_off b t c _) rfl).trans ?_
  exact (paired_apply _ b t c).trans (cut_apply 3360 u _ b t _ _ rfl)

theorem columns_k (u : FVec Ideal S8x4096x5920 .f32) (b : Fin 8) (t : Fin 4096) (l : Fin 128) :
    columns u (ix3 b t ⟨5632 + l.val, by omega⟩) = u (ix3 b t ⟨3104 + l.val, by omega⟩) := by
  unfold columns
  refine (Attn.narrowed _ _ _).trans ?_
  refine (concatenate_apply_piece (t := S8x4096x6016) 2 _ _ _ 6 (by simp) S8x4096x128 _ rfl rfl 5632 rfl (ix3 b t l) (cols_off b t l _) rfl).trans ?_
  exact cut_apply 3104 u _ b t _ _ rfl

theorem columns_v (u : FVec Ideal S8x4096x5920 .f32) (b : Fin 8) (t : Fin 4096) (l : Fin 128) :
    columns u (ix3 b t ⟨5760 + l.val, by omega⟩) = u (ix3 b t ⟨3232 + l.val, by omega⟩) := by
  unfold columns
  refine (Attn.narrowed _ _ _).trans ?_
  refine (concatenate_apply_piece (t := S8x4096x6016) 2 _ _ _ 7 (by simp) S8x4096x128 _ rfl rfl 5760 rfl (ix3 b t l) (cols_off b t l _) rfl).trans ?_
  exact cut_apply 3232 u _ b t _ _ rfl

/-! ## The bias -/

theorem distance_apply (q : Fin 128) (k : Fin 384) : distance (ix2 q k) = Attn.rel (Attn.apart q k) := Attn.rel_eq q k

theorem bucket_apply (q : Fin 128) (k : Fin 384) : bucket (ix2 q k) = BitVec.ofNat 32 (Attn.bucketOf (Attn.apart q k)).val := by
  have h : bucket (ix2 q k) = Attn.codeK (distance (ix2 q k)) := rfl
  rw [h, distance_apply]
  exact Attn.codeK_eq _

/-- A bucket's mark. -/
theorem mark_eq : ∀ j e : Fin 32, (IntOp.cmpi .eq (BitVec.ofNat 32 e.val) (BitVec.ofNat 32 j.val)).toNat = if j = e then 1 else 0 := by decide +kernel

theorem bias_apply (t : FVec Ideal S32x8 .f32) (h : Fin 8) (q : Fin 128) (k : Fin 384) :
    bias t (ix3 h q k) = t (ix2 (Attn.bucketOf (Attn.apart q k)) h) * ((AttnRow.ell : ℝ) : EReal) := by
  unfold bias
  refine congrArg₂ (· * · : EReal → EReal → EReal) ?_
    ((broadcastInDim_apply _ bcast_S_S8x128x384 unitLog (ix3 h q k) ix0 (fun a => a.elim0)).trans (unitLog_apply _))
  simp only [Host.dotGeneral]
  rw [Ideal.dotGeneral_apply, ← Equiv.sum_comp (ValueIdx.contrEquiv1 dot_S32x8_S32x128x384_S8x128x384_0_0_1_12_n_n 32 rfl rfl).symm]
  refine (Finset.sum_congr rfl fun j _ => ?_).trans (Finset.sum_ite_eq' Finset.univ (Attn.bucketOf (Attn.apart q k)) fun j => t (ix2 j h)) |>.trans (if_pos (Finset.mem_univ _))
  have hj := ValueIdx.contrEquiv1_symm_val dot_S32x8_S32x128x384_S8x128x384_0_0_1_12_n_n 32 rfl rfl j
  have el : dot_S32x8_S32x128x384_S8x128x384_0_0_1_12_n_n.lhsIdx (ix3 h q k) ((ValueIdx.contrEquiv1 dot_S32x8_S32x128x384_S8x128x384_0_0_1_12_n_n 32 rfl rfl).symm j) = ix2 j h :=
    funext fun a => Fin.ext (by
      match a with
      | ⟨0, _⟩ => exact (dot_S32x8_S32x128x384_S8x128x384_0_0_1_12_n_n.lhsIdx_val_of_single rfl _ _).trans hj
      | ⟨1, _⟩ => rfl)
  have er : dot_S32x8_S32x128x384_S8x128x384_0_0_1_12_n_n.rhsIdx (ix3 h q k) ((ValueIdx.contrEquiv1 dot_S32x8_S32x128x384_S8x128x384_0_0_1_12_n_n 32 rfl rfl).symm j) = ix3 j q k :=
    funext fun a => Fin.ext (by
      match a with
      | ⟨0, _⟩ => exact (dot_S32x8_S32x128x384_S8x128x384_0_0_1_12_n_n.rhsIdx_val_of_single rfl _ _).trans hj
      | ⟨1, _⟩ => rfl
      | ⟨2, _⟩ => rfl)
  rw [el, er]
  have hw : ∀ x y : BitVec 32, x = BitVec.ofNat 32 (Attn.bucketOf (Attn.apart q k)).val → y = BitVec.ofNat 32 j.val →
      t (ix2 j h) * ((((IntOp.cmpi .eq x y).toNat : ℝ)) : EReal) = if j = Attn.bucketOf (Attn.apart q k) then t (ix2 j h) else 0 := by
    rintro x y rfl rfl
    rw [mark_eq]
    split
    · simp
    · simp
  refine hw _ _ ?_ ?_
  · refine (broadcastInDim_apply _ bcast_S1x128x384_S32x128x384_0_1_2 _ (ix3 j q k) (ix3 0 q k) (fun a => match a with
      | ⟨0, _⟩ => rfl
      | ⟨1, _⟩ => rfl
      | ⟨2, _⟩ => rfl)).trans ?_
    refine (broadcastInDim_apply _ bcast_S128x384_S1x128x384_1_2 bucket (ix3 0 q k) (ix2 q k) (fun a => match a with
      | ⟨0, _⟩ => rfl
      | ⟨1, _⟩ => rfl)).trans (bucket_apply q k)
  · refine (broadcastInDim_apply _ bcast_S32x1x1_S32x128x384_0_1_2 _ (ix3 j q k) (ix3 j 0 0) (fun a => match a with
      | ⟨0, _⟩ => rfl
      | ⟨1, _⟩ => rfl
      | ⟨2, _⟩ => rfl)).trans ?_
    exact broadcastInDim_apply _ bcast_S32_S32x1x1_0 _ (ix3 j 0 0) (ix1 j) (fun a => match a with
      | ⟨0, _⟩ => rfl)

/-- Which keys a query may take at a block's place. -/
def okAt (v : Fin 4) (q : Fin 128) (k : Fin 384) : Prop :=
  (127 ≤ (Attn.apart q k).val ∧ (Attn.apart q k).val ≤ 383) ∧ ¬(v.val % 2 = 1 ∧ k.val < 128) ∧ ¬(v.val / 2 = 1 ∧ 256 ≤ k.val)

instance (v : Fin 4) (q : Fin 128) : DecidablePred (okAt v q) := fun _ => instDecidableAnd

theorem bits_and (a b c d e : Bool) :
    BitVec.ofBool a &&& ~~~(BitVec.ofBool b &&& BitVec.ofBool c) &&& ~~~(BitVec.ofBool d &&& BitVec.ofBool e)
      = BitVec.ofBool (a && !(b && c) && !(d && e)) := by
  revert a b c d e; decide

theorem allowed_apply (v : Fin 4) (q : Fin 128) (k : Fin 384) :
    allowed (BitVec.ofBool (decide (v.val % 2 = 1))) (BitVec.ofBool (decide (v.val / 2 = 1))) (ix2 q k) = BitVec.ofBool (decide (okAt v q k)) := by
  have h : ∀ f l : BitVec 1, allowed f l (ix2 q k) = IntOp.cmpi .sle (IntOp.absi (distance (ix2 q k))) 128#32
      &&& ~~~(f &&& IntOp.cmpi .slt (BitVec.ofNat 32 k.val) 128#32) &&& ~~~(l &&& IntOp.cmpi .sge (BitVec.ofNat 32 k.val) 256#32) := fun _ _ => rfl
  rw [h, distance_apply, Attn.near_eq, Attn.first_eq, Attn.last_eq, bits_and]
  congr 1
  rw [Bool.eq_iff_iff, decide_eq_true_iff]
  unfold okAt
  simp [and_assoc]
  omega

theorem masked_apply (B : FVec Ideal S8x128x384 .f32) (v : Fin 4) (f l : BitVec 1) (hf : f = BitVec.ofBool (decide (v.val % 2 = 1)))
    (hl : l = BitVec.ofBool (decide (v.val / 2 = 1))) (h : Fin 8) (q : Fin 128) (k : Fin 384) :
    masked B f l (ix4 0 h q k) = if okAt v q k then B (ix3 h q k) else ⊥ := by
  subst hf hl
  unfold masked
  refine (broadcastInDim_apply _ bcast_S8x128x384_S1x8x128x384_1_2_3 _ (ix4 0 h q k) (ix3 h q k) (fun a => match a with
    | ⟨0, _⟩ => rfl
    | ⟨1, _⟩ => rfl
    | ⟨2, _⟩ => rfl)).trans ?_
  have hb := (broadcastInDim_apply _ bcast_S1x128x384_S8x128x384_0_1_2
    (broadcastInDim S1x128x384 ![1, 2] bcast_S128x384_S1x128x384_1_2 (allowed (BitVec.ofBool (decide (v.val % 2 = 1))) (BitVec.ofBool (decide (v.val / 2 = 1)))))
    (ix3 h q k) (ix3 0 q k) (fun a => match a with
    | ⟨0, _⟩ => rfl
    | ⟨1, _⟩ => rfl
    | ⟨2, _⟩ => rfl)).trans
    ((broadcastInDim_apply _ bcast_S128x384_S1x128x384_1_2 _ (ix3 0 q k) (ix2 q k) (fun a => match a with
    | ⟨0, _⟩ => rfl
    | ⟨1, _⟩ => rfl)).trans (allowed_apply v q k))
  refine (congrArg (fun w : BitVec 1 => Scalar.select w (B (ix3 h q k)) _) hb).trans ?_
  by_cases hk : okAt v q k
  · rw [if_pos hk, decide_eq_true hk]; rfl
  · rw [if_neg hk, decide_eq_false hk]; exact AttnRow.negInf

theorem biases_apply (B : FVec Ideal S8x128x384 .f32) (v : Fin 4) (h : Fin 8) (k : Fin 384) (q : Fin 128) :
    biases B (ix4 v h k q) = if okAt v q k then B (ix3 h q k) else ⊥ := by
  unfold biases
  refine (transpose_apply [0, 1, 3, 2] _ transposes_S4x8x128x384_S4x8x384x128_0_1_3_2 (ix4 v h k q) (ix4 v h q k) (fun a => match a with
    | ⟨0, _⟩ => rfl
    | ⟨1, _⟩ => rfl
    | ⟨2, _⟩ => rfl
    | ⟨3, _⟩ => rfl)).trans ?_
  have off : ∀ (v : Fin 4) (a : Fin 4), a ≠ 0 → (ix4 (0 : Fin 1) h q k a).val = (ix4 v h q k a).val := fun v a ha =>
    match a, ha with
    | ⟨0, _⟩, ha => absurd rfl ha
    | ⟨1, _⟩, _ => rfl
    | ⟨2, _⟩, _ => rfl
    | ⟨3, _⟩, _ => rfl
  match v with
  | ⟨0, _⟩ => exact (concatenate_apply_piece (t := S4x8x128x384) 0 _ _ _ 0 (by simp) S1x8x128x384 _ rfl rfl 0 rfl (ix4 0 h q k) (off _) rfl).trans (masked_apply B 0 0#1 0#1 rfl rfl h q k)
  | ⟨1, _⟩ => exact (concatenate_apply_piece (t := S4x8x128x384) 0 _ _ _ 1 (by simp) S1x8x128x384 _ rfl rfl 1 rfl (ix4 0 h q k) (off _) rfl).trans (masked_apply B 1 1#1 0#1 rfl rfl h q k)
  | ⟨2, _⟩ => exact (concatenate_apply_piece (t := S4x8x128x384) 0 _ _ _ 2 (by simp) S1x8x128x384 _ rfl rfl 2 rfl (ix4 0 h q k) (off _) rfl).trans (masked_apply B 2 0#1 1#1 rfl rfl h q k)
  | ⟨3, _⟩ => exact (concatenate_apply_piece (t := S4x8x128x384) 0 _ _ _ 3 (by simp) S1x8x128x384 _ rfl rfl 3 rfl (ix4 0 h q k) (off _) rfl).trans (masked_apply B 3 1#1 1#1 rfl rfl h q k)

end Cert.KernelIdeal.Block
end
-- ==== Proof.AttnRead.lean ====
module

public import proofs.«01_k».proof.Proof.AttnBody
public import proofs.«01_k».proof.Proof.AttnRow

/-! # A block of the attention, read at an index

Row `q`, lane `l` of pair `j`: the softmax of one head in base 2, gated and normalised over its row. -/

@[expose] public section

set_option maxRecDepth 65536

noncomputable section

namespace Cert.KernelIdeal.Block

open Cert.KernelIdeal Cert.KernelIdeal.Gen Idealize.ShloMosaic Idealize.ShloMosaic.TcCoe Idealize.SL.Sem
open Idealize.ShloMosaic.Tactic Idealize.ShloMosaic.ValueIdx

/-! ## Down a column -/

theorem as_row {α : Type} {C : Nat} (x : (⟨1, ![C]⟩ : Shape).Idx → α) (h : (⟨1, ![C]⟩ : Shape).ShapeCasts ⟨2, ![1, C]⟩) (q : Fin C) :
    shapeCast ⟨2, ![1, C]⟩ x h (ix2 0 q) = x (ix1 q) :=
  (shapeCast_addUnit_apply ![C] x h (ix2 0 q)).trans (congrArg x (funext fun a => match a with | ⟨0, _⟩ => rfl))

theorem col_sum {R C : Nat} (src : FVec Ideal ⟨2, ![R, C]⟩ .f32) (acc : BitVec 32)
    (h : (⟨2, ![R, C]⟩ : Shape).Reduces [0] ⟨1, ![C]⟩) (hφ : FKind.Formats .f32) (hacc : acc = FKind.add.neutral .f32 hφ) (q : Fin C) :
    multiReduction .add [0] ⟨1, ![C]⟩ src acc h hφ hacc (ix1 q) = ∑ k : Fin R, src (ix2 k q) := by
  rw [Ideal.multiReduction_add_single]
  refine Finset.sum_congr rfl fun k _ => congrArg src ?_
  funext a; apply Fin.ext
  match a with
  | ⟨0, _⟩ => rfl
  | ⟨1, _⟩ => rfl

theorem col_max {R C : Nat} (src : FVec Ideal ⟨2, ![R, C]⟩ .f32) (acc : BitVec 32)
    (h : (⟨2, ![R, C]⟩ : Shape).Reduces [0] ⟨1, ![C]⟩) (hφ : FKind.Formats .f32) (hacc : acc = FKind.maximumf.neutral .f32 hφ) (q : Fin C) :
    multiReduction .maximumf [0] ⟨1, ![C]⟩ src acc h hφ hacc (ix1 q) = Finset.univ.fold max (Ideal.ofBits .f32 acc) fun k : Fin R => src (ix2 k q) := by
  rw [Ideal.multiReduction_maximumf_single]
  refine congrArg (fun f => Finset.univ.fold max (Ideal.ofBits .f32 acc) f) (funext fun k => congrArg src ?_)
  funext a; apply Fin.ext
  match a with
  | ⟨0, _⟩ => rfl
  | ⟨1, _⟩ => rfl

/-! ## One head, a pair, the four pairs -/

theorem head_apply (vt : FVec Ideal S128x384 .bf16) (s : FVec Ideal S384x128 .f32) (sk : FVec Ideal S1x128 .f32) (l q : Fin 128) :
    head vt s sk (ix2 l q) = AttnRow.soft2 (fun k => s (ix2 k q)) (sk (ix2 0 q)) (fun k => vt (ix2 l k)) := by
  have hm : (maximumf (shapeCast S1x128 (multiReduction .maximumf [0] S128 s 0xFF800000#32 reduces_S384x128_S128 (.inl rfl) rfl) shapeCasts_S128_S1x128) sk : FVec Ideal S1x128 .f32) (ix2 0 q)
      = AttnRow.top (fun k => s (ix2 k q)) (sk (ix2 0 q)) :=
    congrArg (fun m : EReal => max m (sk (ix2 0 q))) ((as_row _ _ q).trans (col_max s _ _ _ _ q))
  unfold head
  dsimp only
  revert hm
  generalize (maximumf (shapeCast S1x128 (multiReduction .maximumf [0] S128 s 0xFF800000#32 reduces_S384x128_S128 (.inl rfl) rfl) shapeCasts_S128_S1x128) sk : FVec Ideal S1x128 .f32) = m
  intro hm
  have hp : ∀ k : Fin 384, (exp2 (subf s (broadcastTo S384x128 m broadcasts_S1x128_S384x128)) : FVec Ideal S384x128 .f32) (ix2 k q)
      = Ideal.exp2 (s (ix2 k q) - AttnRow.top (fun k => s (ix2 k q)) (sk (ix2 0 q))) := fun k =>
    congrArg (fun m : EReal => Ideal.exp2 (s (ix2 k q) - m)) ((Layout.spread_row m _ (ix2 k q)).trans hm)
  refine congrArg₂ (· * · : EReal → EReal → EReal) ((Layout.product (φ₁ := .bf16) (φ₂ := .bf16) none vt _ l q).trans
    (Finset.sum_congr rfl fun k _ => congrArg (vt (ix2 l k) * ·) (hp k))) ?_
  refine (Layout.spread_row _ _ (ix2 l q)).trans ?_
  refine congrArg (Ideal.div (Ideal.ofBits .f32 0x3F800000#32)) ?_
  refine congrArg₂ (· + · : EReal → EReal → EReal) ((as_row _ _ q).trans ((col_sum _ _ _ _ _ q).trans (Finset.sum_congr rfl fun k _ => hp k))) ?_
  exact congrArg (fun m : EReal => Ideal.exp2 (sk (ix2 0 q) - m)) hm

theorem dots_apply (kst : FVec Ideal S768x128 .bf16) (q : FVec Ideal S128x128 .bf16) (k : Fin 768) (r : Fin 128) :
    dots kst q (ix2 k r) = ∑ l : Fin 128, kst (ix2 k l) * q (ix2 r l) := by
  refine (Ideal.matmul_transposedRhs_apply (φ₁ := .bf16) (φ₂ := .bf16) none kst q _ k r).trans ?_
  show Ideal.ofBits .f32 0x00000000#32 + _ = _
  rw [Ideal.ofBits_zero_f32, zero_add]

/-- One head's scores, from its copy of the keys, its queries and its bias. -/
def scores (key : Fin 384 → Fin 128 → EReal) (q : Fin 128 → EReal) (b : Fin 384 → EReal) (k : Fin 384) : EReal :=
  ∑ l : Fin 128, key k l * q l + b k

theorem scores_apply (kst : FVec Ideal S768x128 .bf16) (q : FVec Ideal S128x128 .bf16) (b : Vec Ideal S1x1x384x128 .f32) (o : Nat) (ho : o ≤ 384)
    (h : S768x128.Slices ![o, 0] S384x128) (k : Fin 384) (r : Fin 128) :
    (addf (extractStridedSlice S384x128 ![o, 0] (dots kst q) h) (shapeCast S384x128 b shapeCasts_S1x1x384x128_S384x128) : FVec Ideal S384x128 .f32) (ix2 k r)
      = scores (fun k l => kst (ix2 ⟨o + k.val, by omega⟩ l)) (fun l => q (ix2 r l)) (fun k => b (ix4 0 0 k r)) k := by
  refine congrArg₂ (· + · : EReal → EReal → EReal) ((extractStridedSlice_apply ![o, 0] (dots kst q) h (ix2 k r) (ix2 ⟨o + k.val, by omega⟩ r) (fun a => match a with
    | ⟨0, _⟩ => rfl
    | ⟨1, _⟩ => (Nat.zero_add _).symm)).trans (dots_apply kst q _ r)) ?_
  exact shapeCast_apply b _ (ix2 k r) (ix4 0 0 k r) (by
    show Shape.rankPi ![1, 1, 384, 128] (ix4 0 0 k r) = Shape.rankPi ![384, 128] (ix2 k r)
    simp [Shape.rankPi, Shape.prodPi, ix4, ix2])

theorem row_mask (l q : Fin 128) : k0_pay24 (ix2 l q) = if l.val < 64 then 1#1 else 0#1 := by
  unfold k0_pay24
  show Scalar.cmpi .slt (iota .tc S128x128 32 [0] iota_S128x128_d0_w32 (ix2 l q)) 64#32 = _
  rw [iota_single_apply]
  exact lane_bit l

theorem pair_apply (kst : FVec Ideal S768x128 .bf16) (vt : FVec Ideal S128x384 .bf16) (q : FVec Ideal S128x128 .bf16)
    (b0 b1 : Vec Ideal S1x1x384x128 .f32) (s0 s1 : Vec Ideal S1x128 .f32) (r l : Fin 128) :
    pair kst vt q b0 b1 s0 s1 (ix2 r l)
      = if l.val < 64 then AttnRow.soft2 (scores (fun k l => kst (ix2 ⟨k.val, by omega⟩ l)) (fun l => q (ix2 r l)) (fun k => b0 (ix4 0 0 k r))) (s0 (ix2 0 r)) (fun k => vt (ix2 l k))
        else AttnRow.soft2 (scores (fun k l => kst (ix2 ⟨384 + k.val, by omega⟩ l)) (fun l => q (ix2 r l)) (fun k => b1 (ix4 0 0 k r))) (s1 (ix2 0 r)) (fun k => vt (ix2 l k)) := by
  unfold pair
  refine (transpose_apply [1, 0] _ transposes_S128x128_p1_0_S128x128 (ix2 r l) (ix2 l r) (fun b => match b with
    | ⟨0, _⟩ => rfl
    | ⟨1, _⟩ => rfl)).trans ?_
  show (if k0_pay24 (ix2 l r) = 1#1 then _ else _) = _
  rw [row_mask]
  by_cases hl : l.val < 64
  · rw [if_pos hl, if_pos hl, if_pos rfl]
    refine (head_apply _ _ _ l r).trans ?_
    rw [shapeCast_self]
    refine congrArg (fun s => AttnRow.soft2 s (s0 (ix2 0 r)) (fun k => vt (ix2 l k))) (funext fun k => (scores_apply kst q b0 0 (by omega) _ k r).trans ?_)
    simp only [Nat.zero_add]
  · rw [if_neg hl, if_neg hl, if_neg (by decide)]
    refine (head_apply _ _ _ l r).trans ?_
    rw [shapeCast_self]
    exact congrArg (fun s => AttnRow.soft2 s (s1 (ix2 0 r)) (fun k => vt (ix2 l k))) (funext fun k => scores_apply kst q b1 384 (by omega) _ k r)

/-- The head of lane `l` of pair `j`. -/
def headOf (j : Fin 4) (l : Fin 128) : Fin 8 := ⟨if l.val < 64 then j.val else 4 + j.val, by split <;> omega⟩

/-- Lane `l` of pair `j`. -/
def lane (j : Fin 4) (l : Fin 128) : Fin 512 := ⟨128 * j.val + l.val, by omega⟩

/-- One head's output at a lane: keys of both copies, values, queries, biases and sinks as functions. -/
def headAt (key : Fin 384 → Fin 128 → EReal) (q : Fin 512 → EReal) (b : Fin 8 → Fin 384 → EReal) (s : Fin 8 → EReal) (v : Fin 384 → Fin 128 → EReal)
    (j : Fin 4) (l : Fin 128) : EReal :=
  AttnRow.soft2 (scores (fun k l' => if (l'.val < 64 ↔ l.val < 64) then key k l' else 0) (fun l' => q (lane j l')) (b (headOf j l))) (s (headOf j l)) (fun k => v k l)

theorem heads_piece (q : FVec Ideal S128x512 .bf16) (kst : FVec Ideal S768x128 .bf16) (vt : FVec Ideal S128x384 .bf16)
    (b : Fin 8 → Vec Ideal S1x1x384x128 .f32) (s : Fin 8 → Vec Ideal S1x128 .f32) (r : Fin 128) (j : Fin 4) (l : Fin 128) :
    ∃ h : S128x512.Slices ![0, 128 * j.val] S128x128, heads q kst vt b s (ix2 r (lane j l))
      = pair kst vt (extractStridedSlice S128x128 ![0, 128 * j.val] q h) (b ⟨j.val, by omega⟩) (b ⟨4 + j.val, by omega⟩) (s ⟨j.val, by omega⟩) (s ⟨4 + j.val, by omega⟩) (ix2 r l) := by
  have off : ∀ b : Fin 2, b ≠ 1 → ((ix2 r l : S128x128.Idx) b).val = ((ix2 r (lane j l) : S128x512.Idx) b).val := fun b hb => by
    match b with
    | ⟨0, _⟩ => rfl
    | ⟨1, _⟩ => exact absurd rfl hb
  unfold heads
  match j with
  | ⟨0, _⟩ => exact ⟨slices_S128x512_o0_0_S128x128, concatenate_apply_piece (t := S128x512) 1 _ _ _ 0 (by simp) S128x128 _ rfl rfl 0 rfl (ix2 r l) off rfl⟩
  | ⟨1, _⟩ => exact ⟨slices_S128x512_o0_128_S128x128, concatenate_apply_piece (t := S128x512) 1 _ _ _ 1 (by simp) S128x128 _ rfl rfl 128 rfl (ix2 r l) off rfl⟩
  | ⟨2, _⟩ => exact ⟨slices_S128x512_o0_256_S128x128, concatenate_apply_piece (t := S128x512) 1 _ _ _ 2 (by simp) S128x128 _ rfl rfl 256 rfl (ix2 r l) off rfl⟩
  | ⟨3, _⟩ => exact ⟨slices_S128x512_o0_384_S128x128, concatenate_apply_piece (t := S128x512) 1 _ _ _ 3 (by simp) S128x128 _ rfl rfl 384 rfl (ix2 r l) off rfl⟩

theorem heads_apply (q : FVec Ideal S128x512 .bf16) (klo khi : Vec Ideal S384x128 .bf16) (vt : FVec Ideal S128x384 .bf16)
    (b : Fin 8 → Vec Ideal S1x1x384x128 .f32) (s : Fin 8 → Vec Ideal S1x128 .f32) (key : Fin 384 → Fin 128 → EReal)
    (hlo : ∀ k l, klo (ix2 k l) = if l.val < 64 then key k l else 0) (hhi : ∀ k l, khi (ix2 k l) = if l.val < 64 then 0 else key k l)
    (r : Fin 128) (j : Fin 4) (l : Fin 128) :
    heads q (k0_pay26 klo khi) vt b s (ix2 r (lane j l))
      = headAt key (fun c => q (ix2 r c)) (fun h k => b h (ix4 0 0 k r)) (fun h => s h (ix2 0 r)) (fun k l => vt (ix2 l k)) j l := by
  obtain ⟨hs, e⟩ := heads_piece q (k0_pay26 klo khi) vt b s r j l
  refine e.trans ((pair_apply _ _ _ _ _ _ _ r l).trans ?_)
  have hq : ∀ l' : Fin 128, extractStridedSlice S128x128 ![0, 128 * j.val] q hs (ix2 r l') = q (ix2 r (lane j l')) := fun l' =>
    extractStridedSlice_apply ![0, 128 * j.val] q hs (ix2 r l') (ix2 r (lane j l')) (fun a => match a with
      | ⟨0, _⟩ => (Nat.zero_add _).symm
      | ⟨1, _⟩ => rfl)
  have off : ∀ (k : Fin 384) (k' : Fin 768) (l' : Fin 128) (b : Fin 2), b ≠ 0 → ((ix2 k l' : S384x128.Idx) b).val = ((ix2 k' l' : S768x128.Idx) b).val := fun k k' l' b hb => by
    match b with
    | ⟨0, _⟩ => exact absurd rfl hb
    | ⟨1, _⟩ => rfl
  have k0 : ∀ (k : Fin 384) (l' : Fin 128), k0_pay26 (F := Ideal) klo khi (ix2 ⟨k.val, by omega⟩ l') = klo (ix2 k l') := fun k l' => by
    unfold k0_pay26
    exact concatenate_apply_piece (t := S768x128) 0 _ _ _ 0 (by simp) S384x128 _ rfl rfl 0 rfl (ix2 k l') (off k _ l') (Nat.zero_add _)
  have k1 : ∀ (k : Fin 384) (l' : Fin 128), k0_pay26 (F := Ideal) klo khi (ix2 ⟨384 + k.val, by omega⟩ l') = khi (ix2 k l') := fun k l' => by
    unfold k0_pay26
    exact concatenate_apply_piece (t := S768x128) 0 _ _ _ 1 (by simp) S384x128 _ rfl rfl 384 rfl (ix2 k l') (off k _ l') rfl
  unfold headAt
  by_cases hl : l.val < 64
  · have hh : headOf j l = ⟨j.val, by omega⟩ := Fin.ext (if_pos hl)
    refine (if_pos hl).trans ?_
    simp only [hh, k0, hlo, hq, iff_true_intro hl, iff_true]
  · have hh : headOf j l = ⟨4 + j.val, by omega⟩ := Fin.ext (if_neg hl)
    refine (if_neg hl).trans ?_
    simp only [hh, k1, hhi, hq, iff_false_intro hl, iff_false, ite_not]

/-! ## The gate and the norm -/

theorem gated_apply (o g : FVec Ideal S128x512 .f32) (r : Fin 128) (k : Fin 512) :
    gated o g (ix3 0 r k) = OutRow.unit (fun c => o (ix2 r c) * OutRow.silu (g (ix2 r c))) k := by
  have gate : ∀ c, (mulf o (mulf g
        (divf (broadcast S128x512 (Scalar.ofBits (F := Ideal) .f32 0x3F800000#32)) (addf (broadcast S128x512 (Scalar.ofBits (F := Ideal) .f32 0x3F800000#32))
          (exp (subf (broadcast S128x512 (Scalar.ofBits (F := Ideal) .f32 0x00000000#32)) g))))) : FVec Ideal S128x512 .f32) (ix2 r c)
      = o (ix2 r c) * OutRow.silu (g (ix2 r c)) := fun c => by
    show o (ix2 r c) * (g (ix2 r c) * Ideal.div (Ideal.ofBits .f32 0x3F800000#32) (Ideal.ofBits .f32 0x3F800000#32 + Ideal.exp (Ideal.ofBits .f32 0x00000000#32 - g (ix2 r c)))) = _
    rw [Ideal.ofBits_zero_f32, zero_sub]
    rfl
  unfold gated k0_pay52
  dsimp only
  refine (shapeCast_addUnit_apply ![128, 512] _ _ (ix3 0 r k)).trans ?_
  rw [show (fun a : Fin 2 => (ix3 0 r k : S1x128x512.Idx) a.succ) = (ix2 r k : S128x512.Idx) from funext fun a => match a with
    | ⟨0, _⟩ => rfl
    | ⟨1, _⟩ => rfl]
  refine (congrArg₂ (· * · : EReal → EReal → EReal) (gate k) ((Layout.spread_col _ _ (ix2 r k)).trans (congrArg (fun s => Ideal.rsqrt (Ideal.div s (Ideal.ofBits .f32 0x44000000#32)
    + Ideal.ofBits .f32 0x358637BD#32)) ((Layout.as_col _ _ r 0).trans ((Layout.row_sum _ _ _ _ _ r).trans (Finset.sum_congr rfl fun j _ =>
      congrArg₂ (· * · : EReal → EReal → EReal) (gate j) (gate j))))))).trans ?_
  rfl

/-! ## The block -/

/-- Row `k` of the three tiles' values. -/
theorem values_apply (v : Fin 3 → Vec Ideal S1x128x128 .bf16) (i : Fin 3) (k l : Fin 128) :
    k0_pay27 (F := Ideal) (v 0) (v 1) (v 2) (ix2 l ⟨128 * i.val + k.val, by omega⟩) = v i (ix3 0 l k) := by
  have off : ∀ (i : Fin 3) (b : Fin 2), b ≠ 1 → ((ix2 l k : S128x128.Idx) b).val = ((ix2 l ⟨128 * i.val + k.val, by omega⟩ : S128x384.Idx) b).val := fun i b hb => by
    match b with
    | ⟨0, _⟩ => rfl
    | ⟨1, _⟩ => exact absurd rfl hb
  have drop : ∀ w : Vec Ideal S1x128x128 .bf16, shapeCast S128x128 w shapeCasts_S1x128x128_S128x128 (ix2 l k) = w (ix3 0 l k) := fun w =>
    (shapeCast_dropUnit_apply ![128, 128] w _ _).trans (congrArg w (funext fun a => match a with
      | ⟨0, _⟩ => rfl
      | ⟨1, _⟩ => rfl
      | ⟨2, _⟩ => rfl))
  refine Eq.trans ?_ (drop (v i))
  unfold k0_pay27
  match i with
  | ⟨0, _⟩ => exact concatenate_apply_piece (t := S128x384) 1 _ _ _ 0 (by simp) S128x128 _ rfl rfl 0 rfl (ix2 l k) (off _) rfl
  | ⟨1, _⟩ => exact concatenate_apply_piece (t := S128x384) 1 _ _ _ 1 (by simp) S128x128 _ rfl rfl 128 rfl (ix2 l k) (off _) rfl
  | ⟨2, _⟩ => exact concatenate_apply_piece (t := S128x384) 1 _ _ _ 2 (by simp) S128x128 _ rfl rfl 256 rfl (ix2 l k) (off _) rfl

/-- Row `q` of block `n` within the grid point. -/
def row (n : Fin 16) (q : Fin 128) : Fin 2048 := ⟨128 * n.val + q.val, by omega⟩

/-- Key `k` of block `n` within the grid point's band. -/
def key (n : Fin 16) (k : Fin 384) : Fin 2304 := ⟨128 * n.val + k.val, by omega⟩

theorem rows_ld (x : Vec Ideal S1x2048x512 .bf16) (n : Fin 16) (q : Fin 128) (c : Fin 512) :
    View.ld x (Rect.unit ![0, 128 * n.val, 0] ![1, 128, 512] (rows_inb n)) (ix3 0 q c) = x (ix3 0 (row n q) c) := by
  refine congrArg x (funext fun a => Fin.ext ((Rect.idx_unit_val _ _ _ _ _).trans ?_))
  match a with
  | ⟨0, _⟩ => rfl
  | ⟨1, _⟩ => rfl
  | ⟨2, _⟩ => exact Nat.zero_add _

theorem keys_idx (n : Fin 16) (k : Fin 384) (l : Fin 128) :
    (Rect.unit (s := S2304x128) ![128 * n.val, 0] ![384, 128] (keys_inb n)).idx (ix2 k l) = ix2 (key n k) l := by
  refine funext fun a => Fin.ext ((Rect.idx_unit_val _ _ _ _ _).trans ?_)
  match a with
  | ⟨0, _⟩ => rfl
  | ⟨1, _⟩ => exact Nat.zero_add _

theorem values_ld (xp : Vec Ideal S1x128x128 .bf16) (xc : Vec Ideal S1x2048x128 .bf16) (xn : Vec Ideal S1x128x128 .bf16) (n : Fin 16) (i : Fin 3)
    (m : Nat) (hm : m = n.val + i.val) (inb : ∀ a, (![m, 0, 0] : Fin 3 → Nat) a + (![1, 128, 128] : Fin 3 → Nat) a ≤ S18x128x128.size a) (l k : Fin 128) :
    View.ld (Val := Elt Ideal) (e' := .bf16) (valuesT xp xc xn) (Rect.unit ![m, 0, 0] ![1, 128, 128] inb) (ix3 0 l k)
      = band xp xc xn (key n ⟨128 * i.val + k.val, by omega⟩) l := by
  refine (tile_place xp xc xn m inb (ix3 0 l k)).trans (congrArg (fun r => band xp xc xn r l) (Fin.ext ?_))
  show m * 128 + k.val = 128 * n.val + (128 * i.val + k.val)
  omega

theorem bias_ld (x : Vec Ideal S4x8x384x128 .f32) (v : Fin 4) (h : Fin 8) (k : Fin 384) (q : Fin 128) :
    View.ld x (Rect.unit ![v.val, h.val, 0, 0] ![1, 1, 384, 128] (bias_inb _ v.isLt h)) (ix4 0 0 k q) = x (ix4 v h k q) := by
  refine congrArg x (funext fun a => Fin.ext ((Rect.idx_unit_val _ _ _ _ _).trans ?_))
  match a with
  | ⟨0, _⟩ => rfl
  | ⟨1, _⟩ => rfl
  | ⟨2, _⟩ => exact Nat.zero_add _
  | ⟨3, _⟩ => exact Nat.zero_add _

theorem sink_ld (x : Vec Ideal S8x128 .f32) (h : Fin 8) (q : Fin 128) :
    View.ld x (Rect.unit ![h.val, 0] ![1, 128] (sink_inb h)) (ix2 0 q) = x (ix2 h q) := by
  refine congrArg x (funext fun a => Fin.ext ((Rect.idx_unit_val _ _ _ _ _).trans ?_))
  match a with
  | ⟨0, _⟩ => rfl
  | ⟨1, _⟩ => exact Nat.zero_add _

/-- The pair and the lane of a column. -/
def pairOf (c : Fin 512) : Fin 4 := ⟨c.val / 128, by omega⟩
def laneOf (c : Fin 512) : Fin 128 := ⟨c.val % 128, by omega⟩

theorem lane_self (c : Fin 512) : lane (pairOf c) (laneOf c) = c := Fin.ext (Nat.div_add_mod c.val 128)

/-- What a grid point leaves in row `q` of block `n`, column `c`. -/
theorem blockAt_apply (x0 : Vec Ideal S1x2048x512 .bf16) (x1 : Vec Ideal S1x128x128 .bf16) (x2 : Vec Ideal S1x2048x128 .bf16) (x3 : Vec Ideal S1x128x128 .bf16)
    (x4 : Vec Ideal S1x128x128 .bf16) (x5 : Vec Ideal S1x2048x128 .bf16) (x6 : Vec Ideal S1x128x128 .bf16) (x7 : Vec Ideal S1x2048x512 .bf16)
    (x8 : Vec Ideal S4x8x384x128 .f32) (x9 : Vec Ideal S8x128 .f32) (a : Fin 2) (n : Fin 16) (q : Fin 128) (c : Fin 512) :
    blockAt x0 x1 x2 x3 x4 x5 x6 x7 x8 x9 a n (ix3 0 q c)
      = OutRow.unit (fun c => headAt (fun k l => band x1 x2 x3 (key n k) l) (fun c => x0 (ix3 0 (row n q) c))
          (fun h k => x8 (ix4 ⟨variant a.val n.val, variant_lt a n⟩ h k q)) (fun h => x9 (ix2 h q)) (fun k l => band x4 x5 x6 (key n k) l)
          (pairOf c) (laneOf c) * OutRow.silu (x7 (ix3 0 (row n q) c))) c := by
  unfold blockAt block
  refine (gated_apply _ _ q c).trans (congrArg (fun f => OutRow.unit f c) (funext fun c => ?_))
  have dropq : ∀ (x : Vec Ideal S1x128x512 .bf16) (c : Fin 512), shapeCast S128x512 x shapeCasts_S1x128x512_S128x512 (ix2 q c) = x (ix3 0 q c) := fun x c =>
    (shapeCast_dropUnit_apply ![128, 512] x _ _).trans (congrArg x (funext fun a => match a with
      | ⟨0, _⟩ => rfl
      | ⟨1, _⟩ => rfl
      | ⟨2, _⟩ => rfl))
  refine congrArg₂ (· * · : EReal → EReal → EReal) ?_ (congrArg OutRow.silu ((dropq _ c).trans (rows_ld x7 n q c)))
  refine (congrArg (fun c => heads _ _ _ _ _ (ix2 q c)) (lane_self c).symm).trans ?_
  refine (heads_apply _ _ _ _ _ _ (fun k l => band x1 x2 x3 (key n k) l) (fun k l => ?_) (fun k l => ?_) q (pairOf c) (laneOf c)).trans ?_
  · exact congrArg (keysLo x1 x2 x3) (keys_idx n k l)
  · exact congrArg (keysHi x1 x2 x3) (keys_idx n k l)
  · have hv : ∀ (k : Fin 384) (l : Fin 128), k0_pay27 (F := Ideal)
        (View.ld (Val := Elt Ideal) (e' := .bf16) (valuesT x4 x5 x6) (Rect.unit ![n.val, 0, 0] ![1, 128, 128] (tile_inb n.val (by omega))))
        (View.ld (Val := Elt Ideal) (e' := .bf16) (valuesT x4 x5 x6) (Rect.unit ![n.val + 1, 0, 0] ![1, 128, 128] (tile_inb (n.val + 1) (by omega))))
        (View.ld (Val := Elt Ideal) (e' := .bf16) (valuesT x4 x5 x6) (Rect.unit ![n.val + 2, 0, 0] ![1, 128, 128] (tile_inb (n.val + 2) (by omega)))) (ix2 l k)
        = band x4 x5 x6 (key n k) l := fun k l => by
      obtain ⟨i, k', rfl⟩ : ∃ (i : Fin 3) (k' : Fin 128), k = ⟨128 * i.val + k'.val, by omega⟩ :=
        ⟨⟨k.val / 128, by omega⟩, ⟨k.val % 128, by omega⟩, Fin.ext (Nat.div_add_mod k.val 128).symm⟩
      refine (values_apply (fun i => View.ld (Val := Elt Ideal) (e' := .bf16) (valuesT x4 x5 x6) (Rect.unit ![n.val + i.val, 0, 0] ![1, 128, 128] (tile_inb (n.val + i.val) (by omega)))) i k' l).trans ?_
      exact values_ld x4 x5 x6 n i _ rfl _ l k'
    have hq : ∀ c : Fin 512, k0_pay25 (F := Ideal) (View.ld x0 (Rect.unit ![0, 128 * n.val, 0] ![1, 128, 512] (rows_inb n))) (ix2 q c) = x0 (ix3 0 (row n q) c) :=
      fun c => (dropq _ c).trans (rows_ld x0 n q c)
    simp only [hv, hq]
    refine congrArg₂ (fun b s => headAt (fun k l => band x1 x2 x3 (key n k) l) (fun c => x0 (ix3 0 (row n q) c)) b s (fun k l => band x4 x5 x6 (key n k) l) (pairOf c) (laneOf c))
      (funext fun h => funext fun k => ?_) (funext fun h => ?_)
    · exact bias_ld x8 ⟨variant a.val n.val, variant_lt a n⟩ h k q
    · exact sink_ld x9 h q

end Cert.KernelIdeal.Block
end
-- ==== Proof.AttnBridge.lean ====
module

public import proofs.«01_k».proof.Proof.AttnRead
public import proofs.«01_k».proof.Proof.AttnSpec

/-! # A head in base 2, over cleared keys, is the plain head

For finite queries, keys, table and sinks. -/

@[expose] public section

set_option maxRecDepth 65536

noncomputable section

namespace Cert.KernelIdeal.Block

open Idealize.ShloMosaic Idealize.ShloMosaic.ValueIdx Cert.Attn

/-- The arguments the scores come from are real. -/
structure Reals (u : Cols) (rb : Attn.Table) (sk : Sinks) : Prop where
  cols : ∀ (b : Fin 8) (t : Fin 4096) (o : Fin 640), ∃ x : ℝ, u (ix3 b t ⟨2592 + o.val, by omega⟩) = ((x : ℝ) : EReal)
  table : ∀ i, ∃ x : ℝ, rb i = ((x : ℝ) : EReal)
  sinks : ∀ i, ∃ x : ℝ, sk i = ((x : ℝ) : EReal)

variable {u : Cols} {rb : Attn.Table} {sk : Sinks}

theorem Reals.query (H : Reals u rb sk) (b : Fin 8) (t : Fin 4096) (g : Fin 2) (r : Fin 4) (d : Fin 64) :
    ∃ x : ℝ, u (ix3 b t (qCol g r d)) = ((x : ℝ) : EReal) := H.cols b t ⟨256 * g.val + 64 * r.val + d.val, by omega⟩

theorem Reals.near (H : Reals u rb sk) (b : Fin 8) (B : Fin 32) (k : Fin 384) (g : Fin 2) (d : Fin 64) :
    ∃ x : ℝ, near u b B k (kCol g d) = ((x : ℝ) : EReal) := by
  unfold Attn.near
  by_cases h : 128 ≤ 128 * B.val + k.val ∧ 128 * B.val + k.val < 4224
  · rw [dif_pos h]
    obtain ⟨x, hx⟩ := H.cols b ⟨128 * B.val + k.val - 128, by omega⟩ ⟨512 + (64 * g.val + d.val), by omega⟩
    refine ⟨x, Eq.trans (congrArg (fun o => u (ix3 b _ o)) (Fin.ext ?_)) hx⟩
    show 3104 + (64 * g.val + d.val) = 2592 + (512 + (64 * g.val + d.val))
    omega
  · rw [dif_neg h]
    exact ⟨0, EReal.coe_zero.symm⟩

theorem coe_sum64 (f : Fin 64 → ℝ) : ∑ d : Fin 64, ((f d : ℝ) : EReal) = ((∑ d : Fin 64, f d : ℝ) : EReal) :=
  (map_sum (⟨⟨((↑) : ℝ → EReal), EReal.coe_zero⟩, EReal.coe_add⟩ : ℝ →+ EReal) f Finset.univ).symm

/-- A lane's group, and its place there. -/
def side (l : Fin 128) : Fin 2 := ⟨l.val / 64, by omega⟩
def place (l : Fin 128) : Fin 64 := ⟨l.val % 64, by omega⟩

theorem headOf_eq (j : Fin 4) (l : Fin 128) : headOf j l = hd (side l) j := Fin.ext (by
  show (if l.val < 64 then j.val else 4 + j.val) = 4 * (l.val / 64) + j.val
  split <;> omega)

theorem unpair_lane (j : Fin 4) (g : Fin 2) (d : Fin 64) :
    (unpair (lane j ⟨64 * g.val + d.val, by omega⟩)).val = 256 * g.val + 64 * j.val + d.val := by
  show 256 * ((128 * j.val + (64 * g.val + d.val)) / 64 % 2) + 64 * ((128 * j.val + (64 * g.val + d.val)) / 128) + (128 * j.val + (64 * g.val + d.val)) % 64 = _
  omega

/-- A sum over the lanes with the other group's cleared. -/
theorem sum_side (f g : Fin 128 → EReal) (l : Fin 128) :
    ∑ l' : Fin 128, (if (l'.val < 64 ↔ l.val < 64) then f l' else 0) * g l'
      = ∑ d : Fin 64, f ⟨64 * (side l).val + d.val, by omega⟩ * g ⟨64 * (side l).val + d.val, by omega⟩ := by
  refine (Fin.sum_univ_add (a := 64) (b := 64) fun l' : Fin 128 => (if (l'.val < 64 ↔ l.val < 64) then f l' else 0) * g l').trans ?_
  have hlt := l.isLt
  by_cases hl : l.val < 64
  · have hz : ∑ d : Fin 64, (if ((Fin.natAdd 64 d).val < 64 ↔ l.val < 64) then f (Fin.natAdd 64 d) else 0) * g (Fin.natAdd 64 d) = 0 :=
      Finset.sum_eq_zero fun d _ => by
        rw [if_neg (by show ¬(64 + d.val < 64 ↔ l.val < 64); omega), zero_mul]
    refine (congrArg (fun s : EReal => _ + s) hz).trans ((add_zero _).trans (Finset.sum_congr rfl fun d _ => ?_))
    have e : (Fin.castAdd 64 d : Fin 128) = ⟨64 * (side l).val + d.val, by omega⟩ := Fin.ext (by show d.val = 64 * (l.val / 64) + d.val; omega)
    rw [if_pos (by show d.val < 64 ↔ l.val < 64; omega), e]
  · have hz : ∑ d : Fin 64, (if ((Fin.castAdd 64 d).val < 64 ↔ l.val < 64) then f (Fin.castAdd 64 d) else 0) * g (Fin.castAdd 64 d) = 0 :=
      Finset.sum_eq_zero fun d _ => by
        rw [if_neg (by show ¬(d.val < 64 ↔ l.val < 64); omega), zero_mul]
    refine (congrArg (fun s : EReal => s + _) hz).trans ((zero_add _).trans (Finset.sum_congr rfl fun d _ => ?_))
    have e : (Fin.natAdd 64 d : Fin 128) = ⟨64 * (side l).val + d.val, by omega⟩ := Fin.ext (by show 64 + d.val = 64 * (l.val / 64) + d.val; omega)
    rw [if_pos (by show 64 + d.val < 64 ↔ l.val < 64; omega), e]

/-- The head at pair `j`, lane `l`. -/
theorem headAt_eq (H : Reals u rb sk) (b : Fin 8) (B : Fin 32) (q : Fin 128)
    (key val : Fin 384 → Fin 128 → EReal) (qr : Fin 512 → EReal) (bs : Fin 8 → Fin 384 → EReal) (sn : Fin 8 → EReal)
    (hk : ∀ k, ok B q k → ∀ l : Fin 128, key k l = near u b B k ⟨3104 + l.val, by omega⟩)
    (hv : ∀ k, ok B q k → ∀ l : Fin 128, val k l = near u b B k ⟨3232 + l.val, by omega⟩)
    (hq : ∀ c : Fin 512, qr c = u (ix3 b (tok B q) ⟨2592 + (unpair c).val, by omega⟩) * (((1 / 8 : ℝ) : EReal) * ((AttnRow.ell : ℝ) : EReal)))
    (hb : ∀ h k, bs h k = if ok B q k then rb (ix2 (bucketOf (apart q k)) h) * ((AttnRow.ell : ℝ) : EReal) else ⊥)
    (hs : ∀ h, sn h = sk (ix1 h) * ((AttnRow.ell : ℝ) : EReal)) (j : Fin 4) (l : Fin 128) :
    headAt key qr bs sn val j l = headOut u rb sk b B q (side l) j (place l) := by
  choose uq huq using fun d => H.query b (tok B q) (side l) j d
  choose uk huk using fun k d => H.near b B k (side l) d
  choose ut hut using fun k => H.table (ix2 (bucketOf (apart q k)) (hd (side l) j))
  obtain ⟨us, hus⟩ := H.sinks (ix1 (hd (side l) j))
  have plain : scoreM u rb b B q (side l) j = AttnRow.masked (ok B q) fun k => (∑ d : Fin 64, uk k d * uq d) * (1 / 8) + ut k := by
    funext k
    unfold scoreM AttnRow.masked
    by_cases h : ok B q k
    · rw [if_pos h, if_pos h]
      unfold score
      rw [hut, AttnRow.eighth]
      simp only [huk, huq]
      rw [EReal.coe_add, EReal.coe_mul, ← coe_sum64]
      simp only [EReal.coe_mul]
    · rw [if_neg h, if_neg h]
  have cleared : scores (fun k l' => if (l'.val < 64 ↔ l.val < 64) then key k l' else 0) (fun l' => qr (lane j l')) (bs (headOf j l))
      = AttnRow.masked (ok B q) fun k => ((∑ d : Fin 64, uk k d * uq d) * (1 / 8) + ut k) * AttnRow.ell := by
    funext k
    unfold scores AttnRow.masked
    rw [hb, headOf_eq]
    by_cases h : ok B q k
    · rw [if_pos h, if_pos h, hut, sum_side]
      have hd : ∀ d : Fin 64, key k ⟨64 * (side l).val + d.val, by omega⟩ * qr (lane j ⟨64 * (side l).val + d.val, by omega⟩)
          = ((uk k d * (uq d * (1 / 8 * AttnRow.ell)) : ℝ) : EReal) := by
        intro d
        have e1 : key k ⟨64 * (side l).val + d.val, by omega⟩ = ((uk k d : ℝ) : EReal) := (hk k h _).trans (huk k d)
        have e2 : u (ix3 b (tok B q) ⟨2592 + (unpair (lane j ⟨64 * (side l).val + d.val, by omega⟩)).val, by omega⟩) = ((uq d : ℝ) : EReal) :=
          (congrArg (fun o => u (ix3 b (tok B q) o)) (Fin.ext (congrArg (2592 + ·) (unpair_lane j (side l) d)))).trans (huq d)
        rw [e1, hq, e2, EReal.coe_mul, EReal.coe_mul, EReal.coe_mul]
      simp only [hd]
      rw [coe_sum64, ← EReal.coe_mul, ← EReal.coe_add]
      refine congrArg _ ?_
      rw [add_mul, Finset.sum_mul, Finset.sum_mul]
      refine congrArg (· + _) (Finset.sum_congr rfl fun d _ => ?_)
      ring
    · rw [if_neg h, if_neg h, EReal.add_bot]
  unfold headAt headOut
  rw [cleared, plain, headOf_eq, hs, hus, ← EReal.coe_mul]
  refine AttnRow.soft2_eq (ok B q) _ us _ _ fun k h => ?_
  rw [hv k h]
  refine congrArg (near u b B k) (Fin.ext ?_)
  show 3232 + l.val = 3232 + (64 * (l.val / 64) + l.val % 64)
  omega

/-- The normalised, gated row. -/
theorem row_eq (H : Reals u rb sk) (b : Fin 8) (B : Fin 32) (q : Fin 128)
    (key val : Fin 384 → Fin 128 → EReal) (qr gr : Fin 512 → EReal) (bs : Fin 8 → Fin 384 → EReal) (sn : Fin 8 → EReal)
    (hk : ∀ k, ok B q k → ∀ l : Fin 128, key k l = near u b B k ⟨3104 + l.val, by omega⟩)
    (hv : ∀ k, ok B q k → ∀ l : Fin 128, val k l = near u b B k ⟨3232 + l.val, by omega⟩)
    (hq : ∀ c : Fin 512, qr c = u (ix3 b (tok B q) ⟨2592 + (unpair c).val, by omega⟩) * (((1 / 8 : ℝ) : EReal) * ((AttnRow.ell : ℝ) : EReal)))
    (hg : ∀ c : Fin 512, gr c = u (ix3 b (tok B q) (gCol (unpair c))))
    (hb : ∀ h k, bs h k = if ok B q k then rb (ix2 (bucketOf (apart q k)) h) * ((AttnRow.ell : ℝ) : EReal) else ⊥)
    (hs : ∀ h, sn h = sk (ix1 h) * ((AttnRow.ell : ℝ) : EReal)) (c : Fin 512) :
    OutRow.unit (fun c => headAt key qr bs sn val (pairOf c) (laneOf c) * OutRow.silu (gr c)) c = result u rb sk b B q c := by
  unfold result
  rw [← unit_pair]
  refine congrArg (fun y => OutRow.unit y c) (funext fun c => ?_)
  unfold gatedOut
  rw [headAt_eq H b B q key val qr bs sn hk hv hq hb hs, hg]
  have hc := c.isLt
  have e1 : side (laneOf c) = ⟨(unpair c).val / 256, by omega⟩ := Fin.ext (by
    show c.val % 128 / 64 = (256 * (c.val / 64 % 2) + 64 * (c.val / 128) + c.val % 64) / 256
    omega)
  have e2 : pairOf c = ⟨(unpair c).val / 64 % 4, by omega⟩ := Fin.ext (by
    show c.val / 128 = (256 * (c.val / 64 % 2) + 64 * (c.val / 128) + c.val % 64) / 64 % 4
    omega)
  have e3 : place (laneOf c) = ⟨(unpair c).val % 64, by omega⟩ := Fin.ext (by
    show c.val % 128 % 64 = (256 * (c.val / 64 % 2) + 64 * (c.val / 128) + c.val % 64) % 64
    omega)
  rw [e1, e2, e3]

end Cert.KernelIdeal.Block
end
-- ==== Proof.AttnArray.lean ====
module

public import proofs.«01_k».proof.Proof.AttnBlock
public import proofs.«01_k».proof.Proof.AttnEntry
public import proofs.«01_k».proof.Proof.AttnBridge
public import Idealize.ShloMosaic.Lib.Pipeline.ValueKit

/-! # What the attention's array holds after the run

Point `t` of the grid handles tokens `2048 (t % 2) … 2048 (t % 2) + 2047` of sequence `t / 2`; its keys and values are those
tokens' and the blocks of 128 before and after, taken at the sequence's ends from inside it and masked there. -/

@[expose] public section

set_option maxRecDepth 65536

noncomputable section

namespace Cert.KernelIdeal.Block

open Cert.KernelIdeal Cert.KernelIdeal.Gen Cert.KernelIdeal.Value Idealize.ShloMosaic.TcCoe Idealize.SL.Sem
open Idealize.ShloMosaic hiding ix0 ix1 ix2 ix3 ix4 ix5
open Idealize.ShloMosaic.Tactic Idealize.ShloMosaic.ValueIdx Idealize.ShloMosaic.StableHlo

variable (m : (ℓ : Loc nD τ sig) → Buf (Elt Ideal) ℓ)

theorem index0 : ∀ t : Fin cfg0.N, win0_0.index t = ![t.val / 2, t.val % 2, 8] := (by decide +kernel : ∀ t : Fin grid0.N, _)
theorem index1 : ∀ t : Fin cfg0.N, win0_1.index t = ![t.val / 2, 15 * (t.val % 2), 44] := (by decide +kernel : ∀ t : Fin grid0.N, _)
theorem index2 : ∀ t : Fin cfg0.N, win0_2.index t = ![t.val / 2, t.val % 2, 44] := (by decide +kernel : ∀ t : Fin grid0.N, _)
theorem index3 : ∀ t : Fin cfg0.N, win0_3.index t = ![t.val / 2, 16 + 15 * (t.val % 2), 44] := (by decide +kernel : ∀ t : Fin grid0.N, _)
theorem index4 : ∀ t : Fin cfg0.N, win0_4.index t = ![t.val / 2, 15 * (t.val % 2), 45] := (by decide +kernel : ∀ t : Fin grid0.N, _)
theorem index5 : ∀ t : Fin cfg0.N, win0_5.index t = ![t.val / 2, t.val % 2, 45] := (by decide +kernel : ∀ t : Fin grid0.N, _)
theorem index6 : ∀ t : Fin cfg0.N, win0_6.index t = ![t.val / 2, 16 + 15 * (t.val % 2), 45] := (by decide +kernel : ∀ t : Fin grid0.N, _)
theorem index7 : ∀ t : Fin cfg0.N, win0_7.index t = ![t.val / 2, t.val % 2, 9] := (by decide +kernel : ∀ t : Fin grid0.N, _)
theorem index8 : ∀ t : Fin cfg0.N, win0_8.index t = ![0, 0, 0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val / 2, t.val % 2, 0] := (by decide +kernel : ∀ t : Fin grid0.N, _)
theorem half_eq : ∀ t : Fin cfg0.N, (grid0.coords t 1).val = t.val % 2 := (by decide +kernel : ∀ t : Fin grid0.N, _)

theorem t_lt (t : Fin cfg0.N) : t.val < 16 := t.isLt

/-- The point's sequence and its half of the tokens. -/
def seqOf (t : Fin cfg0.N) : Fin 8 := ⟨t.val / 2, by have := t_lt t; omega⟩

/-! ## A point's blocks -/

theorem X0_apply (c : Dev nD) (t : Fin cfg0.N) (r : Fin 2048) (k : Fin 512) (R : Fin 4096) (hR : R.val = 2048 * (t.val % 2) + r.val) :
    X0_0 m c t (ix3 0 r k) = columns (m ((c : Thread nD τ).loc main_arg0)) (ix3 (seqOf t) R ⟨4096 + k.val, by omega⟩) := by
  unfold X0_0 Pipeline.Window.fill
  rw [dif_pos (moved0_0 t _)]
  blk_simp [iblk]
  refine Eq.trans ?_ (congrFun (v22_entry m c) _)
  congr 1
  funext a; apply Fin.ext; fin_cases a
  · blk_simp [index0]; rfl
  · blk_simp [index0]; show t.val % 2 * 2048 + r.val = R.val; omega
  · blk_simp [index0]

theorem X7_apply (c : Dev nD) (t : Fin cfg0.N) (r : Fin 2048) (k : Fin 512) (R : Fin 4096) (hR : R.val = 2048 * (t.val % 2) + r.val) :
    X0_7 m c t (ix3 0 r k) = columns (m ((c : Thread nD τ).loc main_arg0)) (ix3 (seqOf t) R ⟨4608 + k.val, by omega⟩) := by
  unfold X0_7 Pipeline.Window.fill
  rw [dif_pos (moved0_7 t _)]
  blk_simp [iblk]
  refine Eq.trans ?_ (congrFun (v22_entry m c) _)
  congr 1
  funext a; apply Fin.ext; fin_cases a
  · blk_simp [index7]; rfl
  · blk_simp [index7]; show t.val % 2 * 2048 + r.val = R.val; omega
  · blk_simp [index7]

theorem iblk1_apply (c : Dev nD) (t : Fin cfg0.N) (r : Fin 128) (l : Fin 128) (R : Fin 4096) (hR : R.val = 1920 * (t.val % 2) + r.val) :
    iblk m c 1 t (ix3 0 r l) = columns (m ((c : Thread nD τ).loc main_arg0)) (ix3 (seqOf t) R ⟨5632 + l.val, by omega⟩) := by
  blk_simp [iblk]
  refine Eq.trans ?_ (congrFun (v22_entry m c) _)
  congr 1
  funext a; apply Fin.ext; fin_cases a
  · blk_simp [index1]; rfl
  · blk_simp [index1]; show 15 * (t.val % 2) * 128 + r.val = R.val; omega
  · blk_simp [index1]

theorem iblk2_apply (c : Dev nD) (t : Fin cfg0.N) (r : Fin 2048) (l : Fin 128) (R : Fin 4096) (hR : R.val = 2048 * (t.val % 2) + r.val) :
    iblk m c 2 t (ix3 0 r l) = columns (m ((c : Thread nD τ).loc main_arg0)) (ix3 (seqOf t) R ⟨5632 + l.val, by omega⟩) := by
  blk_simp [iblk]
  refine Eq.trans ?_ (congrFun (v22_entry m c) _)
  congr 1
  funext a; apply Fin.ext; fin_cases a
  · blk_simp [index2]; rfl
  · blk_simp [index2]; show t.val % 2 * 2048 + r.val = R.val; omega
  · blk_simp [index2]

theorem iblk3_apply (c : Dev nD) (t : Fin cfg0.N) (r : Fin 128) (l : Fin 128) (R : Fin 4096) (hR : R.val = 2048 + 1920 * (t.val % 2) + r.val) :
    iblk m c 3 t (ix3 0 r l) = columns (m ((c : Thread nD τ).loc main_arg0)) (ix3 (seqOf t) R ⟨5632 + l.val, by omega⟩) := by
  blk_simp [iblk]
  refine Eq.trans ?_ (congrFun (v22_entry m c) _)
  congr 1
  funext a; apply Fin.ext; fin_cases a
  · blk_simp [index3]; rfl
  · blk_simp [index3]; show (16 + 15 * (t.val % 2)) * 128 + r.val = R.val; omega
  · blk_simp [index3]

theorem iblk4_apply (c : Dev nD) (t : Fin cfg0.N) (r : Fin 128) (l : Fin 128) (R : Fin 4096) (hR : R.val = 1920 * (t.val % 2) + r.val) :
    iblk m c 4 t (ix3 0 r l) = columns (m ((c : Thread nD τ).loc main_arg0)) (ix3 (seqOf t) R ⟨5760 + l.val, by omega⟩) := by
  blk_simp [iblk]
  refine Eq.trans ?_ (congrFun (v22_entry m c) _)
  congr 1
  funext a; apply Fin.ext; fin_cases a
  · blk_simp [index4]; rfl
  · blk_simp [index4]; show 15 * (t.val % 2) * 128 + r.val = R.val; omega
  · blk_simp [index4]

theorem iblk5_apply (c : Dev nD) (t : Fin cfg0.N) (r : Fin 2048) (l : Fin 128) (R : Fin 4096) (hR : R.val = 2048 * (t.val % 2) + r.val) :
    iblk m c 5 t (ix3 0 r l) = columns (m ((c : Thread nD τ).loc main_arg0)) (ix3 (seqOf t) R ⟨5760 + l.val, by omega⟩) := by
  blk_simp [iblk]
  refine Eq.trans ?_ (congrFun (v22_entry m c) _)
  congr 1
  funext a; apply Fin.ext; fin_cases a
  · blk_simp [index5]; rfl
  · blk_simp [index5]; show t.val % 2 * 2048 + r.val = R.val; omega
  · blk_simp [index5]

theorem iblk6_apply (c : Dev nD) (t : Fin cfg0.N) (r : Fin 128) (l : Fin 128) (R : Fin 4096) (hR : R.val = 2048 + 1920 * (t.val % 2) + r.val) :
    iblk m c 6 t (ix3 0 r l) = columns (m ((c : Thread nD τ).loc main_arg0)) (ix3 (seqOf t) R ⟨5760 + l.val, by omega⟩) := by
  blk_simp [iblk]
  refine Eq.trans ?_ (congrFun (v22_entry m c) _)
  congr 1
  funext a; apply Fin.ext; fin_cases a
  · blk_simp [index6]; rfl
  · blk_simp [index6]; show (16 + 15 * (t.val % 2)) * 128 + r.val = R.val; omega
  · blk_simp [index6]

theorem iblk8_apply (c : Dev nD) (t : Fin cfg0.N) (v : Fin 4) (h : Fin 8) (k : Fin 384) (q : Fin 128) :
    iblk m c 8 t (ix4 v h k q) = biases (bias (m ((c : Thread nD τ).loc main_arg1))) (ix4 v h k q) := by
  blk_simp [iblk]
  refine Eq.trans ?_ (congrFun (v151_entry m c) _)
  congr 1
  funext a; apply Fin.ext; fin_cases a
  · blk_simp [index8]
  · blk_simp [index8]
  · blk_simp [index8]
  · blk_simp [index8]

theorem iblk9_apply (c : Dev nD) (t : Fin cfg0.N) (h : Fin 8) (q : Fin 128) :
    iblk m c 9 t (ix2 h q) = sinks (m ((c : Thread nD τ).loc main_arg2)) (ix2 h q) := by
  blk_simp [iblk]
  refine Eq.trans ?_ (congrFun (v28_entry m c) _)
  congr 1
  funext a; apply Fin.ext; fin_cases a
  · blk_simp [index9]
  · blk_simp [index9]

/-! ## The band's tokens, and the mask -/

/-- Block `n` of the point, in its sequence. -/
def blockOf (t : Fin cfg0.N) (n : Fin 16) : Fin 32 := ⟨16 * (t.val % 2) + n.val, by omega⟩

theorem okAt_iff (t : Fin cfg0.N) (a : Fin 2) (ha : a.val = t.val % 2) (n : Fin 16) (q : Fin 128) (k : Fin 384) :
    okAt ⟨variant a.val n.val, variant_lt a n⟩ q k ↔ Attn.ok (blockOf t n) q k := by
  have hn := n.isLt; have hk := k.isLt; have ha2 := a.isLt
  unfold okAt Attn.ok
  refine and_congr Iff.rfl ?_
  show ¬(variant a.val n.val % 2 = 1 ∧ k.val < 128) ∧ ¬(variant a.val n.val / 2 = 1 ∧ 256 ≤ k.val)
    ↔ 128 ≤ 128 * (16 * (t.val % 2) + n.val) + k.val ∧ 128 * (16 * (t.val % 2) + n.val) + k.val < 4224
  rw [variant_eq, ← ha]
  split <;> split <;> omega

/-- A key's or a value's column of the point's band, inside the sequence. -/
theorem band_tok (t : Fin cfg0.N) (n : Fin 16) (k : Fin 384) (l : Fin 128) (o : Fin 6016)
    (xp : Vec Ideal S1x128x128 .bf16) (xc : Vec Ideal S1x2048x128 .bf16) (xn : Vec Ideal S1x128x128 .bf16) (U : S8x4096x6016.Idx → EReal)
    (hp : ∀ (r : Fin 128) (R : Fin 4096), R.val = 1920 * (t.val % 2) + r.val → xp (ix3 0 r l) = U (ix3 (seqOf t) R o))
    (hc : ∀ (r : Fin 2048) (R : Fin 4096), R.val = 2048 * (t.val % 2) + r.val → xc (ix3 0 r l) = U (ix3 (seqOf t) R o))
    (hx : ∀ (r : Fin 128) (R : Fin 4096), R.val = 2048 + 1920 * (t.val % 2) + r.val → xn (ix3 0 r l) = U (ix3 (seqOf t) R o))
    (T : Fin 4096) (hT : T.val + 128 = 128 * (blockOf t n).val + k.val) : band xp xc xn (key n k) l = U (ix3 (seqOf t) T o) := by
  have hn := n.isLt; have hk := k.isLt; have hTl := T.isLt
  have hT' : T.val + 128 = 128 * (16 * (t.val % 2) + n.val) + k.val := hT
  have hK : (key n k).val = 128 * n.val + k.val := rfl
  have h3 : 128 * n.val + k.val < 128 ∨ 128 ≤ 128 * n.val + k.val ∧ 128 * n.val + k.val < 2176 ∨ 2176 ≤ 128 * n.val + k.val := by omega
  rcases h3 with h | h | h
  · exact (band_prev xp xc xn (key n k) l ⟨128 * n.val + k.val, h⟩ hK).trans (hp _ T (by show T.val = 1920 * (t.val % 2) + (128 * n.val + k.val); omega))
  · exact (band_cur xp xc xn (key n k) l ⟨128 * n.val + k.val - 128, by omega⟩ (by rw [hK]; show _ = 128 + (128 * n.val + k.val - 128); omega)).trans
      (hc _ T (by show T.val = 2048 * (t.val % 2) + (128 * n.val + k.val - 128); omega))
  · exact (band_next xp xc xn (key n k) l ⟨128 * n.val + k.val - 2176, by omega⟩ (by rw [hK]; show _ = 2176 + (128 * n.val + k.val - 2176); omega)).trans
      (hx _ T (by show T.val = 2048 + 1920 * (t.val % 2) + (128 * n.val + k.val - 2176); omega))

/-! ## The result -/

/-- Token `T` in its block of 128. -/
def plain (c : Dev nD) (y : S8x4096x512.Idx) : EReal :=
  Attn.result (m ((c : Thread nD τ).loc main_arg0)) (m ((c : Thread nD τ).loc main_arg1)) (m ((c : Thread nD τ).loc main_arg2)) (y 0)
    ⟨(y 1).val / 128, by have : (y 1).val < 4096 := (y 1).isLt; omega⟩ ⟨(y 1).val % 128, Nat.mod_lt _ (by decide)⟩ (y 2)

theorem plain_at (c : Dev nD) (y : S8x4096x512.Idx) (b : Fin 8) (B : Fin 32) (q : Fin 128) (k : Fin 512) (h0 : (y 0).val = b.val)
    (h1 : (y 1).val = 128 * B.val + q.val) (h2 : (y 2).val = k.val) :
    plain m c y = Attn.result (m ((c : Thread nD τ).loc main_arg0)) (m ((c : Thread nD τ).loc main_arg1)) (m ((c : Thread nD τ).loc main_arg2)) b B q k := by
  have hq := q.isLt
  unfold plain
  have e0 : (y 0 : Fin 8) = b := Fin.ext h0
  have e1 : (⟨(y 1).val / 128, by have : (y 1).val < 4096 := (y 1).isLt; omega⟩ : Fin 32) = B := Fin.ext (by show (y 1).val / 128 = B.val; omega)
  have e2 : (⟨(y 1).val % 128, Nat.mod_lt _ (by decide)⟩ : Fin 128) = q := Fin.ext (by show (y 1).val % 128 = q.val; omega)
  have e3 : (y 2 : Fin 512) = k := Fin.ext h2
  rw [e1, e2]
  exact congrArg₂ (fun b k => Attn.result _ _ _ b B q k) e0 e3

/-- The arguments the scores come from are real. -/
abbrev RealsAt (c : Dev nD) : Prop :=
  Reals (m ((c : Thread nD τ).loc main_arg0)) (m ((c : Thread nD τ).loc main_arg1)) (m ((c : Thread nD τ).loc main_arg2))

theorem blockAt_eq (c : Dev nD) (H : RealsAt m c) (t : Fin cfg0.N) (a : Fin 2) (ha : a.val = t.val % 2) (n : Fin 16) (q : Fin 128) (k : Fin 512) :
    blockAt (X0_0 m c t) (iblk m c 1 t) (iblk m c 2 t) (iblk m c 3 t) (iblk m c 4 t) (iblk m c 5 t) (iblk m c 6 t) (X0_7 m c t) (iblk m c 8 t) (iblk m c 9 t)
        a n (ix3 0 q k)
      = Attn.result (m ((c : Thread nD τ).loc main_arg0)) (m ((c : Thread nD τ).loc main_arg1)) (m ((c : Thread nD τ).loc main_arg2)) (seqOf t) (blockOf t n) q k := by
  have hn := n.isLt; have hq := q.isLt
  have hR : (Attn.tok (blockOf t n) q).val = 2048 * (t.val % 2) + (row n q).val := by
    show 128 * (16 * (t.val % 2) + n.val) + q.val = 2048 * (t.val % 2) + (128 * n.val + q.val)
    omega
  refine (blockAt_apply _ _ _ _ _ _ _ _ _ _ a n q k).trans ?_
  refine row_eq H (seqOf t) (blockOf t n) q _ _ _ _ _ _ (fun k' hk l => ?_) (fun k' hk l => ?_) (fun c' => ?_) (fun c' => ?_) (fun h k' => ?_) (fun h => ?_) k
  · have hr := hk.2
    unfold Attn.near
    rw [dif_pos hr]
    refine (band_tok t n k' l ⟨5632 + l.val, by omega⟩ _ _ _ (columns (m ((c : Thread nD τ).loc main_arg0))) (fun r R h => iblk1_apply m c t r l R h)
      (fun r R h => iblk2_apply m c t r l R h) (fun r R h => iblk3_apply m c t r l R h) ⟨128 * (blockOf t n).val + k'.val - 128, by omega⟩ (by
        show 128 * (blockOf t n).val + k'.val - 128 + 128 = _
        omega)).trans ?_
    exact columns_k _ (seqOf t) _ l
  · have hr := hk.2
    unfold Attn.near
    rw [dif_pos hr]
    refine (band_tok t n k' l ⟨5760 + l.val, by omega⟩ _ _ _ (columns (m ((c : Thread nD τ).loc main_arg0))) (fun r R h => iblk4_apply m c t r l R h)
      (fun r R h => iblk5_apply m c t r l R h) (fun r R h => iblk6_apply m c t r l R h) ⟨128 * (blockOf t n).val + k'.val - 128, by omega⟩ (by
        show 128 * (blockOf t n).val + k'.val - 128 + 128 = _
        omega)).trans ?_
    exact columns_v _ (seqOf t) _ l
  · exact (X0_apply m c t (row n q) c' _ hR).trans (columns_q _ (seqOf t) _ c')
  · exact (X7_apply m c t (row n q) c' _ hR).trans (columns_g _ (seqOf t) _ c')
  · refine (iblk8_apply m c t _ h k' q).trans ((biases_apply _ _ h k' q).trans ?_)
    refine (if_congr (okAt_iff t a ha n q k') ?_ rfl)
    exact bias_apply _ h q k'
  · exact (iblk9_apply m c t h q).trans (sinks_apply _ h q)

/-- The point's block of the result. -/
def blockRes (c : Dev nD) (t : Fin cfg0.N) (z : S1x2048x512.Idx) : EReal :=
  Attn.result (m ((c : Thread nD τ).loc main_arg0)) (m ((c : Thread nD τ).loc main_arg1)) (m ((c : Thread nD τ).loc main_arg2)) (seqOf t)
    (blockOf t ⟨(z 1).val / 128, by have : (z 1).val < 2048 := (z 1).isLt; omega⟩) ⟨(z 1).val % 128, Nat.mod_lt _ (by decide)⟩ (z 2)

theorem congr_result (u : Attn.Cols) (rb : Attn.Table) (sk : Attn.Sinks) (b : Fin 8) {B B' : Fin 32} {q q' : Fin 128} {k k' : Fin 512} (hB : B = B') (hq : q = q')
    (hk : k = k') : Attn.result u rb sk b B q k = Attn.result u rb sk b B' q' k' := by
  rw [hB, hq, hk]

/-- The result: every token's. -/
theorem final10 (c : Dev nD) (H : RealsAt m c) : (dats m 0 c).arrAt 10 cfg0.N = plain m c := by
  refine (dats m 0 c).arrAt_eq_of_covers 10 _ (by decide +kernel) fun t hf y => ?_
  blk_simp
  rw [after0_10]
  simp only [outsAt0]
  rw [out10_eq (G := blockRes m c t) (hG := fun n x => ?_)]
  · refine (plain_at m c _ (seqOf t) _ _ _ ?_ ?_ ?_).symm
    · blk_simp [index10]; rfl
    · have h : (y 1).val < 2048 := (y 1).isLt
      blk_simp [index10]
      show t.val % 2 * 2048 + (y 1).val = 128 * (16 * (t.val % 2) + (y 1).val / 128) + (y 1).val % 128
      omega
    · blk_simp [index10]
  · have hx : ∀ z : (⟨3, ![1, 128, 512]⟩ : Shape).Idx, ∃ (q : Fin 128) (k : Fin 512), z = ix3 0 q k := fun z =>
      ⟨z 1, z 2, (ValueIdx.eq_ix3 z).trans (congrArg (fun a : Fin 1 => (ix3 a (z 1) (z 2) : (⟨3, ![1, 128, 512]⟩ : Shape).Idx)) (Subsingleton.elim (α := Fin 1) (z 0) 0))⟩
    obtain ⟨q, k, rfl⟩ := hx x
    refine (blockAt_eq m c H t _ (half_eq t) n q k).trans ?_
    have hq := q.isLt
    have e : (Rect.unit (s := S1x2048x512) ![0, 128 * n.val, 0] ![1, 128, 512] (rows_inb n)).emb (ix3 0 q k) = ix3 0 (row n q) k :=
      funext fun a => Fin.ext ((Rect.idx_unit_val _ _ _ _ _).trans (by
        match a with
        | ⟨0, _⟩ => rfl
        | ⟨1, _⟩ => rfl
        | ⟨2, _⟩ => exact Nat.zero_add _))
    refine Eq.trans ?_ (congrArg (blockRes m c t) e).symm
    unfold blockRes
    refine (congr_result _ _ _ _ (Fin.ext ?_) (Fin.ext ?_) rfl).symm
    · show 16 * (t.val % 2) + (128 * n.val + q.val) / 128 = 16 * (t.val % 2) + n.val
      omega
    · show (128 * n.val + q.val) % 128 = q.val
      omega

end Cert.KernelIdeal.Block
end
-- ==== Proof.AttnRef.lean ====
module

public import proofs.«01_k».proof.Proof.AttnSpec
public import proofs.«01_k».proof.Proof.Gen.ReferenceIdeal.Read
public import Idealize.ShloMosaic.Lib.KernelVsHost
public import Idealize.ShloMosaic.Lib.ValueIdxRank6

/-! # What the plain attention computes at an index -/

@[expose] public section

set_option maxRecDepth 65536

noncomputable section

namespace Cert.ReferenceIdeal.Plain

open Cert.ReferenceIdeal Cert.ReferenceIdeal.Gen Cert.ReferenceIdeal.Read Idealize.ShloMosaic Idealize.ShloMosaic.ValueIdx
open Cert.Attn

variable (u : (⟨S8x4096x5920, .f32⟩ : BufTy).Contents (Elt Ideal)) (rb : (⟨S32x8, .f32⟩ : BufTy).Contents (Elt Ideal))
  (sk : (⟨S8, .f32⟩ : BufTy).Contents (Elt Ideal))

/-! ## Queries, keys and values -/

theorem v4_at (b : Fin 8) (B : Fin 32) (q : Fin 128) (g : Fin 2) (r : Fin 4) (d : Fin 64) :
    val_main_v4 (F := Ideal) u (ix6 b B q g r d) = u (ix3 b (tok B q) (qCol g r d)) := by
  have := b.isLt; have := B.isLt; have := q.isLt; have := g.isLt; have := r.isLt; have := d.isLt
  unfold val_main_v4
  refine (shapeCast_apply _ shapeCasts_S8x4096x512_S8x32x128x2x4x64 (ix6 b B q g r d) (ix3 b (tok B q) ⟨256 * g.val + 64 * r.val + d.val, by omega⟩) (by
    show Shape.rankPi ![8, 4096, 512] (ix3 b (tok B q) _) = Shape.rankPi ![8, 32, 128, 2, 4, 64] (ix6 b B q g r d)
    simp [Shape.rankPi, Shape.prodPi, ix3, ix6, tok]; omega)).trans ?_
  rw [val_main_v0_apply]
  refine congrArg u (funext fun a => ?_)
  match a with
  | ⟨0, _⟩ => rfl
  | ⟨1, _⟩ => rfl
  | ⟨2, _⟩ => rfl

/-- The keys' or the values' path: split into heads, padded by a block on both sides, cut into blocks, each block beside
the one before and the one after. -/
def padded (x : FVec Ideal S8x4096x128 .f32) : FVec Ideal S8x34x128x2x64 .f32 :=
  shapeCast _ (pad S8x4352x2x64 ![0, 128, 0, 0] ![0, 128, 0, 0] ![0, 0, 0, 0] (shapeCast S8x4096x2x64 x shapeCasts_S8x4096x128_S8x4096x2x64)
    (val_main_call0_v0 (F := Ideal)) pads_S8x4096x2x64_S8x4352x2x64_000_1281280_000_000 h_S_) shapeCasts_S8x4352x2x64_S8x34x128x2x64

theorem v7_eq : val_main_v7 (F := Ideal) u = padded (val_main_v1 (F := Ideal) u) := rfl
theorem v14_eq : val_main_v14 (F := Ideal) u = padded (val_main_v2 (F := Ideal) u) := rfl

theorem padded_at (x : FVec Ideal S8x4096x128 .f32) (b : Fin 8) (n : Fin 34) (i : Fin 128) (g : Fin 2) (d : Fin 64) :
    padded x (ix5 b n i g d) = if h : 128 ≤ 128 * n.val + i.val ∧ 128 * n.val + i.val < 4224 then
      x (ix3 b ⟨128 * n.val + i.val - 128, by omega⟩ ⟨64 * g.val + d.val, by omega⟩) else 0 := by
  have hb := b.isLt; have hn := n.isLt; have hi := i.isLt; have hg := g.isLt; have hd := d.isLt
  unfold padded
  refine (shapeCast_apply _ shapeCasts_S8x4352x2x64_S8x34x128x2x64 (ix5 b n i g d) (ix4 b ⟨128 * n.val + i.val, by omega⟩ g d) (by
    rewrite [Shape.rowMajor_val_four, Shape.rowMajor_val_five]
    show ((b.val * 4352 + (128 * n.val + i.val)) * 2 + g.val) * 64 + d.val = (((b.val * 34 + n.val) * 128 + i.val) * 2 + g.val) * 64 + d.val
    omega)).trans ?_
  by_cases h : 128 ≤ 128 * n.val + i.val ∧ 128 * n.val + i.val < 4224
  · rw [dif_pos h]
    refine (pad_apply_of_inside _ _ _ _ _ _ _ _ (ix4 b ⟨128 * n.val + i.val - 128, by omega⟩ g d) (fun a => ?_)).trans ?_
    · match a with
      | ⟨0, _⟩ => show b.val = 0 + b.val * (0 + 1); omega
      | ⟨1, _⟩ => show 128 * n.val + i.val = 128 + (128 * n.val + i.val - 128) * (0 + 1); omega
      | ⟨2, _⟩ => show g.val = 0 + g.val * (0 + 1); omega
      | ⟨3, _⟩ => show d.val = 0 + d.val * (0 + 1); omega
    · exact shapeCast_apply x shapeCasts_S8x4096x128_S8x4096x2x64 _ (ix3 b _ ⟨64 * g.val + d.val, by omega⟩) (by
        rewrite [Shape.rowMajor_val_three, Shape.rowMajor_val_four]
        show (b.val * 4096 + (128 * n.val + i.val - 128)) * 128 + (64 * g.val + d.val) = ((b.val * 4096 + (128 * n.val + i.val - 128)) * 2 + g.val) * 64 + d.val
        omega)
  · rw [dif_neg h]
    refine (pad_apply_of_not_inside _ _ _ _ _ _ _ _ ⟨1, by decide⟩ ?_).trans ?_
    · show ¬(128 ≤ 128 * n.val + i.val ∧ (128 * n.val + i.val - 128) % (0 + 1) = 0 ∧ (128 * n.val + i.val - 128) / (0 + 1) < 4096)
      omega
    · show (((0#32 : BitVec 32).toInt : ℝ) : EReal) = 0
      simp

/-- Three neighbouring blocks side by side. -/
theorem beside (y : FVec Ideal S8x34x128x2x64 .f32) (z0 z1 z2 : FVec Ideal S8x32x128x2x64 .f32)
    (h0 : ∀ b (B : Fin 32) i g d, z0 (ix5 b B i g d) = y (ix5 b ⟨B.val, by omega⟩ i g d))
    (h1 : ∀ b (B : Fin 32) i g d, z1 (ix5 b B i g d) = y (ix5 b ⟨1 + B.val, by omega⟩ i g d))
    (h2 : ∀ b (B : Fin 32) i g d, z2 (ix5 b B i g d) = y (ix5 b ⟨2 + B.val, by omega⟩ i g d))
    (hc : Shape.Concatenates [S8x32x128x2x64, S8x32x128x2x64, S8x32x128x2x64] S8x32x384x2x64 2)
    (b : Fin 8) (B : Fin 32) (k : Fin 384) (g : Fin 2) (d : Fin 64) :
    concatenate (α := EReal) S8x32x384x2x64 2 [⟨S8x32x128x2x64, z0⟩, ⟨S8x32x128x2x64, z1⟩, ⟨S8x32x128x2x64, z2⟩] hc (ix5 b B k g d)
      = y (ix5 b ⟨B.val + k.val / 128, by omega⟩ ⟨k.val % 128, by omega⟩ g d) := by
  have off : ∀ (i : Fin 128) (a : Fin 5), a ≠ 2 → (ix5 b B i g d a).val = (ix5 b B k g d a).val := fun i a ha =>
    match a, ha with
    | ⟨0, _⟩, _ => rfl
    | ⟨1, _⟩, _ => rfl
    | ⟨2, _⟩, ha => absurd rfl ha
    | ⟨3, _⟩, _ => rfl
    | ⟨4, _⟩, _ => rfl
  have fin : ∀ (n n' : Fin 34) (i i' : Fin 128), n.val = n'.val → i.val = i'.val → y (ix5 b n i g d) = y (ix5 b n' i' g d) := by
    intro n n' i i' hn hi; rw [Fin.ext hn, Fin.ext hi]
  have hk : k.val < 128 ∨ 128 ≤ k.val ∧ k.val < 256 ∨ 256 ≤ k.val := by omega
  rcases hk with hk | hk | hk
  · refine (concatenate_apply_piece (t := S8x32x384x2x64) 2 _ _ (ix5 b B k g d) 0 (by simp) S8x32x128x2x64 _ rfl rfl 0 rfl (ix5 b B ⟨k.val, by omega⟩ g d) (off _) (show 0 + k.val = k.val by omega)).trans ?_
    exact (h0 _ _ _ _ _).trans (fin _ _ _ _ (show B.val = B.val + k.val / 128 by omega) (show k.val = k.val % 128 by omega))
  · refine (concatenate_apply_piece (t := S8x32x384x2x64) 2 _ _ (ix5 b B k g d) 1 (by simp) S8x32x128x2x64 _ rfl rfl 128 rfl (ix5 b B ⟨k.val - 128, by omega⟩ g d) (off _) (show 128 + (k.val - 128) = k.val by omega)).trans ?_
    exact (h1 _ _ _ _ _).trans (fin _ _ _ _ (show 1 + B.val = B.val + k.val / 128 by omega) (show k.val - 128 = k.val % 128 by omega))
  · refine (concatenate_apply_piece (t := S8x32x384x2x64) 2 _ _ (ix5 b B k g d) 2 (by simp) S8x32x128x2x64 _ rfl rfl 256 rfl (ix5 b B ⟨k.val - 256, by omega⟩ g d) (off _) (show 256 + (k.val - 256) = k.val by omega)).trans ?_
    exact (h2 _ _ _ _ _).trans (fin _ _ _ _ (show 2 + B.val = B.val + k.val / 128 by omega) (show k.val - 256 = k.val % 128 by omega))

theorem band_near (x : FVec Ideal S8x4096x128 .f32) (o : Nat) (ho : o + 128 ≤ 5920) (hx : ∀ b t (l : Fin 128), x (ix3 b t l) = u (ix3 b t ⟨o + l.val, by omega⟩))
    (b : Fin 8) (B : Fin 32) (k : Fin 384) (g : Fin 2) (d : Fin 64) :
    padded x (ix5 b ⟨B.val + k.val / 128, by omega⟩ ⟨k.val % 128, by omega⟩ g d) = near u b B k ⟨o + (64 * g.val + d.val), by omega⟩ := by
  rw [padded_at]
  unfold near
  have e : 128 * (B.val + k.val / 128) + k.val % 128 = 128 * B.val + k.val := by omega
  by_cases h : 128 ≤ 128 * B.val + k.val ∧ 128 * B.val + k.val < 4224
  · rw [dif_pos h, dif_pos (by dsimp only; rw [e]; exact h), hx]
    refine congrArg u (congrArg (fun t => ix3 b t _) (Fin.ext ?_))
    show 128 * (B.val + k.val / 128) + k.val % 128 - 128 = _
    rw [e]
  · rw [dif_neg h, dif_neg (by dsimp only; rw [e]; exact h)]

theorem cut5 (i : S8x34x128x2x64.Idx) (b : Fin 8) (n : Fin 34) (j : Fin 128) (g : Fin 2) (d : Fin 64) (h0 : (i 0).val = b.val) (h1 : (i 1).val = n.val)
    (h2 : (i 2).val = j.val) (h3 : (i 3).val = g.val) (h4 : (i 4).val = d.val) : i = ix5 b n j g d :=
  funext fun a => match a with
    | ⟨0, _⟩ => Fin.ext h0
    | ⟨1, _⟩ => Fin.ext h1
    | ⟨2, _⟩ => Fin.ext h2
    | ⟨3, _⟩ => Fin.ext h3
    | ⟨4, _⟩ => Fin.ext h4

theorem v11_at (b : Fin 8) (B : Fin 32) (k : Fin 384) (g : Fin 2) (d : Fin 64) :
    val_main_v11 (F := Ideal) u (ix5 b B k g d) = near u b B k (kCol g d) := by
  unfold val_main_v11
  refine (beside (val_main_v7 (F := Ideal) u) _ _ _ (fun b B i g d => ?_) (fun b B i g d => ?_) (fun b B i g d => ?_) _ b B k g d).trans ?_
  · rw [val_main_v8_apply]; exact congrArg _ (cut5 _ _ _ _ _ _ rfl rfl rfl rfl rfl)
  · rw [val_main_v9_apply]; exact congrArg _ (cut5 _ _ _ _ _ _ rfl rfl rfl rfl rfl)
  · rw [val_main_v10_apply]; exact congrArg _ (cut5 _ _ _ _ _ _ rfl rfl rfl rfl rfl)
  · rw [v7_eq]
    refine band_near u _ 3104 (by omega) (fun b t l => ?_) b B k g d
    rw [val_main_v1_apply]
    exact congrArg u (funext fun a => match a with
      | ⟨0, _⟩ => rfl
      | ⟨1, _⟩ => rfl
      | ⟨2, _⟩ => rfl)

theorem v18_at (b : Fin 8) (B : Fin 32) (k : Fin 384) (g : Fin 2) (d : Fin 64) :
    val_main_v18 (F := Ideal) u (ix5 b B k g d) = near u b B k (vCol g d) := by
  unfold val_main_v18
  refine (beside (val_main_v14 (F := Ideal) u) _ _ _ (fun b B i g d => ?_) (fun b B i g d => ?_) (fun b B i g d => ?_) _ b B k g d).trans ?_
  · rw [val_main_v15_apply]; exact congrArg _ (cut5 _ _ _ _ _ _ rfl rfl rfl rfl rfl)
  · rw [val_main_v16_apply]; exact congrArg _ (cut5 _ _ _ _ _ _ rfl rfl rfl rfl rfl)
  · rw [val_main_v17_apply]; exact congrArg _ (cut5 _ _ _ _ _ _ rfl rfl rfl rfl rfl)
  · rw [v14_eq]
    refine band_near u _ 3232 (by omega) (fun b t l => ?_) b B k g d
    rw [val_main_v2_apply]
    exact congrArg u (funext fun a => match a with
      | ⟨0, _⟩ => rfl
      | ⟨1, _⟩ => rfl
      | ⟨2, _⟩ => rfl)

end Cert.ReferenceIdeal.Plain
end
-- ==== Proof.AttnPlain.lean ====
module

public import proofs.«01_k».proof.Proof.AttnRef

/-! # The plain attention's scores, weights and result at an index -/

@[expose] public section

set_option maxRecDepth 65536

noncomputable section

namespace Cert.ReferenceIdeal.Plain

open Cert.ReferenceIdeal Cert.ReferenceIdeal.Gen Cert.ReferenceIdeal.Read Idealize.ShloMosaic Idealize.ShloMosaic.ValueIdx
open Cert.Attn

variable (u : (⟨S8x4096x5920, .f32⟩ : BufTy).Contents (Elt Ideal)) (rb : (⟨S32x8, .f32⟩ : BufTy).Contents (Elt Ideal))
  (sk : (⟨S8, .f32⟩ : BufTy).Contents (Elt Ideal))

/-! ## The table's entries -/

theorem v23_at (q : Fin 128) (k : Fin 384) : val_main_v23 (F := Ideal) (ix2 q k) = rel (apart q k) := rel_eq q k

theorem v63_at (q : Fin 128) (k : Fin 384) : val_main_v63 (F := Ideal) (ix2 q k) = BitVec.ofNat 32 (bucketOf (apart q k)).val := by
  rw [← codeR_eq, ← v23_at]
  rfl

theorem entry_eq : ∀ e : Fin 32, min (Scalar.select (IntOp.cmpi .slt (BitVec.ofNat 32 e.val) 0#32) (IntOp.addi (BitVec.ofNat 32 e.val) 32#32)
    (BitVec.ofNat 32 e.val)).toInt.toNat 31 = e.val := by decide +kernel

theorem v69_at (q : Fin 128) (k : Fin 384) : min (val_main_v69 (F := Ideal) (ix3 q k 0)).toInt.toNat 31 = (bucketOf (apart q k)).val := by
  have h : val_main_v69 (F := Ideal) (ix3 q k 0) = Scalar.select (IntOp.cmpi .slt (val_main_v63 (F := Ideal) (ix2 q k)) 0#32)
      (IntOp.addi (val_main_v63 (F := Ideal) (ix2 q k)) 32#32) (val_main_v63 (F := Ideal) (ix2 q k)) := by
    rw [val_main_v69_apply]
    have e : idx_main_v69 (ix3 q k 0) = ix2 q k := funext fun a => match a with
      | ⟨0, _⟩ => rfl
      | ⟨1, _⟩ => rfl
    rw [e]
    rfl
  rw [h, v63_at, entry_eq]

theorem v70_at (q : Fin 128) (k : Fin 384) (h : Fin 8) :
    val_main_v70 (F := Ideal) rb (ix3 q k h) = rb (ix2 (bucketOf (apart q k)) h) := by
  unfold val_main_v70 Host.gather
  refine congrArg rb (funext fun a => Fin.ext ?_)
  show gather_S32x8_S128x384x1_S128x384x8_2_0_n_n_0_2_18.start (ix3 q k h) (val_main_v69 (F := Ideal)) a
    + gather_S32x8_S128x384x1_S128x384x8_2_0_n_n_0_2_18.batchCoord (ix3 q k h) a
    + gather_S32x8_S128x384x1_S128x384x8_2_0_n_n_0_2_18.offCoord (ix3 q k h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by decide), GatherDims.offCoord_eq_zero _ _ _ (by decide)]
    simp only [Nat.add_zero]
    refine Eq.trans ?_ (v69_at q k)
    unfold GatherDims.start
    rw [dif_pos (show (0 : Fin 2) ∈ gather_S32x8_S128x384x1_S128x384x8_2_0_n_n_0_2_18.startIndexMap from List.mem_singleton.mpr rfl)]
    refine congrArg (fun i => min (val_main_v69 (F := Ideal) i).toInt.toNat 31) (funext fun b => Fin.ext ?_)
    match b with
    | ⟨0, _⟩ => rfl
    | ⟨1, _⟩ => rfl
    | ⟨2, _⟩ => rfl
  · rw [GatherDims.batchCoord_eq_zero _ _ _ (by decide)]
    unfold GatherDims.start GatherDims.offCoord
    rw [dif_neg (by decide), dif_pos (by decide)]
    simp only [Nat.zero_add, Nat.add_zero]
    rfl

theorem v97_at (b : Fin 8) (B : Fin 32) (g : Fin 2) (r : Fin 4) (q : Fin 128) (k : Fin 384) :
    val_main_v97 (F := Ideal) rb (ix6 b B g r q k) = rb (ix2 (bucketOf (apart q k)) (hd g r)) := by
  have := g.isLt; have := r.isLt; have := q.isLt; have := k.isLt
  rw [val_main_v97_apply, val_main_v96_apply, val_main_v72_apply, val_main_v71_apply, ← v70_at rb]
  refine congrArg (val_main_v70 (F := Ideal) rb) (funext fun a => Fin.ext ?_)
  match a with
  | ⟨0, _⟩ => show (((g.val * 4 + r.val) * 128 + q.val) * 384 + k.val) / 384 % 128 = q.val; omega
  | ⟨1, _⟩ => show (((g.val * 4 + r.val) * 128 + q.val) * 384 + k.val) % 384 = k.val; omega
  | ⟨2, _⟩ => show (((g.val * 4 + r.val) * 128 + q.val) * 384 + k.val) / 49152 = 4 * g.val + r.val; omega

/-! ## The mask -/

theorem v91_at (B : Fin 32) (q : Fin 128) (k : Fin 384) : val_main_v91 (F := Ideal) (ix3 B q k) = BitVec.ofBool (decide (ok B q k)) := by
  have hB := B.isLt; have hk := k.isLt
  have h80 : val_main_v80 (F := Ideal) (ix3 B q k) = BitVec.ofNat 32 (128 * B.val + k.val) - 128#32 := by
    rw [← place_eq, val_main_v80_apply, val_main_v79_apply, val_main_v78_apply]
    rfl
  have h87 : val_main_v87 (F := Ideal) (ix3 B q k) = BitVec.ofBool (decide (127 ≤ (apart q k).val ∧ (apart q k).val ≤ 383)) := by
    rw [val_main_v87_apply, val_main_v84_apply, ← near_eq, ← v23_at]
    have e : idx_main_v84 (idx_main_v87 (ix3 B q k)) = ix2 q k := funext fun a => match a with
      | ⟨0, _⟩ => rfl
      | ⟨1, _⟩ => rfl
    rw [e]
    rfl
  have hs := started_eq ⟨128 * B.val + k.val, by omega⟩
  have he := ended_eq ⟨128 * B.val + k.val, by omega⟩
  have h86 : val_main_v86 (F := Ideal) (ix3 B q k) = BitVec.ofBool (decide (128 ≤ 128 * B.val + k.val)) := by
    refine Eq.trans ?_ hs
    rw [val_main_v86_apply, h80]
    rfl
  have h90 : val_main_v90 (F := Ideal) (ix3 B q k) = BitVec.ofBool (decide (128 * B.val + k.val < 4224)) := by
    refine Eq.trans ?_ he
    rw [val_main_v90_apply, h80]
    rfl
  rw [val_main_v91_apply, val_main_v88_apply, h87, h86, h90]
  have hand : ∀ x y : Bool, IntOp.andi (BitVec.ofBool x) (BitVec.ofBool y) = BitVec.ofBool (x && y) := by decide
  rw [hand, hand]
  refine congrArg BitVec.ofBool ?_
  rw [Bool.eq_iff_iff, decide_eq_true_iff]
  unfold ok
  simp [and_assoc]

/-! ## Scores and weights -/

theorem v98_at (b : Fin 8) (B : Fin 32) (g : Fin 2) (r : Fin 4) (q : Fin 128) (k : Fin 384) :
    val_main_v98 (F := Ideal) u rb (ix6 b B g r q k) = score u rb b B q g r k := by
  rw [val_main_v98_apply, v97_at, val_main_v95_apply, val_main_v93_apply, val_main_v92_apply]
  refine congrArg (fun s : EReal => s * Ideal.ofBits .f32 0x3E000000#32 + rb (ix2 (bucketOf (apart q k)) (hd g r))) (Finset.sum_congr rfl fun d _ => ?_)
  rw [← v11_at u, ← v4_at u]
  refine congrArg₂ (· * · : EReal → EReal → EReal) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl
    | ⟨5, _⟩ => rfl

theorem v100_at (b : Fin 8) (B : Fin 32) (g : Fin 2) (r : Fin 4) (q : Fin 128) (k : Fin 384) :
    val_main_v100 (F := Ideal) u rb (ix6 b B g r q k) = scoreM u rb b B q g r k := by
  have hm : val_main_call11_v1 (F := Ideal) (ix6 b B g r q k) = BitVec.ofBool (decide (ok B q k)) := by
    rw [val_main_call11_v1_apply, val_main_v99_apply, ← v91_at]
    refine congrArg _ (funext fun a => ?_)
    match a with
    | ⟨0, _⟩ => rfl
    | ⟨1, _⟩ => rfl
    | ⟨2, _⟩ => rfl
  have hn : val_main_call11_v2 (F := Ideal) (ix6 b B g r q k) = ⊥ := by
    rw [val_main_call11_v2_apply, val_main_call11_v0_apply]
    exact AttnRow.negInf
  rw [val_main_v100_apply, hm, hn, v98_at]
  unfold scoreM
  by_cases h : ok B q k
  · rw [if_pos h, decide_eq_true h]; rfl
  · rw [if_neg h, decide_eq_false h]; rfl

theorem v103_at (b : Fin 8) (B : Fin 32) (g : Fin 2) (r : Fin 4) (q : Fin 128) :
    val_main_v103 (F := Ideal) u rb (ix5 b B g r q) = Finset.univ.fold max (Ideal.ofBits .f32 0xFF800000#32) (scoreM u rb b B q g r) := by
  unfold val_main_v103
  rw [Host.reduce_eq_fold_single FloatOps.maximumf _ _ reducesTo_S8x32x2x4x128x384_S8x32x2x4x128_d5 (by decide) h_S_]
  refine congrArg (Finset.univ.fold max (Ideal.ofBits .f32 0xFF800000#32)) (funext fun k => ?_)
  refine Eq.trans (congrArg (val_main_v100 (F := Ideal) u rb) (funext fun a => ?_)) (v100_at u rb b B g r q k)
  match a with
  | ⟨0, _⟩ => rfl
  | ⟨1, _⟩ => rfl
  | ⟨2, _⟩ => rfl
  | ⟨3, _⟩ => rfl
  | ⟨4, _⟩ => rfl
  | ⟨5, _⟩ => rfl

theorem sink_at (g : Fin 2) (r : Fin 4) : val_main_v102 (F := Ideal) sk (ix6 0 0 g r 0 0) = sk (ix1 (hd g r)) := by
  rw [val_main_v102_apply, val_main_v101_apply]
  refine congrArg sk (funext fun a => Fin.ext ?_)
  match a with
  | ⟨0, _⟩ => show g.val * 4 + r.val = 4 * g.val + r.val; omega

theorem v106_at (b : Fin 8) (B : Fin 32) (g : Fin 2) (r : Fin 4) (q : Fin 128) :
    val_main_v106 (F := Ideal) u rb sk (ix6 b B g r q 0) = AttnRow.top (scoreM u rb b B q g r) (sk (ix1 (hd g r))) := by
  rw [val_main_v106_apply, val_main_v104_apply, val_main_v105_apply, ← sink_at sk]
  unfold AttnRow.top
  rw [← v103_at]
  refine congrArg₂ (max : EReal → EReal → EReal) (congrArg _ (funext fun a => ?_)) (congrArg _ (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl
    | ⟨5, _⟩ => rfl

theorem cut6 {n : Nat} (i : (⟨6, ![8, 32, 2, 4, 128, n]⟩ : Shape).Idx) (b : Fin 8) (B : Fin 32) (g : Fin 2) (r : Fin 4) (q : Fin 128) (k : Fin n)
    (h0 : (i 0).val = b.val) (h1 : (i 1).val = B.val) (h2 : (i 2).val = g.val) (h3 : (i 3).val = r.val) (h4 : (i 4).val = q.val) (h5 : (i 5).val = k.val) :
    i = ix6 b B g r q k :=
  funext fun a => match a with
    | ⟨0, _⟩ => Fin.ext h0
    | ⟨1, _⟩ => Fin.ext h1
    | ⟨2, _⟩ => Fin.ext h2
    | ⟨3, _⟩ => Fin.ext h3
    | ⟨4, _⟩ => Fin.ext h4
    | ⟨5, _⟩ => Fin.ext h5

theorem v109_at (b : Fin 8) (B : Fin 32) (g : Fin 2) (r : Fin 4) (q : Fin 128) (k : Fin 384) :
    val_main_v109 (F := Ideal) u rb sk (ix6 b B g r q k)
      = Ideal.exp (scoreM u rb b B q g r k - AttnRow.top (scoreM u rb b B q g r) (sk (ix1 (hd g r)))) := by
  rw [val_main_v109_apply, val_main_v108_apply, v100_at, val_main_v107_apply,
    cut6 (idx_main_v107 (ix6 b B g r q k)) b B g r q 0 rfl rfl rfl rfl rfl rfl, v106_at]
  rfl

theorem v115_at (b : Fin 8) (B : Fin 32) (g : Fin 2) (r : Fin 4) (q : Fin 128) :
    val_main_v115 (F := Ideal) u rb sk (ix6 b B g r q 0) = AttnRow.den (scoreM u rb b B q g r) (sk (ix1 (hd g r))) := by
  have hs : val_main_v112 (F := Ideal) sk (ix6 b B g r q 0) = sk (ix1 (hd g r)) := by
    rw [val_main_v112_apply, ← sink_at sk]
    refine congrArg _ (funext fun a => ?_)
    match a with
    | ⟨0, _⟩ => rfl
    | ⟨1, _⟩ => rfl
    | ⟨2, _⟩ => rfl
    | ⟨3, _⟩ => rfl
    | ⟨4, _⟩ => rfl
    | ⟨5, _⟩ => rfl
  rw [val_main_v115_apply, val_main_v111_apply, val_main_v110_apply, val_main_v114_apply, val_main_v113_apply, hs, v106_at]
  unfold AttnRow.den
  refine congrArg (fun s : EReal => s + Ideal.exp (sk (ix1 (hd g r)) - AttnRow.top (scoreM u rb b B q g r) (sk (ix1 (hd g r))))) ?_
  refine (congrArg (fun s : EReal => s + _) Ideal.ofBits_zero_f32).trans ((zero_add _).trans (Finset.sum_congr rfl fun k _ => ?_))
  rw [cut6 (idx_main_v110 (idx_main_v111 (ix6 b B g r q 0)) k) b B g r q k rfl rfl rfl rfl rfl rfl, v109_at]

theorem v118_at (b : Fin 8) (B : Fin 32) (g : Fin 2) (d : Fin 64) (r : Fin 4) (q : Fin 128) :
    val_main_v118 (F := Ideal) u rb sk (ix6 b B g d r q) = headOut u rb sk b B q g r d := by
  rw [val_main_v118_apply]
  unfold headOut AttnRow.soft
  refine Finset.sum_congr rfl fun k _ => ?_
  have hl : lidx_main_v118 (ix6 b B g d r q) k = ix5 b B k g d := funext fun a => match a with
    | ⟨0, _⟩ => rfl
    | ⟨1, _⟩ => rfl
    | ⟨2, _⟩ => rfl
    | ⟨3, _⟩ => rfl
    | ⟨4, _⟩ => rfl
  rw [hl, v18_at, cut6 (ridx_main_v118 (ix6 b B g d r q) k) b B g r q k rfl rfl rfl rfl rfl rfl, val_main_v117_apply, v109_at, val_main_v116_apply,
    cut6 (idx_main_v116 (ix6 b B g r q k)) b B g r q 0 rfl rfl rfl rfl rfl rfl, v115_at]
  rfl

/-! ## The result -/

theorem v120_at (b : Fin 8) (B : Fin 32) (q : Fin 128) (c : Fin 512) :
    val_main_v120 (F := Ideal) u rb sk (ix3 b (tok B q) c)
      = headOut u rb sk b B q ⟨c.val / 256, by omega⟩ ⟨c.val / 64 % 4, by omega⟩ ⟨c.val % 64, by omega⟩ := by
  have := b.isLt; have := B.isLt; have := q.isLt; have := c.isLt
  unfold val_main_v120
  refine (shapeCast_apply _ shapeCasts_S8x32x128x2x4x64_S8x4096x512 (ix3 b (tok B q) c)
    (ix6 b B q ⟨c.val / 256, by omega⟩ ⟨c.val / 64 % 4, by omega⟩ ⟨c.val % 64, by omega⟩) (by
    show Shape.rankPi ![8, 32, 128, 2, 4, 64] (ix6 b B q _ _ _) = Shape.rankPi ![8, 4096, 512] (ix3 b (tok B q) c)
    simp [Shape.rankPi, Shape.prodPi, ix3, ix6, tok]; omega)).trans ?_
  rw [val_main_v119_apply, ← v118_at]
  refine congrArg _ (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem v122_at (b : Fin 8) (B : Fin 32) (q : Fin 128) (c : Fin 512) :
    val_main_v122 (F := Ideal) u rb sk (ix3 b (tok B q) c) = gatedOut u rb sk b B q c := by
  have h3 : val_main_v3 (F := Ideal) u (ix3 b (tok B q) c) = u (ix3 b (tok B q) (gCol c)) := by
    rw [val_main_v3_apply]
    refine congrArg u (funext fun a => ?_)
    match a with
    | ⟨0, _⟩ => rfl
    | ⟨1, _⟩ => rfl
    | ⟨2, _⟩ => rfl
  have h : val_main_v121 (F := Ideal) u (ix3 b (tok B q) c) = OutRow.silu (u (ix3 b (tok B q) (gCol c))) := by
    rw [← h3]
    rfl
  rw [val_main_v122_apply, v120_at, h]
  rfl

theorem v132_at (b : Fin 8) (B : Fin 32) (q : Fin 128) (c : Fin 512) :
    val_main_v132 (F := Ideal) u rb sk (ix3 b (tok B q) c) = OutRow.unit (gatedOut u rb sk b B q) c := by
  rw [val_main_v132_apply, val_main_v131_apply, val_main_v130_apply, val_main_v129_apply, val_main_v127_apply, val_main_v125_apply,
    val_main_v126_apply, val_main_v128_apply, v122_at, val_main_v124_apply]
  have h : ∀ j, idx_main_v124 (idx_main_v125 (idx_main_v131 (ix3 b (tok B q) c))) j = ix3 b (tok B q) j := fun j => by
    funext a; match a with
    | ⟨0, _⟩ => rfl
    | ⟨1, _⟩ => rfl
    | ⟨2, _⟩ => rfl
  refine congrArg (fun s : EReal => gatedOut u rb sk b B q c * Ideal.rsqrt (Ideal.div s (Ideal.ofBits .f32 0x44000000#32)
    + Ideal.ofBits .f32 0x358637BD#32)) ?_
  refine (congrArg (fun s : EReal => s + _) Ideal.ofBits_zero_f32).trans ((zero_add _).trans (Finset.sum_congr rfl fun j _ => ?_))
  rw [h, val_main_v123_apply, v122_at]; rfl

theorem v136_at (b : Fin 8) (B : Fin 32) (q : Fin 128) (c : Fin 512) :
    val_main_v136 (F := Ideal) u rb sk (ix3 b (tok B q) c) = result u rb sk b B q c := by
  unfold val_main_v136
  refine (narrowed _ _ _).trans ?_
  unfold val_main_v135 val_main_v134 val_main_v133
  refine (paired_at (val_main_v132 (F := Ideal) u rb sk) _ _ _ b (tok B q) c).trans ?_
  exact v132_at u rb sk b B q (unpair c)

end Cert.ReferenceIdeal.Plain
end
-- ==== Proof.AttnPre.lean ====
/- What the precondition says of the attention's arguments: the queries, the keys, the bias table and the sinks are real numbers. -/
module

public import proofs.«01_k».proof.Proof.AttnBridge
public import proofs.«01_k».proof.Proof.Gen.Pre_finite
public import Idealize.ShloMosaic.Lib.ReduceAll

@[expose] public section

noncomputable section

namespace Cert.Pre_finite.Read

open Idealize.ShloMosaic Idealize.ShloMosaic.ValueIdx Cert.Pre_finite.Gen

/-- A magnitude below `+∞` is a real number's. -/
theorem real_of_abs_lt (x : EReal)
    (h : FloatOps.cmpf .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hn
    simp [hn] at h'
  induction x with
  | bot => simp at hlt
  | top => simp at hlt
  | coe r => exact ⟨r, rfl⟩

instance : Subsingleton S_.Idx := ⟨fun _ _ => funext fun a => a.elim0⟩

theorem reals (u : FVec Ideal S8x4096x5920 .f32) (rb : FVec Ideal S32x8 .f32) (sk : FVec Ideal S8 .f32)
    (h : Cert.Pre_finite.fn (F := Ideal) u rb sk = fun _ => 1#1) : Cert.KernelIdeal.Block.Reals u rb sk := by
  have h0 := congrFun h (fun a => a.elim0)
  obtain ⟨h01, hs⟩ := IntOp.andi_eq_one.1 h0
  obtain ⟨hu, hr⟩ := IntOp.andi_eq_one.1 h01
  refine ⟨fun b t o => ?_, fun i => ?_, fun i => ?_⟩
  · have e := real_of_abs_lt _ (Host.reduce_andi_all _ _ _ _ _ hu (ix3 b t o))
    obtain ⟨r, hr⟩ := e
    refine ⟨r, Eq.trans (congrArg u ?_) hr⟩
    exact funext fun a => Fin.ext (by
      match a with
      | ⟨0, _⟩ => exact (Nat.zero_add _).symm
      | ⟨1, _⟩ => exact (Nat.zero_add _).symm
      | ⟨2, _⟩ => rfl)
  · exact real_of_abs_lt _ (Host.reduce_andi_all _ _ _ _ _ hr i)
  · exact real_of_abs_lt _ (Host.reduce_andi_all _ _ _ _ _ hs i)

end Cert.Pre_finite.Read

end
-- ==== Proof.AttnClaim.lean ====
/- The attention's value claim: the kernel's result and the reference's are the same array. -/
module

public import proofs.«01_k».proof.Defs
public import proofs.«01_k».proof.Proof.AttnArray
public import proofs.«01_k».proof.Proof.AttnPlain
public import proofs.«01_k».proof.Proof.AttnPre
public import proofs.«01_k».proof.Proof.Gen.ReferenceIdeal.Run

@[expose] public section

noncomputable section

namespace Cert.KernelIdeal.Block

open Idealize.ShloMosaic hiding ix0 ix1 ix2 ix3 ix4 ix5
open Idealize.SL.Sem

/-- The reference's array, entry by entry what the kernel's blocks hold. -/
theorem plain_eq (m : (ℓ : Loc nD τ sig) → Buf (Elt Ideal) ℓ) (c : Dev nD) :
    Cert.ReferenceIdeal.Read.val_main_v136 (F := Ideal) (m ((c.tc : Thread nD τ).loc main_arg0)) (m ((c.tc : Thread nD τ).loc main_arg1))
      (m ((c.tc : Thread nD τ).loc main_arg2)) = plain m c := by
  funext y
  obtain ⟨b, B, q, k, rfl⟩ : ∃ (b : Fin 8) (B : Fin 32) (q : Fin 128) (k : Fin 512), y = ValueIdx.ix3 b (Attn.tok B q) k := by
    have ht : (y 1).val < 4096 := (y 1).isLt
    refine ⟨y 0, ⟨(y 1).val / 128, by omega⟩, ⟨(y 1).val % 128, by omega⟩, y 2, ?_⟩
    refine (ValueIdx.eq_ix3 y).trans (congrArg (fun T : Fin 4096 => (ValueIdx.ix3 (y 0) T (y 2) : S8x4096x512.Idx)) (Fin.ext ?_))
    show (y 1).val = 128 * ((y 1).val / 128) + (y 1).val % 128
    omega
  exact (Cert.ReferenceIdeal.Plain.v136_at _ _ _ b B q k).trans (plain_at m c _ b B q k rfl rfl rfl).symm

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => plain m c, ?_, ?_⟩
  · refine (θ_run Cert.KernelIdeal.defs _ _).mono (fun r h c => ?_) (Cert.KernelIdeal.Value.run_blocks m g)
    obtain ⟨h0, h1⟩ := h c
    exact ⟨h0.trans (final10 m c (Cert.Pre_finite.Read.reals _ _ _ (hpre c))), h1⟩
  · refine (θ_run Cert.ReferenceIdeal.defs _ _).mono (fun r h c => ?_) (Cert.ReferenceIdeal.Value.run m' g')
    obtain ⟨h0, h1⟩ := h c
    obtain ⟨a0, a1, a2⟩ := hagree c
    refine ⟨(h0.trans (Cert.ReferenceIdeal.Read.val_main_v136_eq _)).trans ?_, h1⟩
    refine Eq.trans ?_ (plain_eq m c)
    exact congr (congr (congrArg (Cert.ReferenceIdeal.Read.val_main_v136 (F := Ideal)) a0) a1) a2

end Cert.KernelIdeal.Block

end
-- ==== Proof.InprojBlock.lean ====
module

public import proofs.«01_k».proof.Proof.Gen.InprojIdeal.Value
public import proofs.«01_k».proof.Proof.Layout

/-! # What one grid point of the input projection writes

A grid point holds 512 token rows. The body normalises them in two slices of 256 rows, keeps them in a scratch buffer,
and multiplies that buffer by the weight in tiles of columns. Every tile stored is the same function of the row and the
column: the normalised row times the weight's column (`proj`). -/

@[expose] public section

set_option maxRecDepth 16384

noncomputable section

namespace Cert.InprojIdeal.Block

open Cert.InprojIdeal Cert.InprojIdeal.Gen Idealize.ShloMosaic Idealize.ShloMosaic.TcCoe Idealize.SL.Sem
open Idealize.ShloMosaic.Tactic Idealize.ShloMosaic.ValueIdx

/-- The element `k` of row `r`, divided by the row's root mean square and multiplied by the gain. -/
def normed {R : Nat} (x : Fin R → Fin 2048 → EReal) (g : Fin 2048 → EReal) (r : Fin R) (k : Fin 2048) : EReal :=
  x r k * Ideal.rsqrt (Ideal.div (∑ j : Fin 2048, x r j * x r j) (Ideal.ofBits .f32 0x45000000#32)
    + Ideal.ofBits .f32 0x358637BD#32) * g k

/-- The normalised row `r` times column `c` of the weight. -/
def proj {R N : Nat} (x : Fin R → Fin 2048 → EReal) (g : Fin 2048 → EReal) (w : Fin 2048 → Fin N → EReal)
    (r : Fin R) (c : Fin N) : EReal :=
  ∑ k : Fin 2048, normed x g r k * w k c

/-! ## The body's values, one name each -/

/-- The normalisation of a slice of 256 rows. -/
def slice (X : Vec Ideal S256x2048 .f32) (g : Vec Ideal S1x2048 .f32) : FVec Ideal S256x2048 .bf16 := k0_pay6 X g

theorem pay23_eq (X : Vec Ideal S256x2048 .f32) (g : Vec Ideal S1x2048 .f32) : k0_pay23 X (k0_pay22 X) g = slice X g := rfl

theorem slice_apply (X : Vec Ideal S256x2048 .f32) (g : Vec Ideal S1x2048 .f32) (r : Fin 256) (k : Fin 2048) :
    slice X g (ix2 r k) = normed (fun r k => X (ix2 r k)) (fun k => g (ix2 0 k)) r k := by
  unfold slice k0_pay6 normed
  dsimp only
  rw [shapeCast_self, shapeCast_self]
  show X (ix2 r k) * broadcastTo S256x2048 _ _ (ix2 r k) * broadcastTo S256x2048 _ _ (ix2 r k) = _
  rw [Layout.spread_col, Layout.spread_row]
  show X (ix2 r k) * Ideal.rsqrt (Ideal.div (shapeCast S256x1 _ _ (ix2 r 0)) _ + _) * _ = _
  rw [Layout.as_col]
  exact congrArg (fun s => X (ix2 r k) * Ideal.rsqrt (Ideal.div s (Ideal.ofBits .f32 0x45000000#32)
    + Ideal.ofBits .f32 0x358637BD#32) * g (ix2 0 k)) (Layout.row_sum (mulf X X) _ _ _ _ r)

/-- A tile of 512 columns: 256 rows times the weight's columns. -/
def tile (Y : Vec Ideal S256x2048 .bf16) (W : Vec Ideal S2048x512 .bf16) : FVec Ideal S256x512 .bf16 := k0_pay7 Y W

theorem tile_apply (Y : Vec Ideal S256x2048 .bf16) (W : Vec Ideal S2048x512 .bf16) (j : S256x512.Idx) :
    tile Y W j = ∑ k : Fin 2048, Y (ix2 (j 0) k) * W (ix2 k (j 1)) := by
  unfold tile k0_pay7
  rw [shapeCast_self]
  conv_lhs => rw [eq_ix2 j]
  exact Layout.product (φ₁ := .bf16) (φ₂ := .bf16) none Y W (j 0) (j 1)

/-- The last tile, of 384 columns. -/
def last (Y : Vec Ideal S256x2048 .bf16) (W : Vec Ideal S2048x384 .bf16) : FVec Ideal S256x384 .bf16 := k0_pay20 Y W

theorem last_apply (Y : Vec Ideal S256x2048 .bf16) (W : Vec Ideal S2048x384 .bf16) (j : S256x384.Idx) :
    last Y W j = ∑ k : Fin 2048, Y (ix2 (j 0) k) * W (ix2 k (j 1)) := by
  unfold last k0_pay20 k0_pay19
  dsimp only
  rw [shapeCast_self]
  conv_lhs => rw [eq_ix2 j]
  exact Layout.product (φ₁ := .bf16) (φ₂ := .bf16) none Y W (j 0) (j 1)

/-- The last 128 columns of the last tile. -/
def tail (Y : Vec Ideal S256x2048 .bf16) (W : Vec Ideal S2048x384 .bf16) : FVec Ideal S256x128 .f32 := k0_pay21 Y W

theorem tail_apply (Y : Vec Ideal S256x2048 .bf16) (W : Vec Ideal S2048x384 .bf16) (j : S256x128.Idx) :
    tail Y W j = ∑ k : Fin 2048, Y (ix2 (j 0) k) * W (ix2 k ⟨256 + (j 1).val, by have := (j 1).isLt; simp at this; omega⟩) := by
  unfold tail k0_pay21
  dsimp only
  exact (extractStridedSlice_apply _ _ _ j (ix2 (j 0) ⟨256 + (j 1).val, by have := (j 1).isLt; simp at this; omega⟩)
    (fun a => by match a with | ⟨0, _⟩ => exact (Nat.zero_add _).symm | ⟨1, _⟩ => rfl)).trans (last_apply Y W _)

/-! ## A stored tile is `proj` at the tile's place -/

variable (x0 : Vec Ideal S512x2048 .f32) (x1 : Vec Ideal S1x2048 .f32) (x2 : Vec Ideal S2048x6016 .bf16)

/-- What the point leaves in its block of the projection. -/
def G (y : S512x6016.Idx) : EReal :=
  proj (fun r k => x0 (ix2 r k)) (fun k => x1 (ix2 0 k)) (fun k c => x2 (ix2 k c)) (y 0) (y 1)

/-- What the point leaves in its block of the last 128 columns. -/
def Gt (y : S512x128.Idx) : EReal :=
  G x0 x1 x2 (ix2 (y 0) ⟨5888 + (y 1).val, by have := (y 1).isLt; simp at this; omega⟩)

theorem slice_ld (o : Nat) (inb : ∀ a, (![o, 0] : Fin 2 → Nat) a + (![256, 2048] : Fin 2 → Nat) a ≤ S512x2048.size a)
    (inb1 : ∀ a, (![0, 0] : Fin 2 → Nat) a + (![1, 2048] : Fin 2 → Nat) a ≤ S1x2048.size a) (r : Fin 256) (k : Fin 2048) (q : Fin 512) (hq : q.val = o + r.val) :
    slice (View.ld x0 (Rect.unit ![o, 0] ![256, 2048] inb)) (View.ld x1 (Rect.unit ![0, 0] ![1, 2048] inb1)) (ix2 r k)
      = normed (fun r k => x0 (ix2 r k)) (fun k => x1 (ix2 0 k)) q k := by
  rw [slice_apply]
  have hx : ∀ j : Fin 2048, View.ld x0 (Rect.unit ![o, 0] ![256, 2048] inb) (ix2 r j) = x0 (ix2 q j) := fun j =>
    congrArg x0 (funext fun a => Fin.ext (by
      rw [Rect.idx_unit_val]; match a with | ⟨0, _⟩ => exact hq.symm | ⟨1, _⟩ => exact Nat.zero_add _))
  have hg : ∀ j : Fin 2048, View.ld x1 (Rect.unit ![0, 0] ![1, 2048] inb1) (ix2 0 j) = x1 (ix2 0 j) := fun j =>
    congrArg x1 (funext fun a => Fin.ext (by
      rw [Rect.idx_unit_val]; match a with | ⟨0, _⟩ => rfl | ⟨1, _⟩ => exact Nat.zero_add _))
  unfold normed
  simp only [hx, hg]

theorem tile_piece (o c : Nat) (inb : ∀ a, (![o, 0] : Fin 2 → Nat) a + (![256, 2048] : Fin 2 → Nat) a ≤ S512x2048.size a)
    (inb1 : ∀ a, (![0, 0] : Fin 2 → Nat) a + (![1, 2048] : Fin 2 → Nat) a ≤ S1x2048.size a)
    (inb2 : ∀ a, (![0, c] : Fin 2 → Nat) a + (![2048, 512] : Fin 2 → Nat) a ≤ S2048x6016.size a)
    (inb3 : ∀ a, (![o, c] : Fin 2 → Nat) a + (![256, 512] : Fin 2 → Nat) a ≤ S512x6016.size a)
    (x : (Rect.unit (s := S512x6016) ![o, c] ![256, 512] inb3).shape.Idx) :
    tile (slice (View.ld x0 (Rect.unit ![o, 0] ![256, 2048] inb)) (View.ld x1 (Rect.unit ![0, 0] ![1, 2048] inb1)))
        (View.ld x2 (Rect.unit ![0, c] ![2048, 512] inb2)) x
      = G x0 x1 x2 ((Rect.unit ![o, c] ![256, 512] inb3).emb x) := by
  rw [tile_apply]
  unfold G proj
  refine Finset.sum_congr rfl fun k _ => ?_
  rw [slice_ld x0 x1 o inb inb1 (x 0) k (((Rect.unit (s := S512x6016) ![o, c] ![256, 512] inb3).emb x) 0)
    (Rect.idx_unit_val _ _ _ _ _)]
  refine congrArg (_ * ·) (congrArg x2 (funext fun a => Fin.ext ?_))
  rw [Rect.idx_unit_val]
  match a with
  | ⟨0, _⟩ => exact Nat.zero_add _
  | ⟨1, _⟩ => exact (Rect.idx_unit_val _ _ _ _ _).symm

theorem last_piece (o : Nat) (inb : ∀ a, (![o, 0] : Fin 2 → Nat) a + (![256, 2048] : Fin 2 → Nat) a ≤ S512x2048.size a)
    (inb1 : ∀ a, (![0, 0] : Fin 2 → Nat) a + (![1, 2048] : Fin 2 → Nat) a ≤ S1x2048.size a)
    (inb2 : ∀ a, (![0, 5632] : Fin 2 → Nat) a + (![2048, 384] : Fin 2 → Nat) a ≤ S2048x6016.size a)
    (inb3 : ∀ a, (![o, 5632] : Fin 2 → Nat) a + (![256, 384] : Fin 2 → Nat) a ≤ S512x6016.size a)
    (x : (Rect.unit (s := S512x6016) ![o, 5632] ![256, 384] inb3).shape.Idx) :
    last (slice (View.ld x0 (Rect.unit ![o, 0] ![256, 2048] inb)) (View.ld x1 (Rect.unit ![0, 0] ![1, 2048] inb1)))
        (View.ld x2 (Rect.unit ![0, 5632] ![2048, 384] inb2)) x
      = G x0 x1 x2 ((Rect.unit ![o, 5632] ![256, 384] inb3).emb x) := by
  rw [last_apply]
  unfold G proj
  refine Finset.sum_congr rfl fun k _ => ?_
  rw [slice_ld x0 x1 o inb inb1 (x 0) k (((Rect.unit (s := S512x6016) ![o, 5632] ![256, 384] inb3).emb x) 0)
    (Rect.idx_unit_val _ _ _ _ _)]
  refine congrArg (_ * ·) (congrArg x2 (funext fun a => Fin.ext ?_))
  rw [Rect.idx_unit_val]
  match a with
  | ⟨0, _⟩ => exact Nat.zero_add _
  | ⟨1, _⟩ => exact (Rect.idx_unit_val _ _ _ _ _).symm

theorem tail_piece (o : Nat) (inb : ∀ a, (![o, 0] : Fin 2 → Nat) a + (![256, 2048] : Fin 2 → Nat) a ≤ S512x2048.size a)
    (inb1 : ∀ a, (![0, 0] : Fin 2 → Nat) a + (![1, 2048] : Fin 2 → Nat) a ≤ S1x2048.size a)
    (inb2 : ∀ a, (![0, 5632] : Fin 2 → Nat) a + (![2048, 384] : Fin 2 → Nat) a ≤ S2048x6016.size a)
    (inb3 : ∀ a, (![o, 0] : Fin 2 → Nat) a + (![256, 128] : Fin 2 → Nat) a ≤ S512x128.size a)
    (x : (Rect.unit (s := S512x128) ![o, 0] ![256, 128] inb3).shape.Idx) :
    tail (slice (View.ld x0 (Rect.unit ![o, 0] ![256, 2048] inb)) (View.ld x1 (Rect.unit ![0, 0] ![1, 2048] inb1)))
        (View.ld x2 (Rect.unit ![0, 5632] ![2048, 384] inb2)) x
      = Gt x0 x1 x2 ((Rect.unit ![o, 0] ![256, 128] inb3).emb x) := by
  rw [tail_apply]
  unfold Gt G proj
  refine Finset.sum_congr rfl fun k _ => ?_
  rw [slice_ld x0 x1 o inb inb1 (x 0) k (((Rect.unit (s := S512x128) ![o, 0] ![256, 128] inb3).emb x) 0)
    (Rect.idx_unit_val _ _ _ _ _)]
  refine congrArg (_ * ·) (congrArg x2 (funext fun a => Fin.ext ?_))
  rw [Rect.idx_unit_val]
  match a with
  | ⟨0, _⟩ => exact Nat.zero_add _
  | ⟨1, _⟩ =>
    show 5632 + (256 + (x 1).val) = 5888 + (((Rect.unit (s := S512x128) ![o, 0] ![256, 128] inb3).emb x) 1).val
    have : (((Rect.unit (s := S512x128) ![o, 0] ![256, 128] inb3).emb x) 1).val = 0 + (x 1).val := Rect.idx_unit_val _ _ _ _ _
    omega

/-! ## The block -/

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x6016 .bf16) (harg3 : arg3.IsWhole) (arg4 : Memref sig .tc .vmem S512x6016 .bf16) (harg4 : arg4.IsWhole) (arg5 : Memref sig .tc .vmem S512x128 .f32) (harg5 : arg5.IsWhole) (arg6 : Memref sig .tc .vmem S512x2048 .bf16) (harg6 : arg6.IsWhole)

/-- The block of the projection that the body leaves. -/
theorem out3_eq : out0_A_3 c i arg1 harg1 arg2 harg2 arg3 harg3 arg4 harg4 arg5 harg5 arg6 harg6 x0 x1 x2 = G x0 x1 x2 := by
  funext y
  unfold out0_A_3
  rw [View.read_writes_eq_canon _ _ _ (cover0_A_3 c i arg1 harg1 arg2 harg2 arg3 harg3 arg4 harg4 arg5 harg5 arg6 harg6 x0 x1 x2)]
  refine View.canon_apply_of_pieces (G x0 x1 x2) _ ?_ y (cover0_A_3 c i arg1 harg1 arg2 harg2 arg3 harg3 arg4 harg4 arg5 harg5 arg6 harg6 x0 x1 x2 y)
  unfold kernelRun0_A
  dsimp only
  sl_unfold_words
  simp only [View.readAt_eq_ld, harg1.read_unread, harg2.read_unread, harg3.read_unread, View.readCov_cons_toLoadRect, List.forall_mem_cons]
  refine ⟨last_piece x0 x1 x2 _ _ _ _ _, tile_piece x0 x1 x2 _ _ _ _ _ _, tile_piece x0 x1 x2 _ _ _ _ _ _, tile_piece x0 x1 x2 _ _ _ _ _ _,
    tile_piece x0 x1 x2 _ _ _ _ _ _, tile_piece x0 x1 x2 _ _ _ _ _ _, tile_piece x0 x1 x2 _ _ _ _ _ _, tile_piece x0 x1 x2 _ _ _ _ _ _,
    tile_piece x0 x1 x2 _ _ _ _ _ _, tile_piece x0 x1 x2 _ _ _ _ _ _, tile_piece x0 x1 x2 _ _ _ _ _ _, tile_piece x0 x1 x2 _ _ _ _ _ _,
    last_piece x0 x1 x2 _ _ _ _ _, tile_piece x0 x1 x2 _ _ _ _ _ _, tile_piece x0 x1 x2 _ _ _ _ _ _, tile_piece x0 x1 x2 _ _ _ _ _ _,
    tile_piece x0 x1 x2 _ _ _ _ _ _, tile_piece x0 x1 x2 _ _ _ _ _ _, tile_piece x0 x1 x2 _ _ _ _ _ _, tile_piece x0 x1 x2 _ _ _ _ _ _,
    tile_piece x0 x1 x2 _ _ _ _ _ _, tile_piece x0 x1 x2 _ _ _ _ _ _, tile_piece x0 x1 x2 _ _ _ _ _ _, tile_piece x0 x1 x2 _ _ _ _ _ _,
    fun _ h => absurd h List.not_mem_nil⟩

/-- The block of the last 128 columns. -/
theorem out4_eq : out0_A_4 c i arg1 harg1 arg2 harg2 arg3 harg3 arg4 harg4 arg5 harg5 arg6 harg6 x0 x1 x2 = Gt x0 x1 x2 := by
  funext y
  unfold out0_A_4
  rw [View.read_writes_eq_canon _ _ _ (cover0_A_4 c i arg1 harg1 arg2 harg2 arg3 harg3 arg4 harg4 arg5 harg5 arg6 harg6 x0 x1 x2)]
  refine View.canon_apply_of_pieces (Gt x0 x1 x2) _ ?_ y (cover0_A_4 c i arg1 harg1 arg2 harg2 arg3 harg3 arg4 harg4 arg5 harg5 arg6 harg6 x0 x1 x2 y)
  unfold kernelRun0_A
  dsimp only
  sl_unfold_words
  simp only [View.readAt_eq_ld, harg1.read_unread, harg2.read_unread, harg3.read_unread, View.readCov_cons_toLoadRect, List.forall_mem_cons]
  exact ⟨tail_piece x0 x1 x2 _ _ _ _ _, tail_piece x0 x1 x2 _ _ _ _ _, fun _ h => absurd h List.not_mem_nil⟩

end Cert.InprojIdeal.Block

end
-- ==== Proof.InprojRef.lean ====
/-
  What the plain input projection computes at an index: the row's entries over the root of their mean square, times the
  gain, summed against the weight's column.
-/
module

public import proofs.«01_k».proof.Proof.InprojBlock
public import proofs.«01_k».proof.Proof.Gen.InprojRefIdeal.Read

@[expose] public section

noncomputable section

namespace Cert.InprojRefIdeal.Plain

open Cert.InprojRefIdeal Cert.InprojRefIdeal.Read Idealize.ShloMosaic Idealize.ShloMosaic.ValueIdx

variable (x0 : (⟨S32768x2048, .f32⟩ : BufTy).Contents (Elt Ideal)) (x1 : (⟨S2048, .f32⟩ : BufTy).Contents (Elt Ideal))
  (x2 : (⟨S2048x6016, .f32⟩ : BufTy).Contents (Elt Ideal))

/-- The projection of every token's normed row. -/
def u (i : S32768x6016.Idx) : EReal :=
  Cert.InprojIdeal.Block.proj (fun (r : Fin 32768) k => x0 (ix2 r k)) (fun k => x1 (ix1 k)) (fun k (c : Fin 6016) => x2 (ix2 k c)) (i 0) (i 1)

/-- Its last 128 columns. -/
def dt (i : S32768x128.Idx) : EReal :=
  u x0 x1 x2 (ix2 (i 0) ⟨5888 + (i 1).val, by have : (i 1).val < 128 := (i 1).isLt; omega⟩)

theorem sum_squares (r : Fin 32768) :
    val_main_v1 (F := Ideal) x0 (ix1 r) = ∑ j : Fin 2048, x0 (ix2 r j) * x0 (ix2 r j) := by
  rw [val_main_v1_apply]
  refine (congrArg (fun s : EReal => s + _) Ideal.ofBits_zero_f32).trans ((zero_add _).trans (Finset.sum_congr rfl fun j _ => ?_))
  have h : idx_main_v1 (ix1 r) j = ix2 r j := by
    funext a; match a with
    | ⟨0, _⟩ => rfl
    | ⟨1, _⟩ => rfl
  rw [h]; rfl

theorem normed_apply (r : Fin 32768) (k : Fin 2048) :
    val_main_v12 (F := Ideal) x0 x1 (ix2 r k)
      = Cert.InprojIdeal.Block.normed (fun (r : Fin 32768) k => x0 (ix2 r k)) (fun k => x1 (ix1 k)) r k := by
  rw [val_main_v12_apply, val_main_v9_apply, val_main_v8_apply, val_main_v7_apply, val_main_v6_apply, val_main_v4_apply,
    val_main_v2_apply, val_main_v3_apply, val_main_v5_apply, val_main_v11_apply, val_main_v10_apply]
  have h1 : idx_main_v2 (idx_main_v8 (ix2 r k)) = ix1 r := by
    funext a; match a with
    | ⟨0, _⟩ => rfl
  have h2 : idx_main_v10 (idx_main_v11 (ix2 r k)) = ix1 k := by
    funext a; match a with
    | ⟨0, _⟩ => rfl
  rw [h1, h2, sum_squares]
  rfl

theorem v13_eq (i : S32768x6016.Idx) : val_main_v13 (F := Ideal) x0 x1 x2 i = u x0 x1 x2 i := by
  rw [val_main_v13_apply]
  unfold u Cert.InprojIdeal.Block.proj
  refine Finset.sum_congr rfl fun k _ => ?_
  have h1 : lidx_main_v13 i k = ix2 (i 0) k := by
    funext a; match a with
    | ⟨0, _⟩ => rfl
    | ⟨1, _⟩ => rfl
  have h2 : ridx_main_v13 i k = ix2 k (i 1) := by
    funext a; match a with
    | ⟨0, _⟩ => rfl
    | ⟨1, _⟩ => rfl
  rw [h1, h2]
  exact congrArg (fun s : EReal => s * x2 (ix2 k (i 1))) (normed_apply x0 x1 (i 0) k)

/-- The projection's result, in the narrow type: at `Ideal` the cast changes nothing. -/
theorem v14_eq : val_main_v14 (F := Ideal) x0 x1 x2 = u x0 x1 x2 := by
  funext i
  rw [val_main_v14_apply]
  exact v13_eq x0 x1 x2 i

/-- The last 128 columns, kept wide. -/
theorem v15_eq : val_main_v15 (F := Ideal) x0 x1 x2 = dt x0 x1 x2 := by
  funext i
  rw [val_main_v15_apply, v13_eq]
  refine congrArg (u x0 x1 x2) ?_
  funext a; match a with
  | ⟨0, _⟩ => rfl
  | ⟨1, _⟩ => rfl

end Cert.InprojRefIdeal.Plain

end
-- ==== Proof.InprojArray.lean ====
module

public import proofs.«01_k».proof.Proof.InprojBlock
public import proofs.«01_k».proof.Proof.InprojRef
public import Idealize.ShloMosaic.Lib.Pipeline.ValueKit

/-! # What the input projection's arrays hold after the run

Point `t` of the grid handles token rows `512 t … 512 t + 511`; the gain and the weight are whole at every point. So the
two result arrays are the projection of every row, and its last 128 columns. -/

@[expose] public section

noncomputable section

namespace Cert.InprojIdeal.Block

open Cert.InprojIdeal Cert.InprojIdeal.Gen Cert.InprojIdeal.Value Idealize.ShloMosaic.TcCoe Idealize.SL.Sem
open Idealize.ShloMosaic hiding ix1 ix2 eq_ix2
open Idealize.ShloMosaic.Tactic Idealize.ShloMosaic.ValueIdx Idealize.ShloMosaic.StableHlo

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)

/-- The gain as the call gets it: a row. -/
theorem gain_entry (c : Dev nD) (k : Fin 2048) :
    V m c main_v0 (ix2 0 k) = m ((c : Thread nD τ).loc main_arg1) (ix1 k) := by
  have h : V m c main_v0 = broadcastInDim S1x2048 ![1] bcast_S2048_S1x2048_1 (m ((c : Thread nD τ).loc main_arg1)) := by
    unfold_abbrev_sides
    after_results
  rw [h]
  exact broadcastInDim_apply _ bcast_S2048_S1x2048_1 _ _ (ix1 k) (fun a => match a with
    | ⟨0, _⟩ => by show k.val = if (2048 : Nat) = 1 then 0 else k.val; rw [if_neg (by decide)])

/-- The weight as the call gets it: cast to the narrow type, which at `Ideal` changes nothing. -/
theorem weight_entry (c : Dev nD) (i : S2048x6016.Idx) : V m c main_v1 i = m ((c : Thread nD τ).loc main_arg2) i := by
  have h : V m c main_v1 = (truncf .bf16 (m ((c : Thread nD τ).loc main_arg2) : FVec Ideal S2048x6016 .f32) bitsLt_bf16_f32 : FVec Ideal S2048x6016 .bf16) := by
    unfold_abbrev_sides
    after_results
  rw [h]; rfl

theorem iblk0_apply (c : Dev nD) (t : Fin cfg0.N) (r : Fin 512) (k : Fin 2048) (R : Fin 32768) (hR : R.val = 512 * t.val + r.val) :
    iblk m c 0 t (ix2 r k) = m ((c : Thread nD τ).loc main_arg0) (ix2 R k) := by
  blk_simp [iblk]
  rw [V_main_arg0]
  congr 1
  funext a; apply Fin.ext; fin_cases a
  · blk_simp [index0]; show t.val * 512 + r.val = R.val; omega
  · blk_simp [index0]

theorem iblk1_apply (c : Dev nD) (t : Fin cfg0.N) (k : Fin 2048) :
    iblk m c 1 t (ix2 0 k) = m ((c : Thread nD τ).loc main_arg1) (ix1 k) := by
  blk_simp [iblk]
  refine Eq.trans ?_ (gain_entry m c k)
  congr 1
  funext a; apply Fin.ext; fin_cases a
  · blk_simp [index1]
  · blk_simp [index1]

theorem iblk2_apply (c : Dev nD) (t : Fin cfg0.N) (k : Fin 2048) (n : Fin 6016) :
    iblk m c 2 t (ix2 k n) = m ((c : Thread nD τ).loc main_arg2) (ix2 k n) := by
  blk_simp [iblk]
  refine Eq.trans ?_ (weight_entry m c (ix2 k n))
  congr 1
  funext a; apply Fin.ext; fin_cases a
  · blk_simp [index2]
  · blk_simp [index2]

/-- The block's function of the point's blocks is the whole arrays' function at the point's rows. -/
theorem G_eq (c : Dev nD) (t : Fin cfg0.N) (r : Fin 512) (n : Fin 6016) (R : Fin 32768) (hR : R.val = 512 * t.val + r.val) :
    G (iblk m c 0 t) (iblk m c 1 t) (iblk m c 2 t) (ix2 r n)
      = Cert.InprojRefIdeal.Plain.u (m ((c : Thread nD τ).loc main_arg0)) (m ((c : Thread nD τ).loc main_arg1))
          (m ((c : Thread nD τ).loc main_arg2)) (ix2 R n) := by
  have h0 : (fun k => iblk m c 0 t (ix2 r k)) = fun k => m ((c : Thread nD τ).loc main_arg0) (ix2 R k) :=
    funext fun k => iblk0_apply m c t r k R hR
  unfold G Cert.InprojRefIdeal.Plain.u proj normed
  refine Finset.sum_congr rfl fun k _ => ?_
  refine congrArg₂ (· * ·) (congrArg₂ (· * ·) (congrArg₂ (· * ·) (congrFun h0 k) ?_) (iblk1_apply m c t k)) (iblk2_apply m c t k n)
  exact congrArg (fun f : Fin 2048 → EReal => Ideal.rsqrt (Ideal.div (∑ j : Fin 2048, f j * f j) (Ideal.ofBits .f32 0x45000000#32)
    + Ideal.ofBits .f32 0x358637BD#32)) h0

theorem row_lt (t : Fin cfg0.N) (r : Fin 512) : 512 * t.val + r.val < 32768 := by
  have : t.val < 64 := t.isLt
  omega

/-- The first result: every row's projection. -/
theorem final3 (c : Dev nD) : (dats m 0 c).arrAt 3 cfg0.N
    = Cert.InprojRefIdeal.Plain.u (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  simp only [outsAt0]
  rw [out3_eq]
  refine (congrArg (G _ _ _) (eq_ix2 y)).trans ((G_eq m c t (y 0) (y 1) ⟨_, row_lt t (y 0)⟩ rfl).trans ?_)
  refine congrArg _ ?_
  funext a; apply Fin.ext; fin_cases a
  · blk_simp [index3]; show 512 * t.val + (y 0).val = t.val * 512 + (y 0).val; omega
  · blk_simp [index3]; rfl

/-- The second result: the last 128 columns. -/
theorem final4 (c : Dev nD) : (dats m 0 c).arrAt 4 cfg0.N
    = Cert.InprojRefIdeal.Plain.dt (m ((c : Thread nD τ).loc main_arg0)) (m ((c : Thread nD τ).loc main_arg1))
          (m ((c : Thread nD τ).loc main_arg2)) := by
  refine (dats m 0 c).arrAt_eq_of_covers 4 _ (by decide +kernel) fun t hf y => ?_
  blk_simp
  rw [after0_4]
  simp only [outsAt0]
  rw [out4_eq]
  refine ((G_eq m c t (y 0) _ ⟨_, row_lt t (y 0)⟩ rfl).trans ?_)
  have e0 : (((cfg0.win 4).blk t).view.emb y 0).val = 512 * t.val + (y 0).val := by
    blk_simp [index4]; show t.val * 512 + (y 0).val = _; omega
  have e1 : (((cfg0.win 4).blk t).view.emb y 1).val = (y 1).val := by
    blk_simp [index4]
  unfold Cert.InprojRefIdeal.Plain.dt
  refine congrArg (Cert.InprojRefIdeal.Plain.u _ _ _) (congrArg₂ ix2 (Fin.ext e0.symm) (Fin.ext ?_))
  exact congrArg (5888 + ·) e1.symm

end Cert.InprojIdeal.Block

end
-- ==== Proof.InprojClaim.lean ====
module

public import proofs.«01_k».proof.Defs
public import proofs.«01_k».proof.Proof.InprojArray
public import proofs.«01_k».proof.Proof.Gen.InprojRefIdeal.Run

/-! # The input projection's value claim

Both programs end with the same two arrays: every token's projection, and its last 128 columns. -/

@[expose] public section

noncomputable section

namespace Cert.InprojIdeal.Block

open Idealize.ShloMosaic Idealize.SL.Sem

theorem algebraic : Cert.algebraic_InprojIdeal_InprojRefIdeal (hInprojIdeal := Cert.InprojIdeal.Gen.facts)
    (hInprojRefIdeal := Cert.InprojRefIdeal.Gen.facts) := by
  intro m g m' g' _ hagree
  refine ⟨fun c => Cert.InprojRefIdeal.Plain.u (m (c.tc.loc Cert.InprojIdeal.main_arg0)) (m (c.tc.loc Cert.InprojIdeal.main_arg1))
      (m (c.tc.loc Cert.InprojIdeal.main_arg2)),
    fun c => Cert.InprojRefIdeal.Plain.dt (m (c.tc.loc Cert.InprojIdeal.main_arg0)) (m (c.tc.loc Cert.InprojIdeal.main_arg1))
      (m (c.tc.loc Cert.InprojIdeal.main_arg2)), ?_, ?_⟩
  · refine (θ_run Cert.InprojIdeal.defs _ _).mono (fun r h c => ?_) (Cert.InprojIdeal.Value.run_blocks m g)
    obtain ⟨h0, h1, h2⟩ := h c
    exact ⟨h0.trans (final3 m c), h1.trans (final4 m c), h2⟩
  · refine (θ_run Cert.InprojRefIdeal.defs _ _).mono (fun r h c => ?_) (Cert.InprojRefIdeal.Value.run m' g')
    obtain ⟨h0, h1, h2⟩ := h c
    obtain ⟨a0, a1, a2⟩ := hagree c
    refine ⟨(h0.trans (Cert.InprojRefIdeal.Read.val_main_v14_eq _ _ _)).trans ?_,
      (h1.trans (Cert.InprojRefIdeal.Read.val_main_v15_eq _ _ _)).trans ?_, h2⟩
    · rw [Cert.InprojRefIdeal.Plain.v14_eq, a0, a1, a2]
    · rw [Cert.InprojRefIdeal.Plain.v15_eq, a0, a1, a2]

end Cert.InprojIdeal.Block

end
-- ==== Proof.OutprojBlock.lean ====
module

public import proofs.«01_k».proof.Proof.Gen.OutprojIdeal.Value
public import proofs.«01_k».proof.Proof.OutprojRows
public import Idealize.ShloMosaic.Lib.Pipeline.CanonAppend

/-! # What one grid point of the output projection writes

A grid point holds 512 token rows and takes them in two slices of 256. The convolution's arrays arrive with two
neighbouring tokens in one row of 1024; the body stores the halves of such rows at every second row of a scratch buffer
and reads the buffer back whole, which puts each token in its own row again (`woven`). -/

@[expose] public section

set_option maxRecDepth 16384

noncomputable section

namespace Cert.OutprojIdeal.Block

open Cert.OutprojIdeal Cert.OutprojIdeal.Gen Idealize.ShloMosaic Idealize.ShloMosaic.TcCoe Idealize.SL.Sem
open Idealize.ShloMosaic.Tactic Idealize.ShloMosaic.ValueIdx

/-! ## Two tokens in a row, put in their own rows -/

/-- Token `r` of the pair array: half `r % 2` of row `r / 2`. -/
def token (X : Vec Ideal S256x1024 .bf16) (r : Fin 512) (k : Fin 512) : EReal :=
  X (ix2 ⟨r.val / 2, by omega⟩ ⟨r.val % 2 * 512 + k.val, by omega⟩)

/-- What the scratch buffer holds after the stores of the slice of 256 tokens from `o`. -/
def woven (X : Vec Ideal S256x1024 .bf16) (o : Nat) (ho : o + 256 ≤ 512) (y : S4x256x128.Idx) : EReal :=
  token X ⟨o + (y 1).val, by have : (y 1).val < 256 := (y 1).isLt; omega⟩
    ⟨(y 0).val * 128 + (y 2).val, by
      have h0 : (y 0).val < 4 := (y 0).isLt
      have h2 : (y 2).val < 128 := (y 2).isLt
      omega⟩

/-- The stored strip: a block of 128 rows and 128 columns, under a unit axis. -/
def strip (v : Vec Ideal S128x128 .bf16) : FVec Ideal S1x128x128 .f32 := k0_pay2 v

theorem strip_apply (v : Vec Ideal S128x128 .bf16) (x : S1x128x128.Idx) : strip v x = v (ix2 (x 1) (x 2)) := by
  unfold strip k0_pay2
  refine (shapeCast_addUnit_apply ![128, 128] _ _ x).trans ?_
  rw [shapeCast_self]
  refine congrArg v ?_
  funext a; match a with
  | ⟨0, _⟩ => rfl
  | ⟨1, _⟩ => rfl

/-- Every second row of slab `c`, from row `p`. -/
def everySecond (c p : Nat)
    (inb : ∀ a, (S1x128x128.size a = 0 ∨ (![c, p, 0] : Fin 3 → Nat) a + (![1, 2, 1] : Fin 3 → Nat) a * (S1x128x128.size a - 1) < S4x256x128.size a)) :
    Rect S4x256x128 := ⟨⟨![c, p, 0], S1x128x128.size, ![1, 2, 1], inb⟩, spos_1_2_1⟩

/-- A strip stored at every second row of slab `c` from row `p` agrees with `woven`. -/
theorem strip_piece (X : Vec Ideal S256x1024 .bf16) (o : Nat) (ho : o + 256 ≤ 512) (h : Nat) (hh : 2 * h = o)
    (c p : Nat) (q : Nat) (hq : q = p * 512 + c * 128) (hp : p < 2)
    (inb : ∀ a, (![h, q] : Fin 2 → Nat) a + (![128, 128] : Fin 2 → Nat) a ≤ S256x1024.size a)
    (inb' : ∀ a, (S1x128x128.size a = 0 ∨ (![c, p, 0] : Fin 3 → Nat) a + (![1, 2, 1] : Fin 3 → Nat) a * (S1x128x128.size a - 1) < S4x256x128.size a))
    (x : S1x128x128.Idx) :
    strip (View.ld X (Rect.unit ![h, q] ![128, 128] inb)) x
      = woven X o ho ((everySecond c p inb').emb x) := by
  have x0 : (x 0).val < 1 := (x 0).isLt
  have x1 : (x 1).val < 128 := (x 1).isLt
  have x2 : (x 2).val < 128 := (x 2).isLt
  rw [strip_apply]
  unfold woven token
  refine congrArg X (funext fun a => Fin.ext ?_)
  rw [Rect.idx_unit_val]
  match a with
  | ⟨0, _⟩ => show h + (x 1).val = (o + (p + 2 * (x 1).val)) / 2; omega
  | ⟨1, _⟩ => show q + (x 2).val = (o + (p + 2 * (x 1).val)) % 2 * 512 + ((c + 1 * (x 0).val) * 128 + (0 + 1 * (x 2).val)); omega

theorem mem_strip (c p : Nat) (hp : p < 2)
    (inb' : ∀ a, (S1x128x128.size a = 0 ∨ (![c, p, 0] : Fin 3 → Nat) a + (![1, 2, 1] : Fin 3 → Nat) a * (S1x128x128.size a - 1) < S4x256x128.size a))
    (y : S4x256x128.Idx) (h0 : (y 0).val = c) (h1 : (y 1).val % 2 = p) :
    y ∈ (everySecond c p inb').set := by
  have y1 : (y 1).val < 256 := (y 1).isLt
  have y2 : (y 2).val < 128 := (y 2).isLt
  rw [LoadRect.mem_set]
  intro a
  match a with
  | ⟨0, _⟩ => exact ⟨0, Nat.one_pos, show (y 0).val = c + 1 * 0 by omega⟩
  | ⟨1, _⟩ => exact ⟨(y 1).val / 2, show (y 1).val / 2 < 128 by omega, show (y 1).val = p + 2 * ((y 1).val / 2) by omega⟩
  | ⟨2, _⟩ => exact ⟨(y 2).val, y2, show (y 2).val = 0 + 1 * (y 2).val by omega⟩

theorem second_inb (c p : Nat) (hc : c < 4) (hp : p < 2) (a : Fin 3) :
    (S1x128x128.size a = 0 ∨ (![c, p, 0] : Fin 3 → Nat) a + (![1, 2, 1] : Fin 3 → Nat) a * (S1x128x128.size a - 1) < S4x256x128.size a) :=
  Or.inr (by
    match a with
    | ⟨0, _⟩ => show c + 1 * (1 - 1) < 4; omega
    | ⟨1, _⟩ => show p + 2 * (128 - 1) < 256; omega
    | ⟨2, _⟩ => show 0 + 1 * (128 - 1) < 128; omega)

theorem half_inb (h q : Nat) (hh : h + 128 ≤ 256) (hq : q + 128 ≤ 1024) (a : Fin 2) :
    (![h, q] : Fin 2 → Nat) a + (![128, 128] : Fin 2 → Nat) a ≤ S256x1024.size a := by
  match a with
  | ⟨0, _⟩ => exact hh
  | ⟨1, _⟩ => exact hq

/-- The eight stores of one array's slice, the last first. -/
def strips (X : Vec Ideal S256x1024 .bf16) (h : Nat) (hh : h + 128 ≤ 256) : List (View.Piece (Elt Ideal) S4x256x128 .f32) :=
   [⟨everySecond 3 1 (second_inb _ _ (by omega) (by omega)), strip (View.ld X (Rect.unit ![h, 896] ![128, 128] (half_inb h _ hh (by omega))))⟩,
    ⟨everySecond 2 1 (second_inb _ _ (by omega) (by omega)), strip (View.ld X (Rect.unit ![h, 768] ![128, 128] (half_inb h _ hh (by omega))))⟩,
    ⟨everySecond 1 1 (second_inb _ _ (by omega) (by omega)), strip (View.ld X (Rect.unit ![h, 640] ![128, 128] (half_inb h _ hh (by omega))))⟩,
    ⟨everySecond 0 1 (second_inb _ _ (by omega) (by omega)), strip (View.ld X (Rect.unit ![h, 512] ![128, 128] (half_inb h _ hh (by omega))))⟩,
    ⟨everySecond 3 0 (second_inb _ _ (by omega) (by omega)), strip (View.ld X (Rect.unit ![h, 384] ![128, 128] (half_inb h _ hh (by omega))))⟩,
    ⟨everySecond 2 0 (second_inb _ _ (by omega) (by omega)), strip (View.ld X (Rect.unit ![h, 256] ![128, 128] (half_inb h _ hh (by omega))))⟩,
    ⟨everySecond 1 0 (second_inb _ _ (by omega) (by omega)), strip (View.ld X (Rect.unit ![h, 128] ![128, 128] (half_inb h _ hh (by omega))))⟩,
    ⟨everySecond 0 0 (second_inb _ _ (by omega) (by omega)), strip (View.ld X (Rect.unit ![h, 0] ![128, 128] (half_inb h _ hh (by omega))))⟩]

theorem strips_piece (X : Vec Ideal S256x1024 .bf16) (o : Nat) (ho : o + 256 ≤ 512) (h : Nat) (hh : h + 128 ≤ 256) (ho2 : 2 * h = o) :
    ∀ p ∈ strips X h hh, ∀ x : p.1.shape.Idx, p.2 x = woven X o ho (p.1.emb x) := by
  unfold strips
  simp only [List.forall_mem_cons]
  refine ⟨fun x => ?_, fun x => ?_, fun x => ?_, fun x => ?_, fun x => ?_, fun x => ?_, fun x => ?_, fun x => ?_, fun _ h => absurd h List.not_mem_nil⟩
  · exact strip_piece X o ho h ho2 3 1 _ (by omega) (by omega) _ _ x
  · exact strip_piece X o ho h ho2 2 1 _ (by omega) (by omega) _ _ x
  · exact strip_piece X o ho h ho2 1 1 _ (by omega) (by omega) _ _ x
  · exact strip_piece X o ho h ho2 0 1 _ (by omega) (by omega) _ _ x
  · exact strip_piece X o ho h ho2 3 0 _ (by omega) (by omega) _ _ x
  · exact strip_piece X o ho h ho2 2 0 _ (by omega) (by omega) _ _ x
  · exact strip_piece X o ho h ho2 1 0 _ (by omega) (by omega) _ _ x
  · exact strip_piece X o ho h ho2 0 0 _ (by omega) (by omega) _ _ x

theorem strips_cover (X : Vec Ideal S256x1024 .bf16) (h : Nat) (hh : h + 128 ≤ 256) (y : S4x256x128.Idx) :
    ∃ p ∈ strips X h hh, y ∈ p.1.set := by
  have h0 : (y 0).val < 4 := (y 0).isLt
  have key : ∀ c p : Nat, ∀ q, c < 4 → p < 2 → (y 0).val = c → (y 1).val % 2 = p → q ∈ strips X h hh →
      (∃ i, q.1 = everySecond c p i) → ∃ p ∈ strips X h hh, y ∈ p.1.set := fun c p q hc hp e0 e1 hq hi =>
    ⟨q, hq, by obtain ⟨i, hi⟩ := hi; rw [hi]; exact mem_strip c p hp i y e0 e1⟩
  have hcases : ((y 0).val = 0 ∨ (y 0).val = 1 ∨ (y 0).val = 2 ∨ (y 0).val = 3) ∧ ((y 1).val % 2 = 0 ∨ (y 1).val % 2 = 1) := by omega
  obtain ⟨e0 | e0 | e0 | e0, e1 | e1⟩ := hcases
  · exact key 0 0 _ (by omega) (by omega) e0 e1 (List.getElem_mem (n := 7) (by unfold strips; simp)) ⟨_, rfl⟩
  · exact key 0 1 _ (by omega) (by omega) e0 e1 (List.getElem_mem (n := 3) (by unfold strips; simp)) ⟨_, rfl⟩
  · exact key 1 0 _ (by omega) (by omega) e0 e1 (List.getElem_mem (n := 6) (by unfold strips; simp)) ⟨_, rfl⟩
  · exact key 1 1 _ (by omega) (by omega) e0 e1 (List.getElem_mem (n := 2) (by unfold strips; simp)) ⟨_, rfl⟩
  · exact key 2 0 _ (by omega) (by omega) e0 e1 (List.getElem_mem (n := 5) (by unfold strips; simp)) ⟨_, rfl⟩
  · exact key 2 1 _ (by omega) (by omega) e0 e1 (List.getElem_mem (n := 1) (by unfold strips; simp)) ⟨_, rfl⟩
  · exact key 3 0 _ (by omega) (by omega) e0 e1 (List.getElem_mem (n := 4) (by unfold strips; simp)) ⟨_, rfl⟩
  · exact key 3 1 _ (by omega) (by omega) e0 e1 (List.getElem_mem (n := 0) (by unfold strips; simp)) ⟨_, rfl⟩

/-- Slab `c` of the buffer: columns `c * 128` to `c * 128 + 127` of 256 tokens. -/
def slab (X : Vec Ideal S256x1024 .bf16) (o : Nat) (ho : o + 256 ≤ 512) (c : Nat) (hc : c < 4) : Vec Ideal S1x256x128 .f32 := fun x =>
  token X ⟨o + (x 1).val, by have : (x 1).val < 256 := (x 1).isLt; omega⟩
    ⟨c * 128 + (x 2).val, by have : (x 2).val < 128 := (x 2).isLt; omega⟩

theorem slab_read {sg : RefSig} (arg : Memref sg .tc .vmem S4x256x128 .f32) (X : Vec Ideal S256x1024 .bf16) (o : Nat) (ho : o + 256 ≤ 512)
    (h : Nat) (hh : h + 128 ≤ 256) (ho2 : 2 * h = o) (rest : List (View.Piece (Elt Ideal) S4x256x128 .f32)) (c : Nat) (hc : c < 4)
    (inb : ∀ a, (![c, 0, 0] : Fin 3 → Nat) a + (![1, 256, 128] : Fin 3 → Nat) a ≤ S4x256x128.size a) :
    arg.view.readCov (strips X h hh ++ rest) (Rect.unit ![c, 0, 0] ![1, 256, 128] inb).toLoadRect = slab X o ho c hc := by
  rw [View.readCov_eq_canon']
  funext x
  refine (View.canon_append_of_pieces (woven X o ho) rest (strips X h hh) (strips_piece X o ho h hh ho2) _ (strips_cover X h hh _)).trans ?_
  unfold woven slab
  have x0 : (x 0).val < 1 := (x 0).isLt
  have e : ∀ a, (((Rect.unit (s := S4x256x128) ![c, 0, 0] ![1, 256, 128] inb).idx x) a : Nat) = (![c, 0, 0] : Fin 3 → Nat) a + (x a).val :=
    fun a => Rect.idx_unit_val _ _ _ _ _
  have e0 := e 0
  have e1 := e 1
  have e2 := e 2
  refine congrArg₂ (token X) (Fin.ext ?_) (Fin.ext ?_)
  · show o + (((Rect.unit (s := S4x256x128) ![c, 0, 0] ![1, 256, 128] inb).idx x) 1 : Nat) = o + (x 1).val
    rw [e1]; show o + (0 + (x 1).val) = _; omega
  · show (((Rect.unit (s := S4x256x128) ![c, 0, 0] ![1, 256, 128] inb).idx x) 0 : Nat) * 128 + (((Rect.unit (s := S4x256x128) ![c, 0, 0] ![1, 256, 128] inb).idx x) 2 : Nat) = c * 128 + (x 2).val
    rw [e0, e2]; show (c + (x 0).val) * 128 + (0 + (x 2).val) = _; omega

/-! ## The body's values, one name each -/

/-- The four slabs side by side. -/
def cat (A0 A1 A2 A3 : Vec Ideal S1x256x128 .f32) : FVec Ideal S256x512 .f32 := k0_pay10 A0 A1 A2 A3

theorem cat_apply (X : Vec Ideal S256x1024 .bf16) (o : Nat) (ho : o + 256 ≤ 512) (r : Fin 256) (k : Fin 512) :
    cat (slab X o ho 0 (by omega)) (slab X o ho 1 (by omega)) (slab X o ho 2 (by omega)) (slab X o ho 3 (by omega)) (ix2 r k)
      = token X ⟨o + r.val, by omega⟩ k := by
  unfold cat k0_pay10
  have piece : ∀ (c : Nat) (hc : c < 4) (l : Fin 128), c * 128 + l.val = k.val →
      (shapeCast S256x128 (slab X o ho c hc) shapeCasts_S1x256x128_S256x128 : FVec Ideal S256x128 .f32) (ix2 r l) = token X ⟨o + r.val, by omega⟩ k := fun c hc l hl => by
    refine (shapeCast_dropUnit_apply ![256, 128] _ _ _).trans ?_
    unfold slab
    exact congrArg₂ (token X) (Fin.ext rfl) (Fin.ext hl)
  have hk : k.val < 128 ∨ 128 ≤ k.val ∧ k.val < 256 ∨ 256 ≤ k.val ∧ k.val < 384 ∨ 384 ≤ k.val := by omega
  have off : ∀ (l : Fin 128) (b : Fin 2), b ≠ 1 → ((ix2 r l : S256x128.Idx) b).val = ((ix2 r k : S256x512.Idx) b).val := fun l b hb => by
    match b with
    | ⟨0, _⟩ => rfl
    | ⟨1, _⟩ => exact absurd rfl hb
  rcases hk with hk | hk | hk | hk
  · exact (concatenate_apply_piece 1 _ _ (ix2 r k) 0 (by simp) S256x128 _ rfl rfl 0 rfl (ix2 r ⟨k.val, by omega⟩) (off _) (show 0 + k.val = k.val by omega)).trans (piece 0 (by omega) _ (show 0 * 128 + k.val = k.val by omega))
  · exact (concatenate_apply_piece 1 _ _ (ix2 r k) 1 (by simp) S256x128 _ rfl rfl 128 rfl (ix2 r ⟨k.val - 128, by omega⟩) (off _) (show 128 + (k.val - 128) = k.val by omega)).trans (piece 1 (by omega) _ (show 1 * 128 + (k.val - 128) = k.val by omega))
  · exact (concatenate_apply_piece 1 _ _ (ix2 r k) 2 (by simp) S256x128 _ rfl rfl 256 rfl (ix2 r ⟨k.val - 256, by omega⟩) (off _) (show 256 + (k.val - 256) = k.val by omega)).trans (piece 2 (by omega) _ (show 2 * 128 + (k.val - 256) = k.val by omega))
  · exact (concatenate_apply_piece 1 _ _ (ix2 r k) 3 (by simp) S256x128 _ rfl rfl 384 rfl (ix2 r ⟨k.val - 384, by omega⟩) (off _) (show 384 + (k.val - 384) = k.val by omega)).trans (piece 3 (by omega) _ (show 3 * 128 + (k.val - 384) = k.val by omega))

/-- The gated and normalised hyena rows of a slice. -/
def hyena (A B : FVec Ideal S256x512 .f32) (xa : Vec Ideal S256x512 .bf16) (d : Vec Ideal S1x512 .f32) (g : Vec Ideal S256x512 .bf16) :
    FVec Ideal S256x512 .bf16 := k0_pay21 A B (k0_pay20 xa) d g

theorem hyena_apply (A B : FVec Ideal S256x512 .f32) (xa : Vec Ideal S256x512 .bf16) (d : Vec Ideal S1x512 .f32) (g : Vec Ideal S256x512 .bf16)
    (r : Fin 256) (k : Fin 512) :
    hyena A B xa d g (ix2 r k) = OutRow.unit (OutRow.gated (fun k => xa (ix2 r k)) (fun k => A (ix2 r k)) (fun k => B (ix2 r k))
      (fun k => d (ix2 0 k)) (fun k => g (ix2 r k))) k := by
  have gate : ∀ k, (mulf (mulf (extf .f32 xa bitsLt_bf16_f32 : FVec Ideal S256x512 .f32) (addf A (mulf B (broadcastTo S256x512 d broadcasts_S1x512_S256x512))))
      (mulf (extf .f32 g bitsLt_bf16_f32 : FVec Ideal S256x512 .f32)
        (divf (broadcast S256x512 (Scalar.ofBits (F := Ideal) .f32 0x3F800000#32)) (addf (broadcast S256x512 (Scalar.ofBits (F := Ideal) .f32 0x3F800000#32))
          (exp (subf (broadcast S256x512 (Scalar.ofBits (F := Ideal) .f32 0x00000000#32)) (extf .f32 g bitsLt_bf16_f32 : FVec Ideal S256x512 .f32)))))) : FVec Ideal S256x512 .f32) (ix2 r k)
      = OutRow.gated (fun k => xa (ix2 r k)) (fun k => A (ix2 r k)) (fun k => B (ix2 r k)) (fun k => d (ix2 0 k)) (fun k => g (ix2 r k)) k := fun k => by
    show xa (ix2 r k) * (A (ix2 r k) + B (ix2 r k) * broadcastTo S256x512 d broadcasts_S1x512_S256x512 (ix2 r k))
      * (g (ix2 r k) * Ideal.div (Ideal.ofBits .f32 0x3F800000#32) (Ideal.ofBits .f32 0x3F800000#32 + Ideal.exp (Ideal.ofBits .f32 0x00000000#32 - g (ix2 r k)))) = _
    rw [Layout.spread_row, Ideal.ofBits_zero_f32, zero_sub]
    unfold OutRow.gated OutRow.silu
    rfl
  unfold hyena k0_pay21 k0_pay20
  dsimp only
  rw [shapeCast_self, shapeCast_self, shapeCast_self]
  refine (congrArg₂ (· * · : EReal → EReal → EReal) (gate k) ((Layout.spread_col _ _ (ix2 r k)).trans (congrArg (fun s => Ideal.rsqrt (Ideal.div s (Ideal.ofBits .f32 0x44000000#32)
    + Ideal.ofBits .f32 0x358637BD#32)) ((Layout.as_col _ _ r 0).trans ((Layout.row_sum _ _ _ _ _ r).trans (Finset.sum_congr rfl fun j _ =>
      congrArg₂ (· * · : EReal → EReal → EReal) (gate j) (gate j))))))).trans ?_
  rfl

/-- A slice of the result. -/
def block (Y : FVec Ideal S256x512 .bf16) (x : Vec Ideal S256x2048 .f32) (ys : Vec Ideal S256x1024 .bf16) (ws : Vec Ideal S1024x2048 .bf16)
    (ya : Vec Ideal S256x512 .bf16) (wa wh : Vec Ideal S512x2048 .bf16) : FVec Ideal S256x2048 .f32 :=
  k0_pay24 Y (k0_pay22 x ys ws) (k0_pay23 ya) wa wh

theorem block_apply (Y : FVec Ideal S256x512 .bf16) (x : Vec Ideal S256x2048 .f32) (ys : Vec Ideal S256x1024 .bf16) (ws : Vec Ideal S1024x2048 .bf16)
    (ya : Vec Ideal S256x512 .bf16) (wa wh : Vec Ideal S512x2048 .bf16) (r : Fin 256) (n : Fin 2048) :
    block Y x ys ws ya wa wh (ix2 r n) = x (ix2 r n) + ∑ k : Fin 1024, ys (ix2 r k) * ws (ix2 k n) + ∑ k : Fin 512, ya (ix2 r k) * wa (ix2 k n)
      + ∑ k : Fin 512, Y (ix2 r k) * wh (ix2 k n) := by
  unfold block k0_pay24 k0_pay22 k0_pay23
  dsimp only
  rw [shapeCast_self, shapeCast_self, shapeCast_self, shapeCast_self, shapeCast_self]
  exact congrArg₂ (· + · : EReal → EReal → EReal) (congrArg₂ (· + · : EReal → EReal → EReal) (congrArg (x (ix2 r n) + ·)
    (Layout.product (φ₁ := .bf16) (φ₂ := .bf16) none ys ws r n)) (Layout.product (φ₁ := .bf16) (φ₂ := .bf16) none ya wa r n))
    (Layout.product (φ₁ := .bf16) (φ₂ := .bf16) none Y wh r n)

/-! ## A stored slice is the row's result at the slice's place -/

variable (x0 : Vec Ideal S512x2048 .f32) (x1 : Vec Ideal S512x1024 .bf16) (x2 : Vec Ideal S512x512 .bf16) (x3 : Vec Ideal S256x1024 .bf16) (x4 : Vec Ideal S256x1024 .bf16) (x5 : Vec Ideal S512x512 .bf16) (x6 : Vec Ideal S512x512 .bf16) (x7 : Vec Ideal S1x512 .f32) (x8 : Vec Ideal S2048x2048 .bf16) (x9 : Vec Ideal S1x2048 .f32)

/-- What the point leaves in its block of the result. -/
def G (y : S512x2048.Idx) : EReal :=
  OutRow.out (x0 y) (fun k => x1 (ix2 (y 0) k)) (fun k => x2 (ix2 (y 0) k))
    (OutRow.unit (OutRow.gated (fun k => x5 (ix2 (y 0) k)) (token x3 (y 0)) (token x4 (y 0)) (fun k => x7 (ix2 0 k)) (fun k => x6 (ix2 (y 0) k))))
    (fun k => x8 (ix2 k (y 1)))

/-- A load of rows and columns, at an index. -/
theorem ld_at {R C r c : Nat} {e : EltTy} (X : Vec Ideal ⟨2, ![R, C]⟩ e) (o p : Nat)
    (inb : ∀ a, (![o, p] : Fin 2 → Nat) a + (![r, c] : Fin 2 → Nat) a ≤ (⟨2, ![R, C]⟩ : Shape).size a)
    (i : Fin r) (j : Fin c) (i' : Fin R) (j' : Fin C) (hi : i'.val = o + i.val) (hj : j'.val = p + j.val) :
    View.ld X (Rect.unit ![o, p] ![r, c] inb) (ix2 i j) = X (ix2 i' j') :=
  congrArg X (funext fun a => Fin.ext (by
    rw [Rect.idx_unit_val]; match a with | ⟨0, _⟩ => exact hi.symm | ⟨1, _⟩ => exact hj.symm))

theorem slice_piece (o : Nat) (ho : o + 256 ≤ 512)
    (i0 : ∀ a, (![o, 0] : Fin 2 → Nat) a + (![256, 2048] : Fin 2 → Nat) a ≤ S512x2048.size a)
    (i1 : ∀ a, (![o, 0] : Fin 2 → Nat) a + (![256, 1024] : Fin 2 → Nat) a ≤ S512x1024.size a)
    (i2 : ∀ a, (![o, 0] : Fin 2 → Nat) a + (![256, 512] : Fin 2 → Nat) a ≤ S512x512.size a)
    (i7 : ∀ a, (![0, 0] : Fin 2 → Nat) a + (![1, 512] : Fin 2 → Nat) a ≤ S1x512.size a)
    (w0 : ∀ a, (![0, 0] : Fin 2 → Nat) a + (![1024, 2048] : Fin 2 → Nat) a ≤ S2048x2048.size a)
    (w1 : ∀ a, (![1024, 0] : Fin 2 → Nat) a + (![512, 2048] : Fin 2 → Nat) a ≤ S2048x2048.size a)
    (w2 : ∀ a, (![1536, 0] : Fin 2 → Nat) a + (![512, 2048] : Fin 2 → Nat) a ≤ S2048x2048.size a)
    (A0 A1 A2 A3 B0 B1 B2 B3 : Vec Ideal S1x256x128 .f32)
    (a0 : A0 = slab x3 o ho 0 (by omega)) (a1 : A1 = slab x3 o ho 1 (by omega)) (a2 : A2 = slab x3 o ho 2 (by omega)) (a3 : A3 = slab x3 o ho 3 (by omega))
    (b0 : B0 = slab x4 o ho 0 (by omega)) (b1 : B1 = slab x4 o ho 1 (by omega)) (b2 : B2 = slab x4 o ho 2 (by omega)) (b3 : B3 = slab x4 o ho 3 (by omega))
    (x : (Rect.unit (s := S512x2048) ![o, 0] ![256, 2048] i0).shape.Idx) :
    block (hyena (cat A0 A1 A2 A3) (cat B0 B1 B2 B3) (View.ld x5 (Rect.unit ![o, 0] ![256, 512] i2)) (View.ld x7 (Rect.unit ![0, 0] ![1, 512] i7))
        (View.ld x6 (Rect.unit ![o, 0] ![256, 512] i2)))
      (View.ld x0 (Rect.unit ![o, 0] ![256, 2048] i0)) (View.ld x1 (Rect.unit ![o, 0] ![256, 1024] i1)) (View.ld x8 (Rect.unit ![0, 0] ![1024, 2048] w0))
      (View.ld x2 (Rect.unit ![o, 0] ![256, 512] i2)) (View.ld x8 (Rect.unit ![1024, 0] ![512, 2048] w1)) (View.ld x8 (Rect.unit ![1536, 0] ![512, 2048] w2)) x
      = G x0 x1 x2 x3 x4 x5 x6 x7 x8 ((Rect.unit ![o, 0] ![256, 2048] i0).emb x) := by
  subst a0 a1 a2 a3 b0 b1 b2 b3
  obtain ⟨r, n, rfl⟩ : ∃ (r : Fin 256) (n : Fin 2048), x = ix2 r n := ⟨x 0, x 1, eq_ix2 x⟩
  have hR : o + r.val < 512 := by omega
  have e : (Rect.unit (s := S512x2048) ![o, 0] ![256, 2048] i0).emb (ix2 r n) = ix2 ⟨o + r.val, hR⟩ n := funext fun a => Fin.ext ((Rect.idx_unit_val _ _ _ _ _).trans (by
    match a with | ⟨0, _⟩ => rfl | ⟨1, _⟩ => exact Nat.zero_add _))
  rw [e]
  refine (block_apply _ _ _ _ _ _ _ r n).trans ?_
  unfold G OutRow.out
  have h5 : ∀ k, View.ld x5 (Rect.unit ![o, 0] ![256, 512] i2) (ix2 r k) = x5 (ix2 ⟨o + r.val, hR⟩ k) := fun k => ld_at x5 o 0 i2 r k _ k rfl (Nat.zero_add _).symm
  have h6 : ∀ k, View.ld x6 (Rect.unit ![o, 0] ![256, 512] i2) (ix2 r k) = x6 (ix2 ⟨o + r.val, hR⟩ k) := fun k => ld_at x6 o 0 i2 r k _ k rfl (Nat.zero_add _).symm
  have h7 : ∀ k, View.ld x7 (Rect.unit ![0, 0] ![1, 512] i7) (ix2 0 k) = x7 (ix2 0 k) := fun k => ld_at x7 0 0 i7 0 k 0 k rfl (Nat.zero_add _).symm
  refine congrArg₂ (· + · : EReal → EReal → EReal) (congrArg₂ (· + · : EReal → EReal → EReal) (congrArg₂ (· + · : EReal → EReal → EReal) ?_
    (Finset.sum_congr rfl fun k _ => ?_)) (Finset.sum_congr rfl fun k _ => ?_)) (Finset.sum_congr rfl fun k _ => ?_)
  · exact ld_at x0 o 0 i0 r n _ n rfl (Nat.zero_add _).symm
  · exact congrArg₂ (· * · : EReal → EReal → EReal) (ld_at x1 o 0 i1 r k _ k rfl (Nat.zero_add _).symm) (ld_at x8 0 0 w0 k n ⟨k.val, by omega⟩ n (Nat.zero_add _).symm (Nat.zero_add _).symm)
  · exact congrArg₂ (· * · : EReal → EReal → EReal) (ld_at x2 o 0 i2 r k _ k rfl (Nat.zero_add _).symm) (ld_at x8 1024 0 w1 k n ⟨1024 + k.val, by omega⟩ n rfl (Nat.zero_add _).symm)
  · refine congrArg₂ (· * · : EReal → EReal → EReal) ((hyena_apply _ _ _ _ _ r k).trans ?_) (ld_at x8 1536 0 w2 k n ⟨1536 + k.val, by omega⟩ n rfl (Nat.zero_add _).symm)
    simp only [h5, h6, h7, cat_apply]

/-! ## The block -/

variable (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S2048x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S4x256x128 .f32) (harg12 : arg12.IsWhole)

/-- The block of the result that the body leaves. -/
theorem out10_eq : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
    = G x0 x1 x2 x3 x4 x5 x6 x7 x8 := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  refine View.canon_apply_of_pieces (G x0 x1 x2 x3 x4 x5 x6 x7 x8) _ ?_ y (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, List.forall_mem_cons]
  refine ⟨slice_piece x0 x1 x2 x3 x4 x5 x6 x7 x8 256 (by omega) _ _ _ _ _ _ _ _ _ _ _ _ _ _ _ ?_ ?_ ?_ ?_ ?_ ?_ ?_ ?_,
    slice_piece x0 x1 x2 x3 x4 x5 x6 x7 x8 0 (by omega) _ _ _ _ _ _ _ _ _ _ _ _ _ _ _ ?_ ?_ ?_ ?_ ?_ ?_ ?_ ?_, fun _ h => absurd h List.not_mem_nil⟩
  · exact slab_read arg12 x3 256 (by omega) 128 (by omega) (by omega) _ 0 (by omega) _
  · exact slab_read arg12 x3 256 (by omega) 128 (by omega) (by omega) _ 1 (by omega) _
  · exact slab_read arg12 x3 256 (by omega) 128 (by omega) (by omega) _ 2 (by omega) _
  · exact slab_read arg12 x3 256 (by omega) 128 (by omega) (by omega) _ 3 (by omega) _
  · exact slab_read arg12 x4 256 (by omega) 128 (by omega) (by omega) _ 0 (by omega) _
  · exact slab_read arg12 x4 256 (by omega) 128 (by omega) (by omega) _ 1 (by omega) _
  · exact slab_read arg12 x4 256 (by omega) 128 (by omega) (by omega) _ 2 (by omega) _
  · exact slab_read arg12 x4 256 (by omega) 128 (by omega) (by omega) _ 3 (by omega) _
  · exact slab_read arg12 x3 0 (by omega) 0 (by omega) (by omega) _ 0 (by omega) _
  · exact slab_read arg12 x3 0 (by omega) 0 (by omega) (by omega) _ 1 (by omega) _
  · exact slab_read arg12 x3 0 (by omega) 0 (by omega) (by omega) _ 2 (by omega) _
  · exact slab_read arg12 x3 0 (by omega) 0 (by omega) (by omega) _ 3 (by omega) _
  · exact slab_read arg12 x4 0 (by omega) 0 (by omega) (by omega) _ 0 (by omega) _
  · exact slab_read arg12 x4 0 (by omega) 0 (by omega) (by omega) _ 1 (by omega) _
  · exact slab_read arg12 x4 0 (by omega) 0 (by omega) (by omega) _ 2 (by omega) _
  · exact slab_read arg12 x4 0 (by omega) 0 (by omega) (by omega) _ 3 (by omega) _

end Cert.OutprojIdeal.Block

end
-- ==== Proof.OutprojRef.lean ====
module

public import proofs.«01_k».proof.Proof.OutprojRows
public import proofs.«01_k».proof.Proof.Gen.OutprojRefIdeal.Read

/-! # What the plain output projection computes at an index

The row's three outputs, side by side, against the weight's column: the one sum over 2048 is the three sums over the
parts. -/

@[expose] public section

noncomputable section

namespace Cert.OutprojRefIdeal.Plain

open Cert.OutprojRefIdeal Cert.OutprojRefIdeal.Read Idealize.ShloMosaic Idealize.ShloMosaic.ValueIdx

variable (x0 : (⟨S32768x2048, .f32⟩ : BufTy).Contents (Elt Ideal)) (x1 : (⟨S32768x1024, .f32⟩ : BufTy).Contents (Elt Ideal))
  (x2 x3 x4 x5 : (⟨S32768x512, .f32⟩ : BufTy).Contents (Elt Ideal)) (x6 : (⟨S32768x6016, .f32⟩ : BufTy).Contents (Elt Ideal))
  (x7 : (⟨S512, .f32⟩ : BufTy).Contents (Elt Ideal)) (x8 : (⟨S2048x2048, .f32⟩ : BufTy).Contents (Elt Ideal))

theorem v7_eq (r : Fin 32768) (k : Fin 512) : val_main_v7 (F := Ideal) x3 x4 x5 x6 x7 (ix2 r k) = OutRow.gatedRow x3 x4 x5 x6 x7 r k := by
  rw [val_main_v7_apply, val_main_v4_apply, val_main_v3_apply, val_main_v2_apply, val_main_v1_apply, val_main_v0_apply,
    val_main_v6_apply, val_main_call0_v5_apply, val_main_call0_v4_apply, val_main_call0_v3_apply, val_main_call0_v2_apply,
    val_main_call0_v1_apply, val_main_call0_v0_apply, val_main_v5_apply]
  have h1 : idx_main_v0 (idx_main_v1 (ix2 r k)) = ix1 k := by
    funext a; match a with
    | ⟨0, _⟩ => rfl
  have h2 : idx_main_v5 (ix2 r k) = ix2 r ⟨5120 + k.val, by omega⟩ := by
    funext a; match a with
    | ⟨0, _⟩ => rfl
    | ⟨1, _⟩ => rfl
  rw [h1, h2]
  rfl

theorem v17_eq (r : Fin 32768) (k : Fin 512) :
    val_main_v17 (F := Ideal) x3 x4 x5 x6 x7 (ix2 r k) = OutRow.unit (OutRow.gatedRow x3 x4 x5 x6 x7 r) k := by
  rw [val_main_v17_apply, val_main_v16_apply, val_main_v15_apply, val_main_v14_apply, val_main_v12_apply, val_main_v10_apply,
    val_main_v11_apply, val_main_v13_apply, v7_eq, val_main_v9_apply]
  have h : ∀ j, idx_main_v9 (idx_main_v10 (idx_main_v16 (ix2 r k))) j = ix2 r j := fun j => by
    funext a; match a with
    | ⟨0, _⟩ => rfl
    | ⟨1, _⟩ => rfl
  refine congrArg (fun s : EReal => OutRow.gatedRow x3 x4 x5 x6 x7 r k * Ideal.rsqrt (Ideal.div s (Ideal.ofBits .f32 0x44000000#32)
    + Ideal.ofBits .f32 0x358637BD#32)) ?_
  refine (congrArg (fun s : EReal => s + _) Ideal.ofBits_zero_f32).trans ((zero_add _).trans (Finset.sum_congr rfl fun j _ => ?_))
  rw [h, val_main_v8_apply, v7_eq]; rfl

theorem v20_eq : val_main_v20 (F := Ideal) x0 x1 x2 x3 x4 x5 x6 x7 x8 = OutRow.res x0 x1 x2 x3 x4 x5 x6 x7 x8 := by
  funext i
  obtain ⟨r, n, rfl⟩ : ∃ (r : Fin 32768) (n : Fin 2048), i = ix2 r n := ⟨i 0, i 1, eq_ix2 i⟩
  rw [val_main_v20_apply, val_main_v19_apply]
  have hl : ∀ k, lidx_main_v19 (ix2 r n) k = ix2 r k := fun k => by
    funext a; match a with
    | ⟨0, _⟩ => rfl
    | ⟨1, _⟩ => rfl
  have hr : ∀ k, ridx_main_v19 (ix2 r n) k = ix2 k n := fun k => by
    funext a; match a with
    | ⟨0, _⟩ => rfl
    | ⟨1, _⟩ => rfl
  simp only [hl, hr]
  exact OutRow.joined_res x0 x3 x4 x5 x6 x7 x8 x1 x2 (val_main_v17 (F := Ideal) x3 x4 x5 x6 x7) _ r n (v17_eq x3 x4 x5 x6 x7 r)

end Cert.OutprojRefIdeal.Plain

end
-- ==== Proof.OutprojArray.lean ====
module

public import proofs.«01_k».proof.Proof.OutprojBlock
public import proofs.«01_k».proof.Proof.OutprojRef
public import Idealize.ShloMosaic.Lib.Pipeline.ValueKit

/-! # What the output projection's array holds after the run

Point `t` of the grid handles token rows `512 t … 512 t + 511`; the hyena's direct term and the weight are whole at every
point, the gate is a block of columns of the input projection, and the convolution's arrays come two tokens to a row. -/

@[expose] public section

noncomputable section

namespace Cert.OutprojIdeal.Block

open Cert.OutprojIdeal Cert.OutprojIdeal.Gen Cert.OutprojIdeal.Value Idealize.ShloMosaic.TcCoe Idealize.SL.Sem
open Idealize.ShloMosaic hiding ix1 ix2 eq_ix2
open Idealize.ShloMosaic.Tactic Idealize.ShloMosaic.ValueIdx Idealize.ShloMosaic.StableHlo

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 10] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index10 : ∀ t : Fin cfg0.N, win0_10.index t = ![t.val, 0] := (by decide +kernel : ∀ t : Fin grid0.N, _)

/-! ## The arrays as the call gets them: a cast to the narrow type changes nothing at `Ideal` -/

theorem v0_entry (c : Dev nD) (i : S32768x1024.Idx) : V m c main_v0 i = m ((c : Thread nD τ).loc main_arg1) i := by
  have h : V m c main_v0 = (truncf .bf16 (m ((c : Thread nD τ).loc main_arg1) : FVec Ideal S32768x1024 .f32) bitsLt_bf16_f32 : FVec Ideal S32768x1024 .bf16) := by
    unfold_abbrev_sides
    after_results
  rw [h]; rfl

theorem v1_entry (c : Dev nD) (i : S32768x512.Idx) : V m c main_v1 i = m ((c : Thread nD τ).loc main_arg2) i := by
  have h : V m c main_v1 = (truncf .bf16 (m ((c : Thread nD τ).loc main_arg2) : FVec Ideal S32768x512 .f32) bitsLt_bf16_f32 : FVec Ideal S32768x512 .bf16) := by
    unfold_abbrev_sides
    after_results
  rw [h]; rfl

theorem v4_entry (c : Dev nD) (i : S32768x512.Idx) : V m c main_v4 i = m ((c : Thread nD τ).loc main_arg5) i := by
  have h : V m c main_v4 = (truncf .bf16 (m ((c : Thread nD τ).loc main_arg5) : FVec Ideal S32768x512 .f32) bitsLt_bf16_f32 : FVec Ideal S32768x512 .bf16) := by
    unfold_abbrev_sides
    after_results
  rw [h]; rfl

theorem v5_entry (c : Dev nD) (i : S32768x6016.Idx) : V m c main_v5 i = m ((c : Thread nD τ).loc main_arg6) i := by
  have h : V m c main_v5 = (truncf .bf16 (m ((c : Thread nD τ).loc main_arg6) : FVec Ideal S32768x6016 .f32) bitsLt_bf16_f32 : FVec Ideal S32768x6016 .bf16) := by
    unfold_abbrev_sides
    after_results
  rw [h]; rfl

theorem v6_entry (c : Dev nD) (i : S2048x2048.Idx) : V m c main_v6 i = m ((c : Thread nD τ).loc main_arg8) i := by
  have h : V m c main_v6 = (truncf .bf16 (m ((c : Thread nD τ).loc main_arg8) : FVec Ideal S2048x2048 .f32) bitsLt_bf16_f32 : FVec Ideal S2048x2048 .bf16) := by
    unfold_abbrev_sides
    after_results
  rw [h]; rfl

theorem v8_entry (c : Dev nD) (R : Fin 32768) (k : Fin 512) (P : Fin 16384) (q : Fin 1024)
    (hP : P.val = R.val / 2) (hq : q.val = R.val % 2 * 512 + k.val) :
    V m c main_v8 (ix2 P q) = m ((c : Thread nD τ).loc main_arg3) (ix2 R k) := by
  have h : V m c main_v8 = shapeCast S16384x1024 (truncf .bf16 (m ((c : Thread nD τ).loc main_arg3) : FVec Ideal S32768x512 .f32) bitsLt_bf16_f32 : FVec Ideal S32768x512 .bf16)
      shapeCasts_S32768x512_S16384x1024 := by
    unfold_abbrev_sides
    after_results
    rfl
  rw [h]
  exact OutRow.pair_entry (T := 32768) (P := 16384) (by omega) _ _ R k P q hP hq

theorem v9_entry (c : Dev nD) (R : Fin 32768) (k : Fin 512) (P : Fin 16384) (q : Fin 1024)
    (hP : P.val = R.val / 2) (hq : q.val = R.val % 2 * 512 + k.val) :
    V m c main_v9 (ix2 P q) = m ((c : Thread nD τ).loc main_arg4) (ix2 R k) := by
  have h : V m c main_v9 = shapeCast S16384x1024 (truncf .bf16 (m ((c : Thread nD τ).loc main_arg4) : FVec Ideal S32768x512 .f32) bitsLt_bf16_f32 : FVec Ideal S32768x512 .bf16)
      shapeCasts_S32768x512_S16384x1024 := by
    unfold_abbrev_sides
    after_results
    rfl
  rw [h]
  exact OutRow.pair_entry (T := 32768) (P := 16384) (by omega) _ _ R k P q hP hq

/-- The direct term's factors as the call gets them: a row. -/
theorem v10_entry (c : Dev nD) (k : Fin 512) :
    V m c main_v10 (ix2 0 k) = m ((c : Thread nD τ).loc main_arg7) (ix1 k) := by
  have h : V m c main_v10 = broadcastInDim S1x512 ![1] bcast_S512_S1x512_1 (m ((c : Thread nD τ).loc main_arg7)) := by
    unfold_abbrev_sides
    after_results
  rw [h]
  exact broadcastInDim_apply _ bcast_S512_S1x512_1 _ _ (ix1 k) (fun a => match a with
    | ⟨0, _⟩ => by show k.val = if (512 : Nat) = 1 then 0 else k.val; rw [if_neg (by decide)])

/-! ## A point's blocks -/

theorem iblk0_apply (c : Dev nD) (t : Fin cfg0.N) (r : Fin 512) (k : Fin 2048) (R : Fin 32768) (hR : R.val = 512 * t.val + r.val) :
    iblk m c 0 t (ix2 r k) = m ((c : Thread nD τ).loc main_arg0) (ix2 R k) := by
  blk_simp [iblk]
  rw [V_main_arg0]
  congr 1
  funext a; apply Fin.ext; fin_cases a
  · blk_simp [index0]; show t.val * 512 + r.val = R.val; omega
  · blk_simp [index0]

theorem iblk1_apply (c : Dev nD) (t : Fin cfg0.N) (r : Fin 512) (k : Fin 1024) (R : Fin 32768) (hR : R.val = 512 * t.val + r.val) :
    iblk m c 1 t (ix2 r k) = m ((c : Thread nD τ).loc main_arg1) (ix2 R k) := by
  blk_simp [iblk]
  refine Eq.trans ?_ (v0_entry m c (ix2 R k))
  congr 1
  funext a; apply Fin.ext; fin_cases a
  · blk_simp [index1]; show t.val * 512 + r.val = R.val; omega
  · blk_simp [index1]

theorem iblk2_apply (c : Dev nD) (t : Fin cfg0.N) (r : Fin 512) (k : Fin 512) (R : Fin 32768) (hR : R.val = 512 * t.val + r.val) :
    iblk m c 2 t (ix2 r k) = m ((c : Thread nD τ).loc main_arg2) (ix2 R k) := by
  blk_simp [iblk]
  refine Eq.trans ?_ (v1_entry m c (ix2 R k))
  congr 1
  funext a; apply Fin.ext; fin_cases a
  · blk_simp [index2]; show t.val * 512 + r.val = R.val; omega
  · blk_simp [index2]

theorem iblk5_apply (c : Dev nD) (t : Fin cfg0.N) (r : Fin 512) (k : Fin 512) (R : Fin 32768) (hR : R.val = 512 * t.val + r.val) :
    iblk m c 5 t (ix2 r k) = m ((c : Thread nD τ).loc main_arg5) (ix2 R k) := by
  blk_simp [iblk]
  refine Eq.trans ?_ (v4_entry m c (ix2 R k))
  congr 1
  funext a; apply Fin.ext; fin_cases a
  · blk_simp [index5]; show t.val * 512 + r.val = R.val; omega
  · blk_simp [index5]

theorem iblk3_apply (c : Dev nD) (t : Fin cfg0.N) (r : Fin 512) (k : Fin 512) (R : Fin 32768) (hR : R.val = 512 * t.val + r.val) :
    token (iblk m c 3 t) r k = m ((c : Thread nD τ).loc main_arg3) (ix2 R k) := by
  unfold token
  blk_simp [iblk]
  refine Eq.trans ?_ (v8_entry m c R k ⟨R.val / 2, by omega⟩ ⟨R.val % 2 * 512 + k.val, by omega⟩ rfl rfl)
  congr 1
  funext a; apply Fin.ext; fin_cases a
  · blk_simp [index3]; show t.val * 256 + r.val / 2 = R.val / 2; omega
  · blk_simp [index3]; show r.val % 2 * 512 + k.val = R.val % 2 * 512 + k.val; omega

theorem iblk4_apply (c : Dev nD) (t : Fin cfg0.N) (r : Fin 512) (k : Fin 512) (R : Fin 32768) (hR : R.val = 512 * t.val + r.val) :
    token (iblk m c 4 t) r k = m ((c : Thread nD τ).loc main_arg4) (ix2 R k) := by
  unfold token
  blk_simp [iblk]
  refine Eq.trans ?_ (v9_entry m c R k ⟨R.val / 2, by omega⟩ ⟨R.val % 2 * 512 + k.val, by omega⟩ rfl rfl)
  congr 1
  funext a; apply Fin.ext; fin_cases a
  · blk_simp [index4]; show t.val * 256 + r.val / 2 = R.val / 2; omega
  · blk_simp [index4]; show r.val % 2 * 512 + k.val = R.val % 2 * 512 + k.val; omega

theorem X6_apply (c : Dev nD) (t : Fin cfg0.N) (r : Fin 512) (k : Fin 512) (R : Fin 32768) (hR : R.val = 512 * t.val + r.val) :
    X0_6 m c t (ix2 r k) = m ((c : Thread nD τ).loc main_arg6) (ix2 R ⟨5120 + k.val, by omega⟩) := by
  unfold X0_6 Pipeline.Window.fill
  rw [dif_pos (moved0_6 t _)]
  blk_simp [iblk]
  refine Eq.trans ?_ (v5_entry m c (ix2 R ⟨5120 + k.val, by omega⟩))
  congr 1
  funext a; apply Fin.ext; fin_cases a
  · blk_simp [index6]; show t.val * 512 + r.val = R.val; omega
  · blk_simp [index6]

theorem iblk7_apply (c : Dev nD) (t : Fin cfg0.N) (k : Fin 512) :
    iblk m c 7 t (ix2 0 k) = m ((c : Thread nD τ).loc main_arg7) (ix1 k) := by
  blk_simp [iblk]
  refine Eq.trans ?_ (v10_entry m c k)
  congr 1
  funext a; apply Fin.ext; fin_cases a
  · blk_simp [index7]
  · blk_simp [index7]

theorem iblk8_apply (c : Dev nD) (t : Fin cfg0.N) (k : Fin 2048) (n : Fin 2048) :
    iblk m c 8 t (ix2 k n) = m ((c : Thread nD τ).loc main_arg8) (ix2 k n) := by
  blk_simp [iblk]
  refine Eq.trans ?_ (v6_entry m c (ix2 k n))
  congr 1
  funext a; apply Fin.ext; fin_cases a
  · blk_simp [index8]
  · blk_simp [index8]

/-- The plain result of the launched arrays. -/
abbrev plain (c : Dev nD) : Cert.OutprojRefIdeal.S32768x2048.Idx → EReal :=
  OutRow.res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The block's function of blocks that hold an array's rows is the whole arrays' function at that row. -/
theorem G_rows {T : Nat} (x0 : Vec Ideal S512x2048 .f32) (x1 : Vec Ideal S512x1024 .bf16) (x2 : Vec Ideal S512x512 .bf16) (x3 x4 : Vec Ideal S256x1024 .bf16)
    (x5 x6 : Vec Ideal S512x512 .bf16) (x7 : Vec Ideal S1x512 .f32) (x8 : Vec Ideal S2048x2048 .bf16)
    (a0 : (⟨2, ![T, 2048]⟩ : Shape).Idx → EReal) (a1 : (⟨2, ![T, 1024]⟩ : Shape).Idx → EReal) (a2 a3 a4 a5 : (⟨2, ![T, 512]⟩ : Shape).Idx → EReal)
    (a6 : (⟨2, ![T, 6016]⟩ : Shape).Idx → EReal) (a7 : (⟨1, ![512]⟩ : Shape).Idx → EReal) (a8 : (⟨2, ![2048, 2048]⟩ : Shape).Idx → EReal)
    (r : Fin 512) (n : Fin 2048) (R : Fin T) (h0 : x0 (ix2 r n) = a0 (ix2 R n)) (h1 : ∀ k, x1 (ix2 r k) = a1 (ix2 R k))
    (h2 : ∀ k, x2 (ix2 r k) = a2 (ix2 R k)) (h3 : ∀ k, token x3 r k = a3 (ix2 R k)) (h4 : ∀ k, token x4 r k = a4 (ix2 R k))
    (h5 : ∀ k, x5 (ix2 r k) = a5 (ix2 R k)) (h6 : ∀ k : Fin 512, x6 (ix2 r k) = a6 (ix2 R ⟨5120 + k.val, by omega⟩))
    (h7 : ∀ k, x7 (ix2 0 k) = a7 (ix1 k)) (h8 : ∀ k, x8 (ix2 k n) = a8 (ix2 k n)) :
    G x0 x1 x2 x3 x4 x5 x6 x7 x8 (ix2 r n) = OutRow.res a0 a1 a2 a3 a4 a5 a6 a7 a8 (ix2 R n) := by
  have hg : OutRow.gated (fun k => x5 (ix2 r k)) (token x3 r) (token x4 r) (fun k => x7 (ix2 0 k)) (fun k => x6 (ix2 r k))
      = OutRow.gatedRow a3 a4 a5 a6 a7 R := by
    unfold OutRow.gatedRow
    exact (congrArg₂ (fun a b => OutRow.gated a b _ _ _) (funext h5) (funext h3)).trans
      ((congrArg₂ (fun a b => OutRow.gated _ _ a b _) (funext h4) (funext h7)).trans (congrArg (OutRow.gated _ _ _ _) (funext h6)))
  unfold G OutRow.res
  exact (congrArg₂ (fun a b => OutRow.out a b _ _ _) h0 (funext h1)).trans
    ((congrArg₂ (fun a b => OutRow.out _ _ a (OutRow.unit b) _) (funext h2) hg).trans (congrArg (OutRow.out _ _ _ _) (funext h8)))

/-- The block's function of the point's blocks is the whole arrays' function at the point's rows. -/
theorem G_eq (c : Dev nD) (t : Fin cfg0.N) (r : Fin 512) (n : Fin 2048) (R : Fin 32768) (hR : R.val = 512 * t.val + r.val) :
    G (iblk m c 0 t) (iblk m c 1 t) (iblk m c 2 t) (iblk m c 3 t) (iblk m c 4 t) (iblk m c 5 t) (X0_6 m c t) (iblk m c 7 t) (iblk m c 8 t) (ix2 r n)
      = plain m c (ix2 R n) :=
  G_rows _ _ _ _ _ _ _ _ _ _ _ _ _ _ _ _ _ _ r n R (iblk0_apply m c t r n R hR) (fun k => iblk1_apply m c t r k R hR) (fun k => iblk2_apply m c t r k R hR)
    (fun k => iblk3_apply m c t r k R hR) (fun k => iblk4_apply m c t r k R hR) (fun k => iblk5_apply m c t r k R hR) (fun k => X6_apply m c t r k R hR)
    (iblk7_apply m c t) (fun k => iblk8_apply m c t k n)

theorem row_lt (t : Fin cfg0.N) (r : Fin 512) : 512 * t.val + r.val < 32768 := by
  have : t.val < 64 := t.isLt
  omega

/-- The result: every row's. -/
theorem final10 (c : Dev nD) : (dats m 0 c).arrAt 10 cfg0.N = plain m c := by
  refine (dats m 0 c).arrAt_eq_of_covers 10 _ (by decide +kernel) fun t hf y => ?_
  blk_simp
  rw [after0_10]
  simp only [outsAt0]
  rw [out10_eq]
  refine (congrArg (G _ _ _ _ _ _ _ _ _) (eq_ix2 y)).trans ((G_eq m c t (y 0) (y 1) ⟨_, row_lt t (y 0)⟩ rfl).trans ?_)
  refine congrArg _ ?_
  funext a; apply Fin.ext; fin_cases a
  · blk_simp [index10]; show 512 * t.val + (y 0).val = t.val * 512 + (y 0).val; omega
  · blk_simp [index10]; rfl

end Cert.OutprojIdeal.Block

end
-- ==== Proof.OutprojClaim.lean ====
module

public import proofs.«01_k».proof.Defs
public import proofs.«01_k».proof.Proof.OutprojArray
public import proofs.«01_k».proof.Proof.Gen.OutprojRefIdeal.Run

/-! # The output projection's value claim -/

@[expose] public section

noncomputable section

namespace Cert.OutprojIdeal.Block

open Idealize.ShloMosaic Idealize.SL.Sem

theorem algebraic : Cert.algebraic_OutprojIdeal_OutprojRefIdeal (hOutprojIdeal := Cert.OutprojIdeal.Gen.facts)
    (hOutprojRefIdeal := Cert.OutprojRefIdeal.Gen.facts) := by
  intro m g m' g' _ hagree
  refine ⟨fun c => plain m c, ?_, ?_⟩
  · refine (θ_run Cert.OutprojIdeal.defs _ _).mono (fun r h c => ?_) (Cert.OutprojIdeal.Value.run_blocks m g)
    obtain ⟨h0, h1⟩ := h c
    exact ⟨h0.trans (final10 m c), h1⟩
  · refine (θ_run Cert.OutprojRefIdeal.defs _ _).mono (fun r h c => ?_) (Cert.OutprojRefIdeal.Value.run m' g')
    obtain ⟨h0, h1⟩ := h c
    obtain ⟨a0, a1, a2, a3, a4, a5, a6, a7, a8⟩ := hagree c
    refine ⟨(h0.trans (Cert.OutprojRefIdeal.Read.val_main_v20_eq _ _ _ _ _ _ _ _ _)).trans ?_, h1⟩
    rw [Cert.OutprojRefIdeal.Plain.v20_eq, a0, a1, a2, a3, a4, a5, a6, a7, a8]

end Cert.OutprojIdeal.Block

end
-- ==== Proof.LastBlock.lean ====
module

public import proofs.«01_k».proof.Proof.Gen.LastIdeal.Value
public import proofs.«01_k».proof.Proof.OutprojBlock

/-! # What one grid point of the last layer's output projection writes

The body is the other layers' output projection; before a slice is stored, each of its rows is divided by the root of
its mean square and multiplied by the final gain. -/

@[expose] public section

set_option maxRecDepth 16384

noncomputable section

namespace Cert.LastIdeal.Block

open Cert.LastIdeal Cert.LastIdeal.Gen Idealize.ShloMosaic Idealize.ShloMosaic.TcCoe Idealize.SL.Sem
open Idealize.ShloMosaic.Tactic Idealize.ShloMosaic.ValueIdx
open Cert.OutprojIdeal.Block (slab slab_read cat hyena block slice_piece ld_at)

/-- The rows of a slice normalised, times the gain. -/
def gained (M : FVec Ideal S256x2048 .f32) (fg : Vec Ideal S1x2048 .f32) : FVec Ideal S256x2048 .f32 :=
  mulf (mulf M (broadcastTo S256x2048
      (rsqrt (addf (divf (shapeCast S256x1 (multiReduction .add [1] S256 (mulf M M) 0x00000000#32 reduces_S256x2048_S256 (.inl rfl) rfl) shapeCasts_S256_S256x1)
        (broadcast S256x1 (Scalar.ofBits (F := Ideal) .f32 0x45000000#32))) (broadcast S256x1 (Scalar.ofBits (F := Ideal) .f32 0x358637BD#32))))
      broadcasts_S256x1_S256x2048))
    (broadcastTo S256x2048 (shapeCast S1x2048 fg shapeCasts_S1x2048_S1x2048) broadcasts_S1x2048_S256x2048)

theorem gained_apply (M : FVec Ideal S256x2048 .f32) (fg : Vec Ideal S1x2048 .f32) (r : Fin 256) (n : Fin 2048) :
    gained M fg (ix2 r n) = OutRow.normed (fun j => M (ix2 r j)) n * fg (ix2 0 n) := by
  unfold gained
  rw [shapeCast_self]
  refine congrArg₂ (· * · : EReal → EReal → EReal) (congrArg (M (ix2 r n) * ·) ?_) (Layout.spread_row _ _ _)
  exact (Layout.spread_col _ _ (ix2 r n)).trans (congrArg (fun s => Ideal.rsqrt (Ideal.div s (Ideal.ofBits .f32 0x45000000#32)
    + Ideal.ofBits .f32 0x358637BD#32)) ((Layout.as_col _ _ r 0).trans (Layout.row_sum _ _ _ _ _ r)))

variable (x0 : Vec Ideal S512x2048 .f32) (x1 : Vec Ideal S512x1024 .bf16) (x2 : Vec Ideal S512x512 .bf16) (x3 : Vec Ideal S256x1024 .bf16) (x4 : Vec Ideal S256x1024 .bf16) (x5 : Vec Ideal S512x512 .bf16) (x6 : Vec Ideal S512x512 .bf16) (x7 : Vec Ideal S1x512 .f32) (x8 : Vec Ideal S2048x2048 .bf16) (x9 : Vec Ideal S1x2048 .f32)

/-- What the point leaves in its block of the result. -/
def G (y : S512x2048.Idx) : EReal :=
  OutRow.normed (fun j => Cert.OutprojIdeal.Block.G x0 x1 x2 x3 x4 x5 x6 x7 x8 (ix2 (y 0) j)) (y 1) * x9 (ix2 0 (y 1))

/-- A slice whose rows are the block's, normalised and multiplied by the gain, is the result at the slice's place. -/
theorem gained_piece (o : Nat) (ho : o + 256 ≤ 512)
    (i0 : ∀ a, (![o, 0] : Fin 2 → Nat) a + (![256, 2048] : Fin 2 → Nat) a ≤ S512x2048.size a)
    (i9 : ∀ a, (![0, 0] : Fin 2 → Nat) a + (![1, 2048] : Fin 2 → Nat) a ≤ S1x2048.size a)
    (M : FVec Ideal S256x2048 .f32)
    (hM : ∀ x : (Rect.unit (s := S512x2048) ![o, 0] ![256, 2048] i0).shape.Idx,
      M x = Cert.OutprojIdeal.Block.G x0 x1 x2 x3 x4 x5 x6 x7 x8 ((Rect.unit ![o, 0] ![256, 2048] i0).emb x))
    (x : (Rect.unit (s := S512x2048) ![o, 0] ![256, 2048] i0).shape.Idx) :
    gained M (View.ld x9 (Rect.unit ![0, 0] ![1, 2048] i9)) x
      = G x0 x1 x2 x3 x4 x5 x6 x7 x8 x9 ((Rect.unit ![o, 0] ![256, 2048] i0).emb x) := by
  obtain ⟨r, n, rfl⟩ : ∃ (r : Fin 256) (n : Fin 2048), x = ix2 r n := ⟨x 0, x 1, eq_ix2 x⟩
  have hR : o + r.val < 512 := by omega
  have e : ∀ j : Fin 2048, (Rect.unit (s := S512x2048) ![o, 0] ![256, 2048] i0).emb (ix2 r j) = ix2 ⟨o + r.val, hR⟩ j := fun j => funext fun a => Fin.ext ((Rect.idx_unit_val _ _ _ _ _).trans (by
    match a with | ⟨0, _⟩ => rfl | ⟨1, _⟩ => exact Nat.zero_add _))
  rw [e]
  refine (gained_apply M _ r n).trans ?_
  unfold G
  refine congrArg₂ (· * · : EReal → EReal → EReal) (congrArg (OutRow.normed · n) (funext fun j => (hM (ix2 r j)).trans (congrArg _ (e j)))) ?_
  exact ld_at x9 0 0 i9 0 n 0 n rfl (Nat.zero_add _).symm

/-! ## The block -/

variable (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S2048x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S4x256x128 .f32) (harg12 : arg12.IsWhole)

/-- The block of the result that the body leaves. -/
theorem out10_eq : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
    = G x0 x1 x2 x3 x4 x5 x6 x7 x8 x9 := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  refine View.canon_apply_of_pieces (G x0 x1 x2 x3 x4 x5 x6 x7 x8 x9) _ ?_ y (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, List.forall_mem_cons]
  refine ⟨gained_piece x0 x1 x2 x3 x4 x5 x6 x7 x8 x9 256 (by omega) _ _ _ (slice_piece x0 x1 x2 x3 x4 x5 x6 x7 x8 256 (by omega) _ _ _ _ _ _ _ _ _ _ _ _ _ _ _ ?_ ?_ ?_ ?_ ?_ ?_ ?_ ?_),
    gained_piece x0 x1 x2 x3 x4 x5 x6 x7 x8 x9 0 (by omega) _ _ _ (slice_piece x0 x1 x2 x3 x4 x5 x6 x7 x8 0 (by omega) _ _ _ _ _ _ _ _ _ _ _ _ _ _ _ ?_ ?_ ?_ ?_ ?_ ?_ ?_ ?_), fun _ h => absurd h List.not_mem_nil⟩
  · exact slab_read arg12 x3 256 (by omega) 128 (by omega) (by omega) _ 0 (by omega) _
  · exact slab_read arg12 x3 256 (by omega) 128 (by omega) (by omega) _ 1 (by omega) _
  · exact slab_read arg12 x3 256 (by omega) 128 (by omega) (by omega) _ 2 (by omega) _
  · exact slab_read arg12 x3 256 (by omega) 128 (by omega) (by omega) _ 3 (by omega) _
  · exact slab_read arg12 x4 256 (by omega) 128 (by omega) (by omega) _ 0 (by omega) _
  · exact slab_read arg12 x4 256 (by omega) 128 (by omega) (by omega) _ 1 (by omega) _
  · exact slab_read arg12 x4 256 (by omega) 128 (by omega) (by omega) _ 2 (by omega) _
  · exact slab_read arg12 x4 256 (by omega) 128 (by omega) (by omega) _ 3 (by omega) _
  · exact slab_read arg12 x3 0 (by omega) 0 (by omega) (by omega) _ 0 (by omega) _
  · exact slab_read arg12 x3 0 (by omega) 0 (by omega) (by omega) _ 1 (by omega) _
  · exact slab_read arg12 x3 0 (by omega) 0 (by omega) (by omega) _ 2 (by omega) _
  · exact slab_read arg12 x3 0 (by omega) 0 (by omega) (by omega) _ 3 (by omega) _
  · exact slab_read arg12 x4 0 (by omega) 0 (by omega) (by omega) _ 0 (by omega) _
  · exact slab_read arg12 x4 0 (by omega) 0 (by omega) (by omega) _ 1 (by omega) _
  · exact slab_read arg12 x4 0 (by omega) 0 (by omega) (by omega) _ 2 (by omega) _
  · exact slab_read arg12 x4 0 (by omega) 0 (by omega) (by omega) _ 3 (by omega) _

end Cert.LastIdeal.Block

end
-- ==== Proof.LastRef.lean ====
module

public import proofs.«01_k».proof.Proof.OutprojRef
public import proofs.«01_k».proof.Proof.Gen.LastRefIdeal.Read

/-! # What the plain last output projection computes at an index

The other layers' result, each row over the root of its mean square, times the final gain. -/

@[expose] public section

noncomputable section

namespace Cert.LastRefIdeal.Plain

open Cert.LastRefIdeal Cert.LastRefIdeal.Read Idealize.ShloMosaic Idealize.ShloMosaic.ValueIdx

variable (x0 : (⟨S32768x2048, .f32⟩ : BufTy).Contents (Elt Ideal)) (x1 : (⟨S32768x1024, .f32⟩ : BufTy).Contents (Elt Ideal))
  (x2 x3 x4 x5 : (⟨S32768x512, .f32⟩ : BufTy).Contents (Elt Ideal)) (x6 : (⟨S32768x6016, .f32⟩ : BufTy).Contents (Elt Ideal))
  (x7 : (⟨S512, .f32⟩ : BufTy).Contents (Elt Ideal)) (x8 : (⟨S2048x2048, .f32⟩ : BufTy).Contents (Elt Ideal))
  (x9 : (⟨S2048, .f32⟩ : BufTy).Contents (Elt Ideal))

/-- Before the norm, the result is the other layers'. -/
theorem v20_eq : val_main_v20 (F := Ideal) x0 x1 x2 x3 x4 x5 x6 x7 x8 = OutRow.res x0 x1 x2 x3 x4 x5 x6 x7 x8 :=
  Eq.trans (by rfl) (Cert.OutprojRefIdeal.Plain.v20_eq x0 x1 x2 x3 x4 x5 x6 x7 x8)

theorem v33_eq : val_main_v33 (F := Ideal) x0 x1 x2 x3 x4 x5 x6 x7 x8 x9 = OutRow.last x0 x1 x2 x3 x4 x5 x6 x7 x8 x9 := by
  funext i
  obtain ⟨r, n, rfl⟩ : ∃ (r : Fin 32768) (n : Fin 2048), i = ix2 r n := ⟨i 0, i 1, eq_ix2 i⟩
  rw [val_main_v33_apply, val_main_v30_apply, val_main_v29_apply, val_main_v28_apply, val_main_v27_apply, val_main_v25_apply,
    val_main_v23_apply, val_main_v24_apply, val_main_v26_apply, val_main_v22_apply, val_main_v32_apply, val_main_v31_apply, v20_eq]
  have hg : idx_main_v31 (idx_main_v32 (ix2 r n)) = ix1 n := by
    funext a; match a with
    | ⟨0, _⟩ => rfl
  have h : ∀ j, idx_main_v22 (idx_main_v23 (idx_main_v29 (ix2 r n))) j = ix2 r j := fun j => by
    funext a; match a with
    | ⟨0, _⟩ => rfl
    | ⟨1, _⟩ => rfl
  rw [hg]
  refine congrArg (fun s : EReal => s * x9 (ix1 n)) (congrArg (fun s : EReal => OutRow.res x0 x1 x2 x3 x4 x5 x6 x7 x8 (ix2 r n)
    * Ideal.rsqrt (Ideal.div s (Ideal.ofBits .f32 0x45000000#32) + Ideal.ofBits .f32 0x358637BD#32)) ?_)
  refine (congrArg (fun s : EReal => s + _) Ideal.ofBits_zero_f32).trans ((zero_add _).trans (Finset.sum_congr rfl fun j _ => ?_))
  rw [h, val_main_v21_apply, v20_eq]; rfl

end Cert.LastRefIdeal.Plain

end
-- ==== Proof.LastArray.lean ====
module

public import proofs.«01_k».proof.Proof.LastBlock
public import proofs.«01_k».proof.Proof.LastRef
public import proofs.«01_k».proof.Proof.OutprojArray
public import Idealize.ShloMosaic.Lib.Pipeline.ValueKit

/-! # What the last output projection's array holds after the run

The grid and the blocks are those of the other layers' output projection; the final gain is whole at every point. -/

@[expose] public section

noncomputable section

namespace Cert.LastIdeal.Block

open Cert.LastIdeal Cert.LastIdeal.Gen Cert.LastIdeal.Value Idealize.ShloMosaic.TcCoe Idealize.SL.Sem
open Cert.OutprojIdeal.Block (token row_lt)
open Idealize.ShloMosaic hiding ix1 ix2 eq_ix2
open Idealize.ShloMosaic.Tactic Idealize.ShloMosaic.ValueIdx Idealize.ShloMosaic.StableHlo

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 10] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val, 0] := (by decide +kernel : ∀ t : Fin grid0.N, _)

/-! ## The arrays as the call gets them: a cast to the narrow type changes nothing at `Ideal` -/

theorem v0_entry (c : Dev nD) (i : S32768x1024.Idx) : V m c main_v0 i = m ((c : Thread nD τ).loc main_arg1) i := by
  have h : V m c main_v0 = (truncf .bf16 (m ((c : Thread nD τ).loc main_arg1) : FVec Ideal S32768x1024 .f32) bitsLt_bf16_f32 : FVec Ideal S32768x1024 .bf16) := by
    unfold_abbrev_sides
    after_results
  rw [h]; rfl

theorem v1_entry (c : Dev nD) (i : S32768x512.Idx) : V m c main_v1 i = m ((c : Thread nD τ).loc main_arg2) i := by
  have h : V m c main_v1 = (truncf .bf16 (m ((c : Thread nD τ).loc main_arg2) : FVec Ideal S32768x512 .f32) bitsLt_bf16_f32 : FVec Ideal S32768x512 .bf16) := by
    unfold_abbrev_sides
    after_results
  rw [h]; rfl

theorem v4_entry (c : Dev nD) (i : S32768x512.Idx) : V m c main_v4 i = m ((c : Thread nD τ).loc main_arg5) i := by
  have h : V m c main_v4 = (truncf .bf16 (m ((c : Thread nD τ).loc main_arg5) : FVec Ideal S32768x512 .f32) bitsLt_bf16_f32 : FVec Ideal S32768x512 .bf16) := by
    unfold_abbrev_sides
    after_results
  rw [h]; rfl

theorem v5_entry (c : Dev nD) (i : S32768x6016.Idx) : V m c main_v5 i = m ((c : Thread nD τ).loc main_arg6) i := by
  have h : V m c main_v5 = (truncf .bf16 (m ((c : Thread nD τ).loc main_arg6) : FVec Ideal S32768x6016 .f32) bitsLt_bf16_f32 : FVec Ideal S32768x6016 .bf16) := by
    unfold_abbrev_sides
    after_results
  rw [h]; rfl

theorem v6_entry (c : Dev nD) (i : S2048x2048.Idx) : V m c main_v6 i = m ((c : Thread nD τ).loc main_arg8) i := by
  have h : V m c main_v6 = (truncf .bf16 (m ((c : Thread nD τ).loc main_arg8) : FVec Ideal S2048x2048 .f32) bitsLt_bf16_f32 : FVec Ideal S2048x2048 .bf16) := by
    unfold_abbrev_sides
    after_results
  rw [h]; rfl

theorem v7_entry (c : Dev nD) (R : Fin 32768) (k : Fin 512) (P : Fin 16384) (q : Fin 1024)
    (hP : P.val = R.val / 2) (hq : q.val = R.val % 2 * 512 + k.val) :
    V m c main_v7 (ix2 P q) = m ((c : Thread nD τ).loc main_arg3) (ix2 R k) := by
  have h : V m c main_v7 = shapeCast S16384x1024 (truncf .bf16 (m ((c : Thread nD τ).loc main_arg3) : FVec Ideal S32768x512 .f32) bitsLt_bf16_f32 : FVec Ideal S32768x512 .bf16)
      shapeCasts_S32768x512_S16384x1024 := by
    unfold_abbrev_sides
    after_results
    rfl
  rw [h]
  exact OutRow.pair_entry (T := 32768) (P := 16384) (by omega) _ _ R k P q hP hq

theorem v8_entry (c : Dev nD) (R : Fin 32768) (k : Fin 512) (P : Fin 16384) (q : Fin 1024)
    (hP : P.val = R.val / 2) (hq : q.val = R.val % 2 * 512 + k.val) :
    V m c main_v8 (ix2 P q) = m ((c : Thread nD τ).loc main_arg4) (ix2 R k) := by
  have h : V m c main_v8 = shapeCast S16384x1024 (truncf .bf16 (m ((c : Thread nD τ).loc main_arg4) : FVec Ideal S32768x512 .f32) bitsLt_bf16_f32 : FVec Ideal S32768x512 .bf16)
      shapeCasts_S32768x512_S16384x1024 := by
    unfold_abbrev_sides
    after_results
    rfl
  rw [h]
  exact OutRow.pair_entry (T := 32768) (P := 16384) (by omega) _ _ R k P q hP hq

/-- The direct term's factors as the call gets them: a row. -/
theorem v9_entry (c : Dev nD) (k : Fin 512) :
    V m c main_v9 (ix2 0 k) = m ((c : Thread nD τ).loc main_arg7) (ix1 k) := by
  have h : V m c main_v9 = broadcastInDim S1x512 ![1] bcast_S512_S1x512_1 (m ((c : Thread nD τ).loc main_arg7)) := by
    unfold_abbrev_sides
    after_results
  rw [h]
  exact broadcastInDim_apply _ bcast_S512_S1x512_1 _ _ (ix1 k) (fun a => match a with
    | ⟨0, _⟩ => by show k.val = if (512 : Nat) = 1 then 0 else k.val; rw [if_neg (by decide)])

/-- The gain as the call gets it: a row. -/
theorem v10_entry (c : Dev nD) (k : Fin 2048) :
    V m c main_v10 (ix2 0 k) = m ((c : Thread nD τ).loc main_arg9) (ix1 k) := by
  have h : V m c main_v10 = broadcastInDim S1x2048 ![1] bcast_S2048_S1x2048_1 (m ((c : Thread nD τ).loc main_arg9)) := by
    unfold_abbrev_sides
    after_results
  rw [h]
  exact broadcastInDim_apply _ bcast_S2048_S1x2048_1 _ _ (ix1 k) (fun a => match a with
    | ⟨0, _⟩ => by show k.val = if (2048 : Nat) = 1 then 0 else k.val; rw [if_neg (by decide)])

/-! ## A point's blocks -/

theorem iblk0_apply (c : Dev nD) (t : Fin cfg0.N) (r : Fin 512) (k : Fin 2048) (R : Fin 32768) (hR : R.val = 512 * t.val + r.val) :
    iblk m c 0 t (ix2 r k) = m ((c : Thread nD τ).loc main_arg0) (ix2 R k) := by
  blk_simp [iblk]
  rw [V_main_arg0]
  congr 1
  funext a; apply Fin.ext; fin_cases a
  · blk_simp [index0]; show t.val * 512 + r.val = R.val; omega
  · blk_simp [index0]

theorem iblk1_apply (c : Dev nD) (t : Fin cfg0.N) (r : Fin 512) (k : Fin 1024) (R : Fin 32768) (hR : R.val = 512 * t.val + r.val) :
    iblk m c 1 t (ix2 r k) = m ((c : Thread nD τ).loc main_arg1) (ix2 R k) := by
  blk_simp [iblk]
  refine Eq.trans ?_ (v0_entry m c (ix2 R k))
  congr 1
  funext a; apply Fin.ext; fin_cases a
  · blk_simp [index1]; show t.val * 512 + r.val = R.val; omega
  · blk_simp [index1]

theorem iblk2_apply (c : Dev nD) (t : Fin cfg0.N) (r : Fin 512) (k : Fin 512) (R : Fin 32768) (hR : R.val = 512 * t.val + r.val) :
    iblk m c 2 t (ix2 r k) = m ((c : Thread nD τ).loc main_arg2) (ix2 R k) := by
  blk_simp [iblk]
  refine Eq.trans ?_ (v1_entry m c (ix2 R k))
  congr 1
  funext a; apply Fin.ext; fin_cases a
  · blk_simp [index2]; show t.val * 512 + r.val = R.val; omega
  · blk_simp [index2]

theorem iblk5_apply (c : Dev nD) (t : Fin cfg0.N) (r : Fin 512) (k : Fin 512) (R : Fin 32768) (hR : R.val = 512 * t.val + r.val) :
    iblk m c 5 t (ix2 r k) = m ((c : Thread nD τ).loc main_arg5) (ix2 R k) := by
  blk_simp [iblk]
  refine Eq.trans ?_ (v4_entry m c (ix2 R k))
  congr 1
  funext a; apply Fin.ext; fin_cases a
  · blk_simp [index5]; show t.val * 512 + r.val = R.val; omega
  · blk_simp [index5]

theorem iblk3_apply (c : Dev nD) (t : Fin cfg0.N) (r : Fin 512) (k : Fin 512) (R : Fin 32768) (hR : R.val = 512 * t.val + r.val) :
    token (iblk m c 3 t) r k = m ((c : Thread nD τ).loc main_arg3) (ix2 R k) := by
  unfold token
  blk_simp [iblk]
  refine Eq.trans ?_ (v7_entry m c R k ⟨R.val / 2, by omega⟩ ⟨R.val % 2 * 512 + k.val, by omega⟩ rfl rfl)
  congr 1
  funext a; apply Fin.ext; fin_cases a
  · blk_simp [index3]; show t.val * 256 + r.val / 2 = R.val / 2; omega
  · blk_simp [index3]; show r.val % 2 * 512 + k.val = R.val % 2 * 512 + k.val; omega

theorem iblk4_apply (c : Dev nD) (t : Fin cfg0.N) (r : Fin 512) (k : Fin 512) (R : Fin 32768) (hR : R.val = 512 * t.val + r.val) :
    token (iblk m c 4 t) r k = m ((c : Thread nD τ).loc main_arg4) (ix2 R k) := by
  unfold token
  blk_simp [iblk]
  refine Eq.trans ?_ (v8_entry m c R k ⟨R.val / 2, by omega⟩ ⟨R.val % 2 * 512 + k.val, by omega⟩ rfl rfl)
  congr 1
  funext a; apply Fin.ext; fin_cases a
  · blk_simp [index4]; show t.val * 256 + r.val / 2 = R.val / 2; omega
  · blk_simp [index4]; show r.val % 2 * 512 + k.val = R.val % 2 * 512 + k.val; omega

theorem X6_apply (c : Dev nD) (t : Fin cfg0.N) (r : Fin 512) (k : Fin 512) (R : Fin 32768) (hR : R.val = 512 * t.val + r.val) :
    X0_6 m c t (ix2 r k) = m ((c : Thread nD τ).loc main_arg6) (ix2 R ⟨5120 + k.val, by omega⟩) := by
  unfold X0_6 Pipeline.Window.fill
  rw [dif_pos (moved0_6 t _)]
  blk_simp [iblk]
  refine Eq.trans ?_ (v5_entry m c (ix2 R ⟨5120 + k.val, by omega⟩))
  congr 1
  funext a; apply Fin.ext; fin_cases a
  · blk_simp [index6]; show t.val * 512 + r.val = R.val; omega
  · blk_simp [index6]

theorem iblk7_apply (c : Dev nD) (t : Fin cfg0.N) (k : Fin 512) :
    iblk m c 7 t (ix2 0 k) = m ((c : Thread nD τ).loc main_arg7) (ix1 k) := by
  blk_simp [iblk]
  refine Eq.trans ?_ (v9_entry m c k)
  congr 1
  funext a; apply Fin.ext; fin_cases a
  · blk_simp [index7]
  · blk_simp [index7]

theorem iblk8_apply (c : Dev nD) (t : Fin cfg0.N) (k : Fin 2048) (n : Fin 2048) :
    iblk m c 8 t (ix2 k n) = m ((c : Thread nD τ).loc main_arg8) (ix2 k n) := by
  blk_simp [iblk]
  refine Eq.trans ?_ (v6_entry m c (ix2 k n))
  congr 1
  funext a; apply Fin.ext; fin_cases a
  · blk_simp [index8]
  · blk_simp [index8]

theorem iblk9_apply (c : Dev nD) (t : Fin cfg0.N) (k : Fin 2048) :
    iblk m c 9 t (ix2 0 k) = m ((c : Thread nD τ).loc main_arg9) (ix1 k) := by
  blk_simp [iblk]
  refine Eq.trans ?_ (v10_entry m c k)
  congr 1
  funext a; apply Fin.ext; fin_cases a
  · blk_simp [index9]
  · blk_simp [index9]

/-- The plain result of the launched arrays. -/
abbrev plain (c : Dev nD) : Cert.LastRefIdeal.S32768x2048.Idx → EReal :=
  OutRow.last (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- The block's function of the point's blocks is the whole arrays' function at the point's rows. -/
theorem G_eq (c : Dev nD) (t : Fin cfg0.N) (r : Fin 512) (n : Fin 2048) (R : Fin 32768) (hR : R.val = 512 * t.val + r.val) :
    G (iblk m c 0 t) (iblk m c 1 t) (iblk m c 2 t) (iblk m c 3 t) (iblk m c 4 t) (iblk m c 5 t) (X0_6 m c t) (iblk m c 7 t) (iblk m c 8 t) (iblk m c 9 t) (ix2 r n)
      = plain m c (ix2 R n) := by
  unfold G plain OutRow.last
  refine congrArg₂ (· * · : EReal → EReal → EReal) (congrArg (OutRow.normed · n) (funext fun j => ?_)) (iblk9_apply m c t n)
  exact Cert.OutprojIdeal.Block.G_rows _ _ _ _ _ _ _ _ _ _ _ _ _ _ _ _ _ _ r j R (iblk0_apply m c t r j R hR) (fun k => iblk1_apply m c t r k R hR) (fun k => iblk2_apply m c t r k R hR)
    (fun k => iblk3_apply m c t r k R hR) (fun k => iblk4_apply m c t r k R hR) (fun k => iblk5_apply m c t r k R hR) (fun k => X6_apply m c t r k R hR)
    (iblk7_apply m c t) (fun k => iblk8_apply m c t k j)

/-- The result: every row's. -/
theorem final10 (c : Dev nD) : (dats m 0 c).arrAt 10 cfg0.N = plain m c := by
  refine (dats m 0 c).arrAt_eq_of_covers 10 _ (by decide +kernel) fun t hf y => ?_
  blk_simp
  rw [after0_10]
  simp only [outsAt0]
  rw [out10_eq]
  refine (congrArg (G _ _ _ _ _ _ _ _ _ _) (eq_ix2 y)).trans ((G_eq m c t (y 0) (y 1) ⟨_, row_lt t (y 0)⟩ rfl).trans ?_)
  refine congrArg _ ?_
  funext a; apply Fin.ext; fin_cases a
  · blk_simp [index10]; show 512 * t.val + (y 0).val = t.val * 512 + (y 0).val; omega
  · blk_simp [index10]; rfl

end Cert.LastIdeal.Block

end
-- ==== Proof.LastClaim.lean ====
module

public import proofs.«01_k».proof.Defs
public import proofs.«01_k».proof.Proof.LastArray
public import proofs.«01_k».proof.Proof.Gen.LastRefIdeal.Run

/-! # The last output projection's value claim -/

@[expose] public section

noncomputable section

namespace Cert.LastIdeal.Block

open Idealize.ShloMosaic Idealize.SL.Sem

theorem algebraic : Cert.algebraic_LastIdeal_LastRefIdeal (hLastIdeal := Cert.LastIdeal.Gen.facts)
    (hLastRefIdeal := Cert.LastRefIdeal.Gen.facts) := by
  intro m g m' g' _ hagree
  refine ⟨fun c => plain m c, ?_, ?_⟩
  · refine (θ_run Cert.LastIdeal.defs _ _).mono (fun r h c => ?_) (Cert.LastIdeal.Value.run_blocks m g)
    obtain ⟨h0, h1⟩ := h c
    exact ⟨h0.trans (final10 m c), h1⟩
  · refine (θ_run Cert.LastRefIdeal.defs _ _).mono (fun r h c => ?_) (Cert.LastRefIdeal.Value.run m' g')
    obtain ⟨h0, h1⟩ := h c
    obtain ⟨a0, a1, a2, a3, a4, a5, a6, a7, a8, a9⟩ := hagree c
    refine ⟨(h0.trans (Cert.LastRefIdeal.Read.val_main_v33_eq m' c)).trans ?_, h1⟩
    rw [Cert.LastRefIdeal.Plain.v33_eq, a0, a1, a2, a3, a4, a5, a6, a7, a8, a9]

end Cert.LastIdeal.Block

end
-- ==== Proof.PromptBlock.lean ====
module

public import proofs.«01_k».proof.Proof.Gen.PromptIdeal.Value
public import proofs.«01_k».proof.Proof.LastBlock

/-! # What one grid point of the prompt batch's last output projection writes

The function is the sample batch's: a point has the same blocks. -/

@[expose] public section

set_option maxRecDepth 16384

noncomputable section

namespace Cert.PromptIdeal.Block

open Cert.PromptIdeal Cert.PromptIdeal.Gen Idealize.ShloMosaic Idealize.ShloMosaic.TcCoe Idealize.SL.Sem
open Idealize.ShloMosaic.Tactic Idealize.ShloMosaic.ValueIdx
open Cert.OutprojIdeal.Block (slab_read slice_piece)
open Cert.LastIdeal.Block (G gained_piece)

variable (x0 : Vec Ideal S512x2048 .f32) (x1 : Vec Ideal S512x1024 .bf16) (x2 : Vec Ideal S512x512 .bf16) (x3 : Vec Ideal S256x1024 .bf16) (x4 : Vec Ideal S256x1024 .bf16) (x5 : Vec Ideal S512x512 .bf16) (x6 : Vec Ideal S512x512 .bf16) (x7 : Vec Ideal S1x512 .f32) (x8 : Vec Ideal S2048x2048 .bf16) (x9 : Vec Ideal S1x2048 .f32)

variable (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S2048x2048 .bf16) (harg9 : arg9.IsWhole) (arg10 : Memref sig .tc .vmem S1x2048 .f32) (harg10 : arg10.IsWhole) (arg11 : Memref sig .tc .vmem S512x2048 .f32) (harg11 : arg11.IsWhole) (arg12 : Memref sig .tc .vmem S4x256x128 .f32) (harg12 : arg12.IsWhole)

/-- The block of the result that the body leaves. -/
theorem out10_eq : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
    = G x0 x1 x2 x3 x4 x5 x6 x7 x8 x9 := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  refine View.canon_apply_of_pieces (G x0 x1 x2 x3 x4 x5 x6 x7 x8 x9) _ ?_ y (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, List.forall_mem_cons]
  refine ⟨gained_piece x0 x1 x2 x3 x4 x5 x6 x7 x8 x9 256 (by omega) _ _ _ (slice_piece x0 x1 x2 x3 x4 x5 x6 x7 x8 256 (by omega) _ _ _ _ _ _ _ _ _ _ _ _ _ _ _ ?_ ?_ ?_ ?_ ?_ ?_ ?_ ?_),
    gained_piece x0 x1 x2 x3 x4 x5 x6 x7 x8 x9 0 (by omega) _ _ _ (slice_piece x0 x1 x2 x3 x4 x5 x6 x7 x8 0 (by omega) _ _ _ _ _ _ _ _ _ _ _ _ _ _ _ ?_ ?_ ?_ ?_ ?_ ?_ ?_ ?_), fun _ h => absurd h List.not_mem_nil⟩
  · exact slab_read arg12 x3 256 (by omega) 128 (by omega) (by omega) _ 0 (by omega) _
  · exact slab_read arg12 x3 256 (by omega) 128 (by omega) (by omega) _ 1 (by omega) _
  · exact slab_read arg12 x3 256 (by omega) 128 (by omega) (by omega) _ 2 (by omega) _
  · exact slab_read arg12 x3 256 (by omega) 128 (by omega) (by omega) _ 3 (by omega) _
  · exact slab_read arg12 x4 256 (by omega) 128 (by omega) (by omega) _ 0 (by omega) _
  · exact slab_read arg12 x4 256 (by omega) 128 (by omega) (by omega) _ 1 (by omega) _
  · exact slab_read arg12 x4 256 (by omega) 128 (by omega) (by omega) _ 2 (by omega) _
  · exact slab_read arg12 x4 256 (by omega) 128 (by omega) (by omega) _ 3 (by omega) _
  · exact slab_read arg12 x3 0 (by omega) 0 (by omega) (by omega) _ 0 (by omega) _
  · exact slab_read arg12 x3 0 (by omega) 0 (by omega) (by omega) _ 1 (by omega) _
  · exact slab_read arg12 x3 0 (by omega) 0 (by omega) (by omega) _ 2 (by omega) _
  · exact slab_read arg12 x3 0 (by omega) 0 (by omega) (by omega) _ 3 (by omega) _
  · exact slab_read arg12 x4 0 (by omega) 0 (by omega) (by omega) _ 0 (by omega) _
  · exact slab_read arg12 x4 0 (by omega) 0 (by omega) (by omega) _ 1 (by omega) _
  · exact slab_read arg12 x4 0 (by omega) 0 (by omega) (by omega) _ 2 (by omega) _
  · exact slab_read arg12 x4 0 (by omega) 0 (by omega) (by omega) _ 3 (by omega) _

end Cert.PromptIdeal.Block

end
-- ==== Proof.PromptRef.lean ====
module

public import proofs.«01_k».proof.Proof.OutprojRows
public import proofs.«01_k».proof.Proof.Gen.PromptRefIdeal.Read

/-! # What the prompt batch's plain last output projection computes at an index -/

@[expose] public section

noncomputable section

namespace Cert.PromptRefIdeal.Plain

open Cert.PromptRefIdeal Cert.PromptRefIdeal.Read Idealize.ShloMosaic Idealize.ShloMosaic.ValueIdx

variable (x0 : (⟨S16384x2048, .f32⟩ : BufTy).Contents (Elt Ideal)) (x1 : (⟨S16384x1024, .f32⟩ : BufTy).Contents (Elt Ideal))
  (x2 x3 x4 x5 : (⟨S16384x512, .f32⟩ : BufTy).Contents (Elt Ideal)) (x6 : (⟨S16384x6016, .f32⟩ : BufTy).Contents (Elt Ideal))
  (x7 : (⟨S512, .f32⟩ : BufTy).Contents (Elt Ideal)) (x8 : (⟨S2048x2048, .f32⟩ : BufTy).Contents (Elt Ideal))
  (x9 : (⟨S2048, .f32⟩ : BufTy).Contents (Elt Ideal))

theorem v7_eq (r : Fin 16384) (k : Fin 512) : val_main_v7 (F := Ideal) x3 x4 x5 x6 x7 (ix2 r k) = OutRow.gatedRow x3 x4 x5 x6 x7 r k := by
  rw [val_main_v7_apply, val_main_v4_apply, val_main_v3_apply, val_main_v2_apply, val_main_v1_apply, val_main_v0_apply,
    val_main_v6_apply, val_main_call0_v5_apply, val_main_call0_v4_apply, val_main_call0_v3_apply, val_main_call0_v2_apply,
    val_main_call0_v1_apply, val_main_call0_v0_apply, val_main_v5_apply]
  have h1 : idx_main_v0 (idx_main_v1 (ix2 r k)) = ix1 k := by
    funext a; match a with
    | ⟨0, _⟩ => rfl
  have h2 : idx_main_v5 (ix2 r k) = ix2 r ⟨5120 + k.val, by omega⟩ := by
    funext a; match a with
    | ⟨0, _⟩ => rfl
    | ⟨1, _⟩ => rfl
  rw [h1, h2]
  rfl

theorem v17_eq (r : Fin 16384) (k : Fin 512) :
    val_main_v17 (F := Ideal) x3 x4 x5 x6 x7 (ix2 r k) = OutRow.unit (OutRow.gatedRow x3 x4 x5 x6 x7 r) k := by
  rw [val_main_v17_apply, val_main_v16_apply, val_main_v15_apply, val_main_v14_apply, val_main_v12_apply, val_main_v10_apply,
    val_main_v11_apply, val_main_v13_apply, v7_eq, val_main_v9_apply]
  have h : ∀ j, idx_main_v9 (idx_main_v10 (idx_main_v16 (ix2 r k))) j = ix2 r j := fun j => by
    funext a; match a with
    | ⟨0, _⟩ => rfl
    | ⟨1, _⟩ => rfl
  refine congrArg (fun s : EReal => OutRow.gatedRow x3 x4 x5 x6 x7 r k * Ideal.rsqrt (Ideal.div s (Ideal.ofBits .f32 0x44000000#32)
    + Ideal.ofBits .f32 0x358637BD#32)) ?_
  refine (congrArg (fun s : EReal => s + _) Ideal.ofBits_zero_f32).trans ((zero_add _).trans (Finset.sum_congr rfl fun j _ => ?_))
  rw [h, val_main_v8_apply, v7_eq]; rfl

theorem v20_eq : val_main_v20 (F := Ideal) x0 x1 x2 x3 x4 x5 x6 x7 x8 = OutRow.res x0 x1 x2 x3 x4 x5 x6 x7 x8 := by
  funext i
  obtain ⟨r, n, rfl⟩ : ∃ (r : Fin 16384) (n : Fin 2048), i = ix2 r n := ⟨i 0, i 1, eq_ix2 i⟩
  rw [val_main_v20_apply, val_main_v19_apply]
  have hl : ∀ k, lidx_main_v19 (ix2 r n) k = ix2 r k := fun k => by
    funext a; match a with
    | ⟨0, _⟩ => rfl
    | ⟨1, _⟩ => rfl
  have hr : ∀ k, ridx_main_v19 (ix2 r n) k = ix2 k n := fun k => by
    funext a; match a with
    | ⟨0, _⟩ => rfl
    | ⟨1, _⟩ => rfl
  simp only [hl, hr]
  exact OutRow.joined_res x0 x3 x4 x5 x6 x7 x8 x1 x2 (val_main_v17 (F := Ideal) x3 x4 x5 x6 x7) _ r n (v17_eq x3 x4 x5 x6 x7 r)

theorem v33_eq : val_main_v33 (F := Ideal) x0 x1 x2 x3 x4 x5 x6 x7 x8 x9 = OutRow.last x0 x1 x2 x3 x4 x5 x6 x7 x8 x9 := by
  funext i
  obtain ⟨r, n, rfl⟩ : ∃ (r : Fin 16384) (n : Fin 2048), i = ix2 r n := ⟨i 0, i 1, eq_ix2 i⟩
  rw [val_main_v33_apply, val_main_v30_apply, val_main_v29_apply, val_main_v28_apply, val_main_v27_apply, val_main_v25_apply,
    val_main_v23_apply, val_main_v24_apply, val_main_v26_apply, val_main_v22_apply, val_main_v32_apply, val_main_v31_apply, v20_eq]
  have hg : idx_main_v31 (idx_main_v32 (ix2 r n)) = ix1 n := by
    funext a; match a with
    | ⟨0, _⟩ => rfl
  have h : ∀ j, idx_main_v22 (idx_main_v23 (idx_main_v29 (ix2 r n))) j = ix2 r j := fun j => by
    funext a; match a with
    | ⟨0, _⟩ => rfl
    | ⟨1, _⟩ => rfl
  rw [hg]
  refine congrArg (fun s : EReal => s * x9 (ix1 n)) (congrArg (fun s : EReal => OutRow.res x0 x1 x2 x3 x4 x5 x6 x7 x8 (ix2 r n)
    * Ideal.rsqrt (Ideal.div s (Ideal.ofBits .f32 0x45000000#32) + Ideal.ofBits .f32 0x358637BD#32)) ?_)
  refine (congrArg (fun s : EReal => s + _) Ideal.ofBits_zero_f32).trans ((zero_add _).trans (Finset.sum_congr rfl fun j _ => ?_))
  rw [h, val_main_v21_apply, v20_eq]; rfl

end Cert.PromptRefIdeal.Plain

end
-- ==== Proof.PromptArray.lean ====
module

public import proofs.«01_k».proof.Proof.PromptBlock
public import proofs.«01_k».proof.Proof.PromptRef
public import proofs.«01_k».proof.Proof.OutprojArray
public import Idealize.ShloMosaic.Lib.Pipeline.ValueKit

/-! # What the prompt batch's last output projection's array holds after the run

The grid has half the sample batch's points; a point's blocks are the same. -/

@[expose] public section

noncomputable section

namespace Cert.PromptIdeal.Block

open Cert.PromptIdeal Cert.PromptIdeal.Gen Cert.PromptIdeal.Value Idealize.ShloMosaic.TcCoe Idealize.SL.Sem
open Cert.OutprojIdeal.Block (token)
open Cert.LastIdeal.Block (G)
open Idealize.ShloMosaic hiding ix1 ix2 eq_ix2
open Idealize.ShloMosaic.Tactic Idealize.ShloMosaic.ValueIdx Idealize.ShloMosaic.StableHlo

variable (m : (ℓ : Loc nD τ sig) → Buf (Elt Ideal) ℓ)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 10] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val, 0] := (by decide +kernel : ∀ t : Fin grid0.N, _)

/-! ## The arrays as the call gets them: a cast to the narrow type changes nothing at `Ideal` -/

theorem v0_entry (c : Dev nD) (i : S16384x1024.Idx) : V m c main_v0 i = m ((c : Thread nD τ).loc main_arg1) i := by
  have h : V m c main_v0 = (truncf .bf16 (m ((c : Thread nD τ).loc main_arg1) : FVec Ideal S16384x1024 .f32) bitsLt_bf16_f32 : FVec Ideal S16384x1024 .bf16) := by
    unfold_abbrev_sides
    after_results
  rw [h]; rfl

theorem v1_entry (c : Dev nD) (i : S16384x512.Idx) : V m c main_v1 i = m ((c : Thread nD τ).loc main_arg2) i := by
  have h : V m c main_v1 = (truncf .bf16 (m ((c : Thread nD τ).loc main_arg2) : FVec Ideal S16384x512 .f32) bitsLt_bf16_f32 : FVec Ideal S16384x512 .bf16) := by
    unfold_abbrev_sides
    after_results
  rw [h]; rfl

theorem v4_entry (c : Dev nD) (i : S16384x512.Idx) : V m c main_v4 i = m ((c : Thread nD τ).loc main_arg5) i := by
  have h : V m c main_v4 = (truncf .bf16 (m ((c : Thread nD τ).loc main_arg5) : FVec Ideal S16384x512 .f32) bitsLt_bf16_f32 : FVec Ideal S16384x512 .bf16) := by
    unfold_abbrev_sides
    after_results
  rw [h]; rfl

theorem v5_entry (c : Dev nD) (i : S16384x6016.Idx) : V m c main_v5 i = m ((c : Thread nD τ).loc main_arg6) i := by
  have h : V m c main_v5 = (truncf .bf16 (m ((c : Thread nD τ).loc main_arg6) : FVec Ideal S16384x6016 .f32) bitsLt_bf16_f32 : FVec Ideal S16384x6016 .bf16) := by
    unfold_abbrev_sides
    after_results
  rw [h]; rfl

theorem v6_entry (c : Dev nD) (i : S2048x2048.Idx) : V m c main_v6 i = m ((c : Thread nD τ).loc main_arg8) i := by
  have h : V m c main_v6 = (truncf .bf16 (m ((c : Thread nD τ).loc main_arg8) : FVec Ideal S2048x2048 .f32) bitsLt_bf16_f32 : FVec Ideal S2048x2048 .bf16) := by
    unfold_abbrev_sides
    after_results
  rw [h]; rfl

theorem v7_entry (c : Dev nD) (R : Fin 16384) (k : Fin 512) (P : Fin 8192) (q : Fin 1024)
    (hP : P.val = R.val / 2) (hq : q.val = R.val % 2 * 512 + k.val) :
    V m c main_v7 (ix2 P q) = m ((c : Thread nD τ).loc main_arg3) (ix2 R k) := by
  have h : V m c main_v7 = shapeCast S8192x1024 (truncf .bf16 (m ((c : Thread nD τ).loc main_arg3) : FVec Ideal S16384x512 .f32) bitsLt_bf16_f32 : FVec Ideal S16384x512 .bf16)
      shapeCasts_S16384x512_S8192x1024 := by
    unfold_abbrev_sides
    after_results
    rfl
  rw [h]
  exact OutRow.pair_entry (T := 16384) (P := 8192) (by omega) _ _ R k P q hP hq

theorem v8_entry (c : Dev nD) (R : Fin 16384) (k : Fin 512) (P : Fin 8192) (q : Fin 1024)
    (hP : P.val = R.val / 2) (hq : q.val = R.val % 2 * 512 + k.val) :
    V m c main_v8 (ix2 P q) = m ((c : Thread nD τ).loc main_arg4) (ix2 R k) := by
  have h : V m c main_v8 = shapeCast S8192x1024 (truncf .bf16 (m ((c : Thread nD τ).loc main_arg4) : FVec Ideal S16384x512 .f32) bitsLt_bf16_f32 : FVec Ideal S16384x512 .bf16)
      shapeCasts_S16384x512_S8192x1024 := by
    unfold_abbrev_sides
    after_results
    rfl
  rw [h]
  exact OutRow.pair_entry (T := 16384) (P := 8192) (by omega) _ _ R k P q hP hq

/-- The direct term's factors as the call gets them: a row. -/
theorem v9_entry (c : Dev nD) (k : Fin 512) :
    V m c main_v9 (ix2 0 k) = m ((c : Thread nD τ).loc main_arg7) (ix1 k) := by
  have h : V m c main_v9 = broadcastInDim S1x512 ![1] bcast_S512_S1x512_1 (m ((c : Thread nD τ).loc main_arg7)) := by
    unfold_abbrev_sides
    after_results
  rw [h]
  exact broadcastInDim_apply _ bcast_S512_S1x512_1 _ _ (ix1 k) (fun a => match a with
    | ⟨0, _⟩ => by show k.val = if (512 : Nat) = 1 then 0 else k.val; rw [if_neg (by decide)])

/-- The gain as the call gets it: a row. -/
theorem v10_entry (c : Dev nD) (k : Fin 2048) :
    V m c main_v10 (ix2 0 k) = m ((c : Thread nD τ).loc main_arg9) (ix1 k) := by
  have h : V m c main_v10 = broadcastInDim S1x2048 ![1] bcast_S2048_S1x2048_1 (m ((c : Thread nD τ).loc main_arg9)) := by
    unfold_abbrev_sides
    after_results
  rw [h]
  exact broadcastInDim_apply _ bcast_S2048_S1x2048_1 _ _ (ix1 k) (fun a => match a with
    | ⟨0, _⟩ => by show k.val = if (2048 : Nat) = 1 then 0 else k.val; rw [if_neg (by decide)])

/-! ## A point's blocks -/

theorem iblk0_apply (c : Dev nD) (t : Fin cfg0.N) (r : Fin 512) (k : Fin 2048) (R : Fin 16384) (hR : R.val = 512 * t.val + r.val) :
    iblk m c 0 t (ix2 r k) = m ((c : Thread nD τ).loc main_arg0) (ix2 R k) := by
  blk_simp [iblk]
  rw [V_main_arg0]
  congr 1
  funext a; apply Fin.ext; fin_cases a
  · blk_simp [index0]; show t.val * 512 + r.val = R.val; omega
  · blk_simp [index0]

theorem iblk1_apply (c : Dev nD) (t : Fin cfg0.N) (r : Fin 512) (k : Fin 1024) (R : Fin 16384) (hR : R.val = 512 * t.val + r.val) :
    iblk m c 1 t (ix2 r k) = m ((c : Thread nD τ).loc main_arg1) (ix2 R k) := by
  blk_simp [iblk]
  refine Eq.trans ?_ (v0_entry m c (ix2 R k))
  congr 1
  funext a; apply Fin.ext; fin_cases a
  · blk_simp [index1]; show t.val * 512 + r.val = R.val; omega
  · blk_simp [index1]

theorem iblk2_apply (c : Dev nD) (t : Fin cfg0.N) (r : Fin 512) (k : Fin 512) (R : Fin 16384) (hR : R.val = 512 * t.val + r.val) :
    iblk m c 2 t (ix2 r k) = m ((c : Thread nD τ).loc main_arg2) (ix2 R k) := by
  blk_simp [iblk]
  refine Eq.trans ?_ (v1_entry m c (ix2 R k))
  congr 1
  funext a; apply Fin.ext; fin_cases a
  · blk_simp [index2]; show t.val * 512 + r.val = R.val; omega
  · blk_simp [index2]

theorem iblk5_apply (c : Dev nD) (t : Fin cfg0.N) (r : Fin 512) (k : Fin 512) (R : Fin 16384) (hR : R.val = 512 * t.val + r.val) :
    iblk m c 5 t (ix2 r k) = m ((c : Thread nD τ).loc main_arg5) (ix2 R k) := by
  blk_simp [iblk]
  refine Eq.trans ?_ (v4_entry m c (ix2 R k))
  congr 1
  funext a; apply Fin.ext; fin_cases a
  · blk_simp [index5]; show t.val * 512 + r.val = R.val; omega
  · blk_simp [index5]

theorem iblk3_apply (c : Dev nD) (t : Fin cfg0.N) (r : Fin 512) (k : Fin 512) (R : Fin 16384) (hR : R.val = 512 * t.val + r.val) :
    token (iblk m c 3 t) r k = m ((c : Thread nD τ).loc main_arg3) (ix2 R k) := by
  unfold token
  blk_simp [iblk]
  refine Eq.trans ?_ (v7_entry m c R k ⟨R.val / 2, by omega⟩ ⟨R.val % 2 * 512 + k.val, by omega⟩ rfl rfl)
  congr 1
  funext a; apply Fin.ext; fin_cases a
  · blk_simp [index3]; show t.val * 256 + r.val / 2 = R.val / 2; omega
  · blk_simp [index3]; show r.val % 2 * 512 + k.val = R.val % 2 * 512 + k.val; omega

theorem iblk4_apply (c : Dev nD) (t : Fin cfg0.N) (r : Fin 512) (k : Fin 512) (R : Fin 16384) (hR : R.val = 512 * t.val + r.val) :
    token (iblk m c 4 t) r k = m ((c : Thread nD τ).loc main_arg4) (ix2 R k) := by
  unfold token
  blk_simp [iblk]
  refine Eq.trans ?_ (v8_entry m c R k ⟨R.val / 2, by omega⟩ ⟨R.val % 2 * 512 + k.val, by omega⟩ rfl rfl)
  congr 1
  funext a; apply Fin.ext; fin_cases a
  · blk_simp [index4]; show t.val * 256 + r.val / 2 = R.val / 2; omega
  · blk_simp [index4]; show r.val % 2 * 512 + k.val = R.val % 2 * 512 + k.val; omega

theorem X6_apply (c : Dev nD) (t : Fin cfg0.N) (r : Fin 512) (k : Fin 512) (R : Fin 16384) (hR : R.val = 512 * t.val + r.val) :
    X0_6 m c t (ix2 r k) = m ((c : Thread nD τ).loc main_arg6) (ix2 R ⟨5120 + k.val, by omega⟩) := by
  unfold X0_6 Pipeline.Window.fill
  rw [dif_pos (moved0_6 t _)]
  blk_simp [iblk]
  refine Eq.trans ?_ (v5_entry m c (ix2 R ⟨5120 + k.val, by omega⟩))
  congr 1
  funext a; apply Fin.ext; fin_cases a
  · blk_simp [index6]; show t.val * 512 + r.val = R.val; omega
  · blk_simp [index6]

theorem iblk7_apply (c : Dev nD) (t : Fin cfg0.N) (k : Fin 512) :
    iblk m c 7 t (ix2 0 k) = m ((c : Thread nD τ).loc main_arg7) (ix1 k) := by
  blk_simp [iblk]
  refine Eq.trans ?_ (v9_entry m c k)
  congr 1
  funext a; apply Fin.ext; fin_cases a
  · blk_simp [index7]
  · blk_simp [index7]

theorem iblk8_apply (c : Dev nD) (t : Fin cfg0.N) (k : Fin 2048) (n : Fin 2048) :
    iblk m c 8 t (ix2 k n) = m ((c : Thread nD τ).loc main_arg8) (ix2 k n) := by
  blk_simp [iblk]
  refine Eq.trans ?_ (v6_entry m c (ix2 k n))
  congr 1
  funext a; apply Fin.ext; fin_cases a
  · blk_simp [index8]
  · blk_simp [index8]

theorem iblk9_apply (c : Dev nD) (t : Fin cfg0.N) (k : Fin 2048) :
    iblk m c 9 t (ix2 0 k) = m ((c : Thread nD τ).loc main_arg9) (ix1 k) := by
  blk_simp [iblk]
  refine Eq.trans ?_ (v10_entry m c k)
  congr 1
  funext a; apply Fin.ext; fin_cases a
  · blk_simp [index9]
  · blk_simp [index9]

/-- The plain result of the launched arrays. -/
abbrev plain (c : Dev nD) : Cert.PromptRefIdeal.S16384x2048.Idx → EReal :=
  OutRow.last (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- The block's function of the point's blocks is the whole arrays' function at the point's rows. -/
theorem G_eq (c : Dev nD) (t : Fin cfg0.N) (r : Fin 512) (n : Fin 2048) (R : Fin 16384) (hR : R.val = 512 * t.val + r.val) :
    G (iblk m c 0 t) (iblk m c 1 t) (iblk m c 2 t) (iblk m c 3 t) (iblk m c 4 t) (iblk m c 5 t) (X0_6 m c t) (iblk m c 7 t) (iblk m c 8 t) (iblk m c 9 t) (ix2 r n)
      = plain m c (ix2 R n) := by
  unfold G plain OutRow.last
  refine congrArg₂ (· * · : EReal → EReal → EReal) (congrArg (OutRow.normed · n) (funext fun j => ?_)) (iblk9_apply m c t n)
  exact Cert.OutprojIdeal.Block.G_rows _ _ _ _ _ _ _ _ _ _ _ _ _ _ _ _ _ _ r j R (iblk0_apply m c t r j R hR) (fun k => iblk1_apply m c t r k R hR) (fun k => iblk2_apply m c t r k R hR)
    (fun k => iblk3_apply m c t r k R hR) (fun k => iblk4_apply m c t r k R hR) (fun k => iblk5_apply m c t r k R hR) (fun k => X6_apply m c t r k R hR)
    (iblk7_apply m c t) (fun k => iblk8_apply m c t k j)

theorem row_lt (t : Fin cfg0.N) (r : Fin 512) : 512 * t.val + r.val < 16384 := by
  have : t.val < 32 := t.isLt
  omega

/-- The result: every row's. -/
theorem final10 (c : Dev nD) : (dats m 0 c).arrAt 10 cfg0.N = plain m c := by
  refine (dats m 0 c).arrAt_eq_of_covers 10 _ (by decide +kernel) fun t hf y => ?_
  blk_simp
  rw [after0_10]
  simp only [outsAt0]
  rw [out10_eq]
  refine (congrArg (G _ _ _ _ _ _ _ _ _ _) (eq_ix2 y)).trans ((G_eq m c t (y 0) (y 1) ⟨_, row_lt t (y 0)⟩ rfl).trans ?_)
  refine congrArg _ ?_
  funext a; apply Fin.ext; fin_cases a
  · blk_simp [index10]; show 512 * t.val + (y 0).val = t.val * 512 + (y 0).val; omega
  · blk_simp [index10]; rfl

end Cert.PromptIdeal.Block

end
-- ==== Proof.PromptClaim.lean ====
module

public import proofs.«01_k».proof.Defs
public import proofs.«01_k».proof.Proof.PromptArray
public import proofs.«01_k».proof.Proof.Gen.PromptRefIdeal.Run

/-! # The prompt batch's last output projection's value claim -/

@[expose] public section

noncomputable section

namespace Cert.PromptIdeal.Block

open Idealize.ShloMosaic Idealize.SL.Sem

theorem algebraic : Cert.algebraic_PromptIdeal_PromptRefIdeal (hPromptIdeal := Cert.PromptIdeal.Gen.facts)
    (hPromptRefIdeal := Cert.PromptRefIdeal.Gen.facts) := by
  intro m g m' g' _ hagree
  refine ⟨fun c => plain m c, ?_, ?_⟩
  · refine (θ_run Cert.PromptIdeal.defs _ _).mono (fun r h c => ?_) (Cert.PromptIdeal.Value.run_blocks m g)
    obtain ⟨h0, h1⟩ := h c
    exact ⟨h0.trans (final10 m c), h1⟩
  · refine (θ_run Cert.PromptRefIdeal.defs _ _).mono (fun r h c => ?_) (Cert.PromptRefIdeal.Value.run m' g')
    obtain ⟨h0, h1⟩ := h c
    obtain ⟨a0, a1, a2, a3, a4, a5, a6, a7, a8, a9⟩ := hagree c
    refine ⟨(h0.trans (Cert.PromptRefIdeal.Read.val_main_v33_eq m' c)).trans ?_, h1⟩
    rw [Cert.PromptRefIdeal.Plain.v33_eq, a0, a1, a2, a3, a4, a5, a6, a7, a8, a9]

end Cert.PromptIdeal.Block

end
-- ==== Proof.ShortconvBody.lean ====
module

public import proofs.«01_k».proof.Proof.Gen.ShortconvIdeal.Frame
public import proofs.«01_k».proof.Proof.Layout
public import Idealize.ShloMosaic.Lib.IdealHost
public import Idealize.ShloMosaic.Lib.Pipeline.CanonAppend

/-! # The short convolution's arithmetic

A product with a matrix of zeros and ones moves the rows of a window by one, both ways; the three rows a token reads
are weighted and added. -/

@[expose] public section

set_option maxRecDepth 16384

noncomputable section

namespace Cert.ShortconvIdeal.Block

open Cert.ShortconvIdeal Cert.ShortconvIdeal.Gen Idealize.ShloMosaic Idealize.ShloMosaic.TcCoe Idealize.SL.Sem
open Idealize.ShloMosaic.Tactic Idealize.ShloMosaic.ValueIdx

/-! ## The moved rows -/

/-- One where the column is the row plus 16 plus `d`. -/
def tap (d : BitVec 32) : FVec Ideal S128x160 .bf16 :=
  truncf .bf16 (sitofp .f32 (extui 32 (cmpi .eq (iota .tc S128x160 32 [1] iota_S128x160_d1_w32)
    (addi (addi (iota .tc S128x160 32 [0] iota_S128x160_d0_w32) (broadcast S128x160 16#32)) (broadcast S128x160 d))) natLt_1_32)) bitsLt_bf16_f32

/-- The two matrices, one above the other. -/
def shifts : FVec Ideal S256x160 .bf16 :=
  concatenate S256x160 0 [⟨S128x160, tap 4294967295#32⟩, ⟨S128x160, tap 1#32⟩] concatenates_S128x160_S128x160_S256x160_d0

theorem mark_back : ∀ (r : Fin 128) (k : Fin 160), (Scalar.extui (Scalar.cmpi .eq (BitVec.ofNat 32 k.val)
    (Scalar.addi (Scalar.addi (BitVec.ofNat 32 r.val) 16#32) 4294967295#32))).toInt = if k.val = 15 + r.val then 1 else 0 := by decide +kernel

theorem mark_on : ∀ (r : Fin 128) (k : Fin 160), (Scalar.extui (Scalar.cmpi .eq (BitVec.ofNat 32 k.val)
    (Scalar.addi (Scalar.addi (BitVec.ofNat 32 r.val) 16#32) 1#32))).toInt = if k.val = 17 + r.val then 1 else 0 := by decide +kernel

theorem tap_apply (d : BitVec 32) (r : Fin 128) (k : Fin 160) :
    tap d (ix2 r k) = ((((Scalar.extui (Scalar.cmpi .eq (BitVec.ofNat 32 k.val)
      (Scalar.addi (Scalar.addi (BitVec.ofNat 32 r.val) 16#32) d))).toInt : ℝ)) : EReal) := by
  show ((((Scalar.extui (Scalar.cmpi .eq (iota .tc S128x160 32 [1] iota_S128x160_d1_w32 (ix2 r k))
      (Scalar.addi (Scalar.addi (iota .tc S128x160 32 [0] iota_S128x160_d0_w32 (ix2 r k)) 16#32) d))).toInt : ℝ)) : EReal) = _
  rw [iota_single_apply, iota_single_apply]

/-- A row of zeros and a one against a column picks the entry. -/
theorem pick {K : Nat} (f g : Fin K → EReal) (k : Fin K) (h : ∀ j, f j = ((((if j.val = k.val then 1 else 0 : Int) : ℝ)) : EReal)) :
    ∑ j : Fin K, f j * g j = g k := by
  rw [Finset.sum_eq_single k]
  · rw [h, if_pos rfl]; simp
  · intro j _ hj
    rw [h, if_neg (fun e => hj (Fin.ext e))]; simp
  · intro hk; exact absurd (Finset.mem_univ k) hk

theorem shifts_back (r : Fin 128) (k : Fin 160) : shifts (ix2 ⟨r.val, by omega⟩ k) = ((((if k.val = 15 + r.val then 1 else 0 : Int) : ℝ)) : EReal) := by
  refine Eq.trans ?_ ((tap_apply 4294967295#32 r k).trans (congrArg (fun z : Int => (((z : ℝ)) : EReal)) (mark_back r k)))
  unfold shifts
  exact concatenate_apply_piece 0 _ _ (ix2 (⟨r.val, by omega⟩ : Fin 256) k) 0 (by simp) S128x160 _ rfl rfl 0 rfl (ix2 r k)
    (fun b hb => by match b with | ⟨0, _⟩ => exact absurd rfl hb | ⟨1, _⟩ => rfl) (Nat.zero_add _)

theorem shifts_on (r : Fin 128) (k : Fin 160) : shifts (ix2 ⟨128 + r.val, by omega⟩ k) = ((((if k.val = 17 + r.val then 1 else 0 : Int) : ℝ)) : EReal) := by
  refine Eq.trans ?_ ((tap_apply 1#32 r k).trans (congrArg (fun z : Int => (((z : ℝ)) : EReal)) (mark_on r k)))
  unfold shifts
  exact concatenate_apply_piece 0 _ _ (ix2 (⟨128 + r.val, by omega⟩ : Fin 256) k) 1 (by simp) S128x160 _ rfl rfl 128 rfl (ix2 r k)
    (fun b hb => by match b with | ⟨0, _⟩ => exact absurd rfl hb | ⟨1, _⟩ => rfl) rfl

/-! ## A block of 128 tokens, and the eight blocks of a point -/

/-- A block's convolution: `w1` weighs the token, `w0` the one before, `w2` the one after. -/
def blk (W : Vec Ideal S160x512 .bf16) (w1 w0 w2 b : Vec Ideal S1x512 .f32) : FVec Ideal S128x512 .f32 := k0_pay13 shifts W w1 w0 w2 b

theorem blk_apply (W : Vec Ideal S160x512 .bf16) (w1 w0 w2 b : Vec Ideal S1x512 .f32) (r : Fin 128) (n : Fin 512) :
    blk W w1 w0 w2 b (ix2 r n) = W (ix2 ⟨16 + r.val, by omega⟩ n) * w1 (ix2 0 n) + W (ix2 ⟨15 + r.val, by omega⟩ n) * w0 (ix2 0 n)
      + W (ix2 ⟨17 + r.val, by omega⟩ n) * w2 (ix2 0 n) + b (ix2 0 n) := by
  unfold blk k0_pay13
  simp only [shapeCast_self]
  refine congrArg₂ (· + · : EReal → EReal → EReal) (congrArg₂ (· + · : EReal → EReal → EReal) (congrArg₂ (· + · : EReal → EReal → EReal)
    (congrArg₂ (· * · : EReal → EReal → EReal) ?_ (Layout.spread_row _ _ _)) (congrArg₂ (· * · : EReal → EReal → EReal) ?_ (Layout.spread_row _ _ _)))
    (congrArg₂ (· * · : EReal → EReal → EReal) ?_ (Layout.spread_row _ _ _))) (Layout.spread_row _ _ _)
  · exact extractStridedSlice_apply ![16, 0] W slices_S160x512_o16_0_S128x512 (ix2 r n) (ix2 ⟨16 + r.val, by omega⟩ n) fun a => by
      match a with | ⟨0, _⟩ => rfl | ⟨1, _⟩ => exact (Nat.zero_add _).symm
  · refine (extractStridedSlice_apply ![0, 0] _ slices_S256x512_o0_0_S128x512 (ix2 r n) (ix2 ⟨r.val, Nat.lt_trans r.isLt (by decide)⟩ n) fun a => by
      match a with | ⟨0, _⟩ => exact (Nat.zero_add _).symm | ⟨1, _⟩ => exact (Nat.zero_add _).symm).trans ?_
    refine (Layout.product none shifts W ⟨r.val, by omega⟩ n).trans ?_
    exact pick _ (fun k => W (ix2 k n)) ⟨15 + r.val, by omega⟩ fun k => shifts_back r k
  · refine (extractStridedSlice_apply ![128, 0] _ slices_S256x512_o128_0_S128x512 (ix2 r n) (ix2 ⟨128 + r.val, by omega⟩ n) fun a => by
      match a with | ⟨0, _⟩ => rfl | ⟨1, _⟩ => exact (Nat.zero_add _).symm).trans ?_
    refine (Layout.product none shifts W ⟨128 + r.val, by omega⟩ n).trans ?_
    exact pick _ (fun k => W (ix2 k n)) ⟨17 + r.val, by omega⟩ fun k => shifts_on r k

/-- Eight blocks, one below the other. -/
def column (W0 W1 W2 W3 W4 W5 W6 W7 : Vec Ideal S160x512 .bf16) (w1 w0 w2 b : Vec Ideal S1x512 .f32) : FVec Ideal S1024x512 .f32 :=
  concatenate S1024x512 0 [⟨S128x512, blk W0 w1 w0 w2 b⟩, ⟨S128x512, blk W1 w1 w0 w2 b⟩, ⟨S128x512, blk W2 w1 w0 w2 b⟩, ⟨S128x512, blk W3 w1 w0 w2 b⟩,
    ⟨S128x512, blk W4 w1 w0 w2 b⟩, ⟨S128x512, blk W5 w1 w0 w2 b⟩, ⟨S128x512, blk W6 w1 w0 w2 b⟩, ⟨S128x512, blk W7 w1 w0 w2 b⟩]
    concatenates_S128x512_S128x512_S128x512_S128x512_S128x512_S128x512_S128x512_S128x512_S1024x512_d0

theorem column_apply (W : Fin 8 → Vec Ideal S160x512 .bf16) (w1 w0 w2 b : Vec Ideal S1x512 .f32) (j : Fin 8) (r : Fin 128) (n : Fin 512) (R : Fin 1024)
    (hR : 128 * j.val + r.val = R.val) :
    column (W 0) (W 1) (W 2) (W 3) (W 4) (W 5) (W 6) (W 7) w1 w0 w2 b (ix2 R n) = blk (W j) w1 w0 w2 b (ix2 r n) := by
  have off : ∀ a : Fin 2, a ≠ 0 → ((ix2 r n : S128x512.Idx) a).val = ((ix2 R n : S1024x512.Idx) a).val := fun a ha => by
    match a with
    | ⟨0, _⟩ => exact absurd rfl ha
    | ⟨1, _⟩ => rfl
  match j with
  | 0 => exact concatenate_apply_piece 0 _ _ (ix2 R n) 0 (by simp) S128x512 _ rfl rfl 0 rfl (ix2 r n) off hR
  | 1 => exact concatenate_apply_piece 0 _ _ (ix2 R n) 1 (by simp) S128x512 _ rfl rfl 128 rfl (ix2 r n) off hR
  | 2 => exact concatenate_apply_piece 0 _ _ (ix2 R n) 2 (by simp) S128x512 _ rfl rfl 256 rfl (ix2 r n) off hR
  | 3 => exact concatenate_apply_piece 0 _ _ (ix2 R n) 3 (by simp) S128x512 _ rfl rfl 384 rfl (ix2 r n) off hR
  | 4 => exact concatenate_apply_piece 0 _ _ (ix2 R n) 4 (by simp) S128x512 _ rfl rfl 512 rfl (ix2 r n) off hR
  | 5 => exact concatenate_apply_piece 0 _ _ (ix2 R n) 5 (by simp) S128x512 _ rfl rfl 640 rfl (ix2 r n) off hR
  | 6 => exact concatenate_apply_piece 0 _ _ (ix2 R n) 6 (by simp) S128x512 _ rfl rfl 768 rfl (ix2 r n) off hR
  | 7 => exact concatenate_apply_piece 0 _ _ (ix2 R n) 7 (by simp) S128x512 _ rfl rfl 896 rfl (ix2 r n) off hR

/-! ## The padded rows -/

variable (i : grid0.Coords) (x0 : Vec Ideal S1x1024x1536 .bf16) (x1 x2 : Vec Ideal S1x16x1536 .bf16)
  (x3 : Vec Ideal S8x1536 .f32) (x4 : Vec Ideal S1x1536 .f32)

/-- The point's rows between 16 rows from before and 16 from after, which are zeros at the sequence's ends. -/
def pad (y : S1056x1536.Idx) : EReal :=
  if h : (y 0).val < 16 then (if 0 < (i 1).val then x1 (ix3 0 ⟨(y 0).val, h⟩ (y 1)) else 0)
  else if h' : (y 0).val < 1040 then x0 (ix3 0 ⟨(y 0).val - 16, by omega⟩ (y 1))
  else if (i 1).val < 3 then x2 (ix3 0 ⟨(y 0).val - 1040, by have : (y 0).val < 1056 := (y 0).isLt; omega⟩ (y 1)) else 0

theorem after_first : ∀ n : Fin 4, Scalar.cmpi .sgt (BitVec.ofNat 32 n.val) 0#32 = if 0 < n.val then 1#1 else 0#1 := by decide
theorem before_last : ∀ n : Fin 4, Scalar.cmpi .slt (BitVec.ofNat 32 n.val) 3#32 = if n.val < 3 then 1#1 else 0#1 := by decide

theorem ld_whole {s : Shape} {e : EltTy} (X : Vec Ideal s e) (off : Fin s.rank → Nat) (inb : ∀ a, off a + s.size a ≤ s.size a) (h : ∀ a, off a = 0)
    (y : s.Idx) : View.ld X (Rect.unit off s.size inb) y = X y :=
  congrArg X (funext fun a => Fin.ext (by rw [Rect.idx_unit_val, h]; exact Nat.zero_add _))

/-- The three stores of the padded rows, the last first. -/
def fills : List (View.Piece (Elt Ideal) S1056x1536 .bf16) :=
  [⟨Rect.unit ![1040, 0] ![16, 1536] inb_S1056x1536_S16x1536_1040_0,
      k0_pay4 i (View.ld x2 (Rect.unit ![0, 0, 0] ![1, 16, 1536] inb_S1x16x1536_S1x16x1536_0_0_0))⟩,
    ⟨Rect.unit ![16, 0] ![1024, 1536] inb_S1056x1536_S1024x1536_16_0,
      k0_pay3 (View.ld x0 (Rect.unit ![0, 0, 0] ![1, 1024, 1536] inb_S1x1024x1536_S1x1024x1536_0_0_0))⟩,
    ⟨Rect.unit ![0, 0] ![16, 1536] inb_S1056x1536_S16x1536_0_0,
      k0_pay2 i (View.ld x1 (Rect.unit ![0, 0, 0] ![1, 16, 1536] inb_S1x16x1536_S1x16x1536_0_0_0))⟩]

theorem start3 : ∀ a : Fin 3, (![0, 0, 0] : Fin 3 → Nat) a = 0 := by decide

theorem fill_before (x : S16x1536.Idx) :
    k0_pay2 i (View.ld x1 (Rect.unit ![0, 0, 0] ![1, 16, 1536] inb_S1x16x1536_S1x16x1536_0_0_0)) x
      = if 0 < (i 1).val then x1 (ix3 0 (x 0) (x 1)) else 0 := by
  unfold k0_pay2
  simp only [shapeCast_self]
  rw [after_first (i 1)]
  by_cases h : 0 < (i 1).val
  · rw [if_pos h, if_pos h, select_one]
    refine (shapeCast_dropUnit_apply ![16, 1536] _ _ x).trans ((ld_whole x1 _ _ start3 _).trans (congrArg x1 ?_))
    funext a; match a with
    | ⟨0, _⟩ => rfl
    | ⟨1, _⟩ => rfl
    | ⟨2, _⟩ => rfl
  · rw [if_neg h, if_neg h, select_zero]
    exact Ideal.ofBits_zero_bf16

theorem fill_after (x : S16x1536.Idx) :
    k0_pay4 i (View.ld x2 (Rect.unit ![0, 0, 0] ![1, 16, 1536] inb_S1x16x1536_S1x16x1536_0_0_0)) x
      = if (i 1).val < 3 then x2 (ix3 0 (x 0) (x 1)) else 0 := by
  unfold k0_pay4
  simp only [shapeCast_self]
  rw [before_last (i 1)]
  by_cases h : (i 1).val < 3
  · rw [if_pos h, if_pos h, select_one]
    refine (shapeCast_dropUnit_apply ![16, 1536] _ _ x).trans ((ld_whole x2 _ _ start3 _).trans (congrArg x2 ?_))
    funext a; match a with
    | ⟨0, _⟩ => rfl
    | ⟨1, _⟩ => rfl
    | ⟨2, _⟩ => rfl
  · rw [if_neg h, if_neg h, select_zero]
    exact Ideal.ofBits_zero_bf16

theorem fill_own (x : S1024x1536.Idx) :
    k0_pay3 (View.ld x0 (Rect.unit ![0, 0, 0] ![1, 1024, 1536] inb_S1x1024x1536_S1x1024x1536_0_0_0)) x = x0 (ix3 0 (x 0) (x 1)) := by
  unfold k0_pay3
  simp only [shapeCast_self]
  refine (shapeCast_dropUnit_apply ![1024, 1536] _ _ x).trans ((ld_whole x0 _ _ start3 _).trans (congrArg x0 ?_))
  funext a; match a with
  | ⟨0, _⟩ => rfl
  | ⟨1, _⟩ => rfl
  | ⟨2, _⟩ => rfl

theorem fills_piece : ∀ p ∈ fills i x0 x1 x2, ∀ x : p.1.shape.Idx, p.2 x = pad i x0 x1 x2 (p.1.emb x) := by
  have at0 : ∀ (o : Nat) {R : Nat} (inb : ∀ a, (![o, 0] : Fin 2 → Nat) a + (![R, 1536] : Fin 2 → Nat) a ≤ S1056x1536.size a)
      (x : (Rect.unit (s := S1056x1536) ![o, 0] ![R, 1536] inb).shape.Idx),
      (((Rect.unit (s := S1056x1536) ![o, 0] ![R, 1536] inb).emb x) 0).val = o + (x 0).val := fun o R inb x => Rect.idx_unit_val _ _ _ _ _
  have at1 : ∀ (o : Nat) {R : Nat} (inb : ∀ a, (![o, 0] : Fin 2 → Nat) a + (![R, 1536] : Fin 2 → Nat) a ≤ S1056x1536.size a)
      (x : (Rect.unit (s := S1056x1536) ![o, 0] ![R, 1536] inb).shape.Idx),
      ((Rect.unit (s := S1056x1536) ![o, 0] ![R, 1536] inb).emb x) 1 = x 1 := fun o R inb x => Fin.ext ((Rect.idx_unit_val _ _ _ _ _).trans (Nat.zero_add _))
  unfold fills
  simp only [List.forall_mem_cons]
  refine ⟨fun x => (fill_after i x2 x).trans ?_, fun x => (fill_own x0 x).trans ?_, fun x => (fill_before i x1 x).trans ?_, fun _ h => absurd h List.not_mem_nil⟩
  · have hx : (x 0).val < 16 := (x 0).isLt
    have e := at0 1040 inb_S1056x1536_S16x1536_1040_0 x
    unfold pad
    rw [dif_neg (by omega), dif_neg (by omega), at1]
    refine congrArg (fun r => if (i 1).val < 3 then x2 (ix3 0 r (x 1)) else 0) (Fin.ext ?_)
    show (x 0).val = _ - 1040
    omega
  · have hx : (x 0).val < 1024 := (x 0).isLt
    have e := at0 16 inb_S1056x1536_S1024x1536_16_0 x
    unfold pad
    rw [dif_neg (by omega), dif_pos (by omega), at1]
    refine congrArg (fun r => x0 (ix3 0 r (x 1))) (Fin.ext ?_)
    show (x 0).val = _ - 16
    omega
  · have hx : (x 0).val < 16 := (x 0).isLt
    have e := at0 0 inb_S1056x1536_S16x1536_0_0 x
    unfold pad
    rw [dif_pos (by omega), at1]
    refine congrArg (fun r => if 0 < (i 1).val then x1 (ix3 0 r (x 1)) else 0) (Fin.ext ?_)
    exact (e.trans (Nat.zero_add _)).symm

theorem fills_cover (y : S1056x1536.Idx) : ∃ p ∈ fills i x0 x1 x2, y ∈ p.1.set := by
  have h0 : (y 0).val < 1056 := (y 0).isLt
  have h1 : (y 1).val < 1536 := (y 1).isLt
  have mem : ∀ (o R : Nat) (inb : ∀ a, (![o, 0] : Fin 2 → Nat) a + (![R, 1536] : Fin 2 → Nat) a ≤ S1056x1536.size a),
      o ≤ (y 0).val → (y 0).val < o + R → y ∈ (Rect.unit (s := S1056x1536) ![o, 0] ![R, 1536] inb).set := fun o R inb ha hb => by
    rw [LoadRect.mem_set]
    intro a
    match a with
    | ⟨0, _⟩ => exact ⟨(y 0).val - o, show (y 0).val - o < R by omega, show (y 0).val = o + 1 * ((y 0).val - o) by omega⟩
    | ⟨1, _⟩ => exact ⟨(y 1).val, h1, show (y 1).val = 0 + 1 * (y 1).val by omega⟩
  have hcases : (y 0).val < 16 ∨ 16 ≤ (y 0).val ∧ (y 0).val < 1040 ∨ 1040 ≤ (y 0).val := by omega
  unfold fills
  rcases hcases with h | h | h
  · exact ⟨_, List.mem_cons_of_mem _ (List.mem_cons_of_mem _ List.mem_cons_self), mem 0 16 inb_S1056x1536_S16x1536_0_0 (by omega) (by omega)⟩
  · exact ⟨_, List.mem_cons_of_mem _ List.mem_cons_self, mem 16 1024 inb_S1056x1536_S1024x1536_16_0 (by omega) (by omega)⟩
  · exact ⟨_, List.mem_cons_self, mem 1040 16 inb_S1056x1536_S16x1536_1040_0 (by omega) (by omega)⟩

/-- A window of the padded rows: 160 rows from `o`, 512 columns from `p`. -/
def window (o p : Nat) (ho : o + 160 ≤ 1056) (hp : p + 512 ≤ 1536) : Vec Ideal S160x512 .bf16 := fun x =>
  pad i x0 x1 x2 (ix2 ⟨o + (x 0).val, by have : (x 0).val < 160 := (x 0).isLt; omega⟩ ⟨p + (x 1).val, by have : (x 1).val < 512 := (x 1).isLt; omega⟩)

theorem window_read {sg : RefSig} (arg : Memref sg .tc .vmem S1056x1536 .bf16) (o p : Nat) (ho : o + 160 ≤ 1056) (hp : p + 512 ≤ 1536)
    (inb : ∀ a, (![o, p] : Fin 2 → Nat) a + (![160, 512] : Fin 2 → Nat) a ≤ S1056x1536.size a) :
    arg.view.readCov (fills i x0 x1 x2) (Rect.unit ![o, p] ![160, 512] inb).toLoadRect = window i x0 x1 x2 o p ho hp := by
  rw [View.readCov_eq_canon']
  funext x
  refine (View.canon_apply_of_pieces (pad i x0 x1 x2) _ (fills_piece i x0 x1 x2) _ (fills_cover i x0 x1 x2 _)).trans ?_
  refine congrArg (pad i x0 x1 x2) (funext fun a => Fin.ext ?_)
  refine (Rect.idx_unit_val _ _ _ _ _).trans ?_
  match a with
  | ⟨0, _⟩ => rfl
  | ⟨1, _⟩ => rfl

/-- The convolution of a point's row. -/
def conv (R : Fin 1024) (n : Fin 1536) : EReal :=
  pad i x0 x1 x2 (ix2 ⟨16 + R.val, by omega⟩ n) * x3 (ix2 1 n) + pad i x0 x1 x2 (ix2 ⟨15 + R.val, by omega⟩ n) * x3 (ix2 0 n)
    + pad i x0 x1 x2 (ix2 ⟨17 + R.val, by omega⟩ n) * x3 (ix2 2 n) + x4 (ix2 0 n)

theorem ld_row {R : Nat} (X : Vec Ideal ⟨2, ![R, 1536]⟩ .f32) (k : Fin R) (p : Nat)
    (inb : ∀ a, (![k.val, p] : Fin 2 → Nat) a + (![1, 512] : Fin 2 → Nat) a ≤ (⟨2, ![R, 1536]⟩ : Shape).size a)
    (n : Fin 512) (n' : Fin 1536) (hn : n'.val = p + n.val) : View.ld X (Rect.unit ![k.val, p] ![1, 512] inb) (ix2 0 n) = X (ix2 k n') :=
  congrArg X (funext fun a => Fin.ext (by
    rw [Rect.idx_unit_val]; match a with | ⟨0, _⟩ => exact Nat.add_zero _ | ⟨1, _⟩ => exact hn.symm))

/-- The point's convolution of the 512 columns from `p`. -/
theorem column_conv (p : Nat) (hp : p + 512 ≤ 1536)
    (i1 : ∀ a, (![1, p] : Fin 2 → Nat) a + (![1, 512] : Fin 2 → Nat) a ≤ S8x1536.size a)
    (i0 : ∀ a, (![0, p] : Fin 2 → Nat) a + (![1, 512] : Fin 2 → Nat) a ≤ S8x1536.size a)
    (i2 : ∀ a, (![2, p] : Fin 2 → Nat) a + (![1, 512] : Fin 2 → Nat) a ≤ S8x1536.size a)
    (ib : ∀ a, (![0, p] : Fin 2 → Nat) a + (![1, 512] : Fin 2 → Nat) a ≤ S1x1536.size a)
    (W0 W1 W2 W3 W4 W5 W6 W7 : Vec Ideal S160x512 .bf16)
    (e0 : W0 = window i x0 x1 x2 0 p (by omega) hp) (e1 : W1 = window i x0 x1 x2 128 p (by omega) hp)
    (e2 : W2 = window i x0 x1 x2 256 p (by omega) hp) (e3 : W3 = window i x0 x1 x2 384 p (by omega) hp)
    (e4 : W4 = window i x0 x1 x2 512 p (by omega) hp) (e5 : W5 = window i x0 x1 x2 640 p (by omega) hp)
    (e6 : W6 = window i x0 x1 x2 768 p (by omega) hp) (e7 : W7 = window i x0 x1 x2 896 p (by omega) hp)
    (R : Fin 1024) (n : Fin 512) :
    column W0 W1 W2 W3 W4 W5 W6 W7 (View.ld x3 (Rect.unit ![1, p] ![1, 512] i1)) (View.ld x3 (Rect.unit ![0, p] ![1, 512] i0))
      (View.ld x3 (Rect.unit ![2, p] ![1, 512] i2)) (View.ld x4 (Rect.unit ![0, p] ![1, 512] ib)) (ix2 R n)
      = conv i x0 x1 x2 x3 x4 R ⟨p + n.val, by omega⟩ := by
  subst e0 e1 e2 e3 e4 e5 e6 e7
  refine (column_apply (fun j => window i x0 x1 x2 (128 * j.val) p (by omega) hp) _ _ _ _ ⟨R.val / 128, by omega⟩ ⟨R.val % 128, by omega⟩ n R
    (Nat.div_add_mod _ _)).trans ((blk_apply _ _ _ _ _ _ n).trans ?_)
  unfold conv window
  have hR : ∀ k, 128 * (R.val / 128) + (k + R.val % 128) = k + R.val := fun k => by omega
  have row : ∀ k (a : _) (b : _), pad i x0 x1 x2 (ix2 ⟨128 * (R.val / 128) + (k + R.val % 128), a⟩ ⟨p + n.val, b⟩)
      = pad i x0 x1 x2 (ix2 ⟨k + R.val, (hR k).symm.trans_lt a⟩ ⟨p + n.val, b⟩) := fun k a b =>
    congrArg (fun r => pad i x0 x1 x2 (ix2 r ⟨p + n.val, b⟩)) (Fin.ext (hR k))
  refine congrArg₂ (· + · : EReal → EReal → EReal) (congrArg₂ (· + · : EReal → EReal → EReal) (congrArg₂ (· + · : EReal → EReal → EReal)
    (congrArg₂ (· * · : EReal → EReal → EReal) (row 16 _ _) (ld_row x3 1 p _ n _ rfl)) (congrArg₂ (· * · : EReal → EReal → EReal) (row 15 _ _) (ld_row x3 0 p _ n _ rfl)))
    (congrArg₂ (· * · : EReal → EReal → EReal) (row 17 _ _) (ld_row x3 2 p _ n _ rfl))) (ld_row x4 0 p _ n _ rfl)

end Cert.ShortconvIdeal.Block

end
-- ==== Proof.ShortconvBlock.lean ====
module

public import proofs.«01_k».proof.Proof.ShortconvBody

/-! # What one grid point of the short convolution writes

One result is the first third's convolution; the other the product of the second's and the third's, two tokens to a
row. -/

@[expose] public section

set_option maxRecDepth 16384

noncomputable section

namespace Cert.ShortconvIdeal.Block

open Cert.ShortconvIdeal Cert.ShortconvIdeal.Gen Idealize.ShloMosaic Idealize.ShloMosaic.TcCoe Idealize.SL.Sem
open Idealize.ShloMosaic.Tactic Idealize.ShloMosaic.ValueIdx

variable (i : grid0.Coords) (x0 : Vec Ideal S1x1024x1536 .bf16) (x1 : Vec Ideal S1x16x1536 .bf16) (x2 : Vec Ideal S1x16x1536 .bf16) (x3 : Vec Ideal S8x1536 .f32) (x4 : Vec Ideal S1x1536 .f32)

/-! ## The first third -/

/-- The block of the second result. -/
def first (y : S1x1024x512.Idx) : EReal := conv i x0 x1 x2 x3 x4 (y 1) ⟨0 + (y 2).val, by have : (y 2).val < 512 := (y 2).isLt; omega⟩

theorem first_piece (W0 W1 W2 W3 W4 W5 W6 W7 : Vec Ideal S160x512 .bf16)
    (e0 : W0 = window i x0 x1 x2 0 0 (by omega) (by omega))
    (e1 : W1 = window i x0 x1 x2 128 0 (by omega) (by omega))
    (e2 : W2 = window i x0 x1 x2 256 0 (by omega) (by omega))
    (e3 : W3 = window i x0 x1 x2 384 0 (by omega) (by omega))
    (e4 : W4 = window i x0 x1 x2 512 0 (by omega) (by omega))
    (e5 : W5 = window i x0 x1 x2 640 0 (by omega) (by omega))
    (e6 : W6 = window i x0 x1 x2 768 0 (by omega) (by omega))
    (e7 : W7 = window i x0 x1 x2 896 0 (by omega) (by omega))
    (x : S1x1024x512.Idx) :
    k0_pay63 (k0_pay62 (column W0 W1 W2 W3 W4 W5 W6 W7 (View.ld x3 (Rect.unit ![1, 0] ![1, 512] inb_S8x1536_S1x512_1_0)) (View.ld x3 (Rect.unit ![0, 0] ![1, 512] inb_S8x1536_S1x512_0_0))
      (View.ld x3 (Rect.unit ![2, 0] ![1, 512] inb_S8x1536_S1x512_2_0)) (View.ld x4 (Rect.unit ![0, 0] ![1, 512] inb_S1x1536_S1x512_0_0)))) x
      = first i x0 x1 x2 x3 x4 ((Rect.unit (s := S1x1024x512) ![0, 0, 0] ![1, 1024, 512] inb_S1x1024x512_S1x1024x512_0_0_0).emb x) := by
  unfold k0_pay63 k0_pay62
  refine (shapeCast_addUnit_apply ![1024, 512] _ _ x).trans ?_
  show column W0 W1 W2 W3 W4 W5 W6 W7 (View.ld x3 (Rect.unit ![1, 0] ![1, 512] inb_S8x1536_S1x512_1_0)) (View.ld x3 (Rect.unit ![0, 0] ![1, 512] inb_S8x1536_S1x512_0_0))
      (View.ld x3 (Rect.unit ![2, 0] ![1, 512] inb_S8x1536_S1x512_2_0)) (View.ld x4 (Rect.unit ![0, 0] ![1, 512] inb_S1x1536_S1x512_0_0)) (fun a => x a.succ) = _
  rw [show ((fun a : Fin 2 => x a.succ) : S1024x512.Idx) = ix2 (x 1) (x 2) from eq_ix2 _]
  refine (column_conv i x0 x1 x2 x3 x4 0 (by omega) _ _ _ _ _ _ _ _ _ _ _ _ e0 e1 e2 e3 e4 e5 e6 e7 (x 1) (x 2)).trans ?_
  unfold first
  refine congrArg₂ (conv i x0 x1 x2 x3 x4) (Fin.ext ?_) (Fin.ext ?_)
  · exact ((Rect.idx_unit_val _ _ _ _ _).trans (Nat.zero_add _)).symm
  · exact congrArg (0 + ·) ((Rect.idx_unit_val _ _ _ _ _).trans (Nat.zero_add _)).symm

/-! ## The product, two tokens to a row -/

/-- The product of the second and the third thirds' convolutions. -/
def paired (R : Fin 1024) (n : Fin 512) : EReal :=
  conv i x0 x1 x2 x3 x4 R ⟨512 + n.val, by omega⟩ * conv i x0 x1 x2 x3 x4 R ⟨1024 + n.val, by omega⟩

theorem paired_columns (W0 W1 W2 W3 W4 W5 W6 W7 : Vec Ideal S160x512 .bf16) (V0 V1 V2 V3 V4 V5 V6 V7 : Vec Ideal S160x512 .bf16)
    (e0 : W0 = window i x0 x1 x2 0 512 (by omega) (by omega))
    (e1 : W1 = window i x0 x1 x2 128 512 (by omega) (by omega))
    (e2 : W2 = window i x0 x1 x2 256 512 (by omega) (by omega))
    (e3 : W3 = window i x0 x1 x2 384 512 (by omega) (by omega))
    (e4 : W4 = window i x0 x1 x2 512 512 (by omega) (by omega))
    (e5 : W5 = window i x0 x1 x2 640 512 (by omega) (by omega))
    (e6 : W6 = window i x0 x1 x2 768 512 (by omega) (by omega))
    (e7 : W7 = window i x0 x1 x2 896 512 (by omega) (by omega))
    (f0 : V0 = window i x0 x1 x2 0 1024 (by omega) (by omega))
    (f1 : V1 = window i x0 x1 x2 128 1024 (by omega) (by omega))
    (f2 : V2 = window i x0 x1 x2 256 1024 (by omega) (by omega))
    (f3 : V3 = window i x0 x1 x2 384 1024 (by omega) (by omega))
    (f4 : V4 = window i x0 x1 x2 512 1024 (by omega) (by omega))
    (f5 : V5 = window i x0 x1 x2 640 1024 (by omega) (by omega))
    (f6 : V6 = window i x0 x1 x2 768 1024 (by omega) (by omega))
    (f7 : V7 = window i x0 x1 x2 896 1024 (by omega) (by omega))
    (R : Fin 1024) (n : Fin 512) :
    mulf (column W0 W1 W2 W3 W4 W5 W6 W7 (View.ld x3 (Rect.unit ![1, 512] ![1, 512] inb_S8x1536_S1x512_1_512)) (View.ld x3 (Rect.unit ![0, 512] ![1, 512] inb_S8x1536_S1x512_0_512))
      (View.ld x3 (Rect.unit ![2, 512] ![1, 512] inb_S8x1536_S1x512_2_512)) (View.ld x4 (Rect.unit ![0, 512] ![1, 512] inb_S1x1536_S1x512_0_512)))
      (column V0 V1 V2 V3 V4 V5 V6 V7 (View.ld x3 (Rect.unit ![1, 1024] ![1, 512] inb_S8x1536_S1x512_1_1024)) (View.ld x3 (Rect.unit ![0, 1024] ![1, 512] inb_S8x1536_S1x512_0_1024))
      (View.ld x3 (Rect.unit ![2, 1024] ![1, 512] inb_S8x1536_S1x512_2_1024)) (View.ld x4 (Rect.unit ![0, 1024] ![1, 512] inb_S1x1536_S1x512_0_1024))) (ix2 R n) = paired i x0 x1 x2 x3 x4 R n :=
  congrArg₂ (· * · : EReal → EReal → EReal)
    (column_conv i x0 x1 x2 x3 x4 512 (by omega) _ _ _ _ _ _ _ _ _ _ _ _ e0 e1 e2 e3 e4 e5 e6 e7 R n)
    (column_conv i x0 x1 x2 x3 x4 1024 (by omega) _ _ _ _ _ _ _ _ _ _ _ _ f0 f1 f2 f3 f4 f5 f6 f7 R n)

/-- The buffer of four slabs of 128 columns. -/
def slabs (M : FVec Ideal S1024x512 .f32) : S4x1024x128.Idx → EReal := fun z =>
  M (ix2 (z 1) ⟨(z 0).val * 128 + (z 2).val, by have : (z 0).val < 4 := (z 0).isLt; have : (z 2).val < 128 := (z 2).isLt; omega⟩)

/-- Its four stores, the last first. -/
def stores (M : FVec Ideal S1024x512 .f32) : List (View.Piece (Elt Ideal) S4x1024x128 .f32) :=
  [⟨Rect.unit ![3, 0, 0] ![1, 1024, 128] inb_S4x1024x128_S1x1024x128_3_0_0, k0_pay67 M⟩,
    ⟨Rect.unit ![2, 0, 0] ![1, 1024, 128] inb_S4x1024x128_S1x1024x128_2_0_0, k0_pay66 M⟩,
    ⟨Rect.unit ![1, 0, 0] ![1, 1024, 128] inb_S4x1024x128_S1x1024x128_1_0_0, k0_pay65 M⟩,
    ⟨Rect.unit ![0, 0, 0] ![1, 1024, 128] inb_S4x1024x128_S1x1024x128_0_0_0, k0_pay64 M⟩]

theorem store_piece (M : FVec Ideal S1024x512 .f32) (k : Nat) (o : Nat) (ho : o = k * 128) (hs : S1024x512.Slices ![0, o] S1024x128)
    (inb : ∀ a, (![k, 0, 0] : Fin 3 → Nat) a + (![1, 1024, 128] : Fin 3 → Nat) a ≤ S4x1024x128.size a) (x : S1x1024x128.Idx) :
    shapeCast S1x1024x128 (extractStridedSlice S1024x128 ![0, o] M hs) shapeCasts_S1024x128_S1x1024x128 x
      = slabs M ((Rect.unit (s := S4x1024x128) ![k, 0, 0] ![1, 1024, 128] inb).emb x) := by
  have h0 : (x 0).val < 1 := (x 0).isLt
  have e : ∀ a, (((Rect.unit (s := S4x1024x128) ![k, 0, 0] ![1, 1024, 128] inb).emb x) a : Nat) = (![k, 0, 0] : Fin 3 → Nat) a + (x a).val :=
    fun a => Rect.idx_unit_val _ _ _ _ _
  refine (shapeCast_addUnit_apply ![1024, 128] _ _ x).trans ?_
  unfold slabs
  refine extractStridedSlice_apply _ _ hs _ _ fun a => ?_
  match a with
  | ⟨0, _⟩ => exact (e 1)
  | ⟨1, _⟩ =>
    show (((Rect.unit (s := S4x1024x128) ![k, 0, 0] ![1, 1024, 128] inb).emb x) 0 : Nat) * 128 + (((Rect.unit (s := S4x1024x128) ![k, 0, 0] ![1, 1024, 128] inb).emb x) 2 : Nat)
      = o + (x 2).val
    rw [e 0, e 2]
    show (k + (x 0).val) * 128 + (0 + (x 2).val) = _
    omega

theorem stores_piece (M : FVec Ideal S1024x512 .f32) : ∀ p ∈ stores M, ∀ x : p.1.shape.Idx, p.2 x = slabs M (p.1.emb x) := by
  unfold stores
  simp only [List.forall_mem_cons]
  refine ⟨fun x => ?_, fun x => ?_, fun x => ?_, fun x => ?_, fun _ h => absurd h List.not_mem_nil⟩
  · exact store_piece M 3 384 rfl slices_S1024x512_o0_384_S1024x128 _ x
  · exact store_piece M 2 256 rfl slices_S1024x512_o0_256_S1024x128 _ x
  · exact store_piece M 1 128 rfl slices_S1024x512_o0_128_S1024x128 _ x
  · exact store_piece M 0 0 rfl slices_S1024x512_o0_0_S1024x128 _ x

theorem stores_cover (M : FVec Ideal S1024x512 .f32) (y : S4x1024x128.Idx) : ∃ p ∈ stores M, y ∈ p.1.set := by
  have h0 : (y 0).val < 4 := (y 0).isLt
  have mem : ∀ (k : Nat) (inb : ∀ a, (![k, 0, 0] : Fin 3 → Nat) a + (![1, 1024, 128] : Fin 3 → Nat) a ≤ S4x1024x128.size a),
      (y 0).val = k → y ∈ (Rect.unit (s := S4x1024x128) ![k, 0, 0] ![1, 1024, 128] inb).set := fun k inb e => by
    rw [LoadRect.mem_set]
    intro a
    match a with
    | ⟨0, _⟩ => exact ⟨0, Nat.one_pos, show (y 0).val = k + 1 * 0 by omega⟩
    | ⟨1, _⟩ => exact ⟨(y 1).val, (y 1).isLt, show (y 1).val = 0 + 1 * (y 1).val by omega⟩
    | ⟨2, _⟩ => exact ⟨(y 2).val, (y 2).isLt, show (y 2).val = 0 + 1 * (y 2).val by omega⟩
  have hcases : (y 0).val = 0 ∨ (y 0).val = 1 ∨ (y 0).val = 2 ∨ (y 0).val = 3 := by omega
  unfold stores
  rcases hcases with e | e | e | e
  · exact ⟨_, List.getElem_mem (n := 3) (by simp), mem 0 inb_S4x1024x128_S1x1024x128_0_0_0 e⟩
  · exact ⟨_, List.getElem_mem (n := 2) (by simp), mem 1 inb_S4x1024x128_S1x1024x128_1_0_0 e⟩
  · exact ⟨_, List.getElem_mem (n := 1) (by simp), mem 2 inb_S4x1024x128_S1x1024x128_2_0_0 e⟩
  · exact ⟨_, List.getElem_mem (n := 0) (by simp), mem 3 inb_S4x1024x128_S1x1024x128_3_0_0 e⟩

/-- Every second row of a slab. -/
def half (M : FVec Ideal S1024x512 .f32) (p k : Nat) (hp : p < 2) (hk : k < 4) : Vec Ideal S1x512x128 .f32 := fun x =>
  M (ix2 ⟨2 * (x 1).val + p, by have : (x 1).val < 512 := (x 1).isLt; omega⟩ ⟨k * 128 + (x 2).val, by have : (x 2).val < 128 := (x 2).isLt; omega⟩)

theorem half_read {sg : RefSig} (arg : Memref sg .tc .vmem S4x1024x128 .f32) (M : FVec Ideal S1024x512 .f32) (p k : Nat) (hp : p < 2) (hk : k < 4)
    (inb : ∀ a, (S1x512x128.size a = 0 ∨ (![k, p, 0] : Fin 3 → Nat) a + (![1, 2, 1] : Fin 3 → Nat) a * (S1x512x128.size a - 1) < S4x1024x128.size a)) :
    arg.view.readCov (stores M) (⟨![k, p, 0], S1x512x128.size, ![1, 2, 1], inb⟩ : LoadRect S4x1024x128) = half M p k hp hk := by
  rw [View.readCov_eq_canon']
  funext x
  refine (View.canon_apply_of_pieces (slabs M) _ (stores_piece M) _ (stores_cover M _)).trans ?_
  unfold slabs half
  have h0 : (x 0).val < 1 := (x 0).isLt
  refine congrArg M (congrArg₂ ix2 (Fin.ext ?_) (Fin.ext ?_))
  · show p + 2 * (x 1).val = 2 * (x 1).val + p
    omega
  · show (k + 1 * (x 0).val) * 128 + (0 + 1 * (x 2).val) = k * 128 + (x 2).val
    omega

/-- The block of the first result. -/
def product (y : S1x512x1024.Idx) : EReal :=
  paired i x0 x1 x2 x3 x4 ⟨2 * (y 1).val + (y 2).val / 512, by have : (y 1).val < 512 := (y 1).isLt; have : (y 2).val < 1024 := (y 2).isLt; omega⟩
    ⟨(y 2).val % 512, Nat.mod_lt _ (by omega)⟩

theorem product_piece (M : FVec Ideal S1024x512 .f32) (hM : ∀ R n, M (ix2 R n) = paired i x0 x1 x2 x3 x4 R n)
    (A0 A1 A2 A3 A4 A5 A6 A7 : Vec Ideal S1x512x128 .f32)
    (a0 : A0 = half M 0 0 (by omega) (by omega)) (a1 : A1 = half M 0 1 (by omega) (by omega)) (a2 : A2 = half M 0 2 (by omega) (by omega))
    (a3 : A3 = half M 0 3 (by omega) (by omega)) (a4 : A4 = half M 1 0 (by omega) (by omega)) (a5 : A5 = half M 1 1 (by omega) (by omega))
    (a6 : A6 = half M 1 2 (by omega) (by omega)) (a7 : A7 = half M 1 3 (by omega) (by omega)) (x : S1x512x1024.Idx) :
    k0_pay1 (k0_pay68 A0) (k0_pay69 A1) (k0_pay70 A2) (k0_pay71 A3) A4 A5 A6 A7 x
      = product i x0 x1 x2 x3 x4 ((Rect.unit (s := S1x512x1024) ![0, 0, 0] ![1, 512, 1024] inb_S1x512x1024_S1x512x1024_0_0_0).emb x) := by
  subst a0 a1 a2 a3 a4 a5 a6 a7
  have h2 : (x 2).val < 1024 := (x 2).isLt
  have hx : ((Rect.unit (s := S1x512x1024) ![0, 0, 0] ![1, 512, 1024] inb_S1x512x1024_S1x512x1024_0_0_0).emb x) = x :=
    funext fun a => Fin.ext ((Rect.idx_unit_val _ _ _ _ _).trans (by
      match a with
      | ⟨0, _⟩ => exact Nat.zero_add _
      | ⟨1, _⟩ => exact Nat.zero_add _
      | ⟨2, _⟩ => exact Nat.zero_add _))
  rw [hx]
  unfold k0_pay1 k0_pay68 k0_pay69 k0_pay70 k0_pay71
  refine (shapeCast_addUnit_apply ![512, 1024] _ _ x).trans ?_
  have piece : ∀ (p k : Nat) (hp : p < 2) (hk : k < 4) (l : Fin 128), p * 512 + k * 128 + l.val = (x 2).val →
      (shapeCast S512x128 (half M p k hp hk) shapeCasts_S1x512x128_S512x128 : FVec Ideal S512x128 .f32) (ix2 (x 1) l) = product i x0 x1 x2 x3 x4 x := fun p k hp hk l hl => by
    have h1 : (x 1).val < 512 := (x 1).isLt
    refine (shapeCast_dropUnit_apply ![512, 128] _ _ _).trans ?_
    unfold half product
    refine (hM _ _).trans (congrArg₂ (paired i x0 x1 x2 x3 x4) (Fin.ext ?_) (Fin.ext ?_))
    · show 2 * (x 1).val + p = 2 * (x 1).val + (x 2).val / 512
      omega
    · show k * 128 + l.val = (x 2).val % 512
      omega
  have off : ∀ (l : Fin 128) (b : Fin 2), b ≠ 1 → ((ix2 (x 1) l : S512x128.Idx) b).val = ((ix2 (x 1) (x 2) : S512x1024.Idx) b).val := fun l b hb => by
    match b with
    | ⟨0, _⟩ => rfl
    | ⟨1, _⟩ => exact absurd rfl hb
  have hk : (x 2).val < 128 ∨ 128 ≤ (x 2).val ∧ (x 2).val < 256 ∨ 256 ≤ (x 2).val ∧ (x 2).val < 384 ∨ 384 ≤ (x 2).val ∧ (x 2).val < 512
    ∨ 512 ≤ (x 2).val ∧ (x 2).val < 640 ∨ 640 ≤ (x 2).val ∧ (x 2).val < 768 ∨ 768 ≤ (x 2).val ∧ (x 2).val < 896 ∨ 896 ≤ (x 2).val := by omega
  show concatenate S512x1024 1 [⟨S512x128, (shapeCast S512x128 (half M 0 0 (by omega) (by omega)) shapeCasts_S1x512x128_S512x128 : FVec Ideal S512x128 .f32)⟩, ⟨S512x128, (shapeCast S512x128 (half M 0 1 (by omega) (by omega)) shapeCasts_S1x512x128_S512x128 : FVec Ideal S512x128 .f32)⟩, ⟨S512x128, (shapeCast S512x128 (half M 0 2 (by omega) (by omega)) shapeCasts_S1x512x128_S512x128 : FVec Ideal S512x128 .f32)⟩, ⟨S512x128, (shapeCast S512x128 (half M 0 3 (by omega) (by omega)) shapeCasts_S1x512x128_S512x128 : FVec Ideal S512x128 .f32)⟩, ⟨S512x128, (shapeCast S512x128 (half M 1 0 (by omega) (by omega)) shapeCasts_S1x512x128_S512x128 : FVec Ideal S512x128 .f32)⟩, ⟨S512x128, (shapeCast S512x128 (half M 1 1 (by omega) (by omega)) shapeCasts_S1x512x128_S512x128 : FVec Ideal S512x128 .f32)⟩, ⟨S512x128, (shapeCast S512x128 (half M 1 2 (by omega) (by omega)) shapeCasts_S1x512x128_S512x128 : FVec Ideal S512x128 .f32)⟩, ⟨S512x128, (shapeCast S512x128 (half M 1 3 (by omega) (by omega)) shapeCasts_S1x512x128_S512x128 : FVec Ideal S512x128 .f32)⟩]
    concatenates_S512x128_S512x128_S512x128_S512x128_S512x128_S512x128_S512x128_S512x128_S512x1024_d1 (fun a => x a.succ) = _
  rw [show ((fun a : Fin 2 => x a.succ) : S512x1024.Idx) = ix2 (x 1) (x 2) from eq_ix2 _]
  rcases hk with h | h | h | h | h | h | h | h
  · exact (concatenate_apply_piece 1 _ _ (ix2 (x 1) (x 2)) 0 (by simp) S512x128 _ rfl rfl 0 rfl (ix2 (x 1) ⟨(x 2).val - 0, by omega⟩) (off _) (show 0 + ((x 2).val - 0) = (x 2).val by omega)).trans
      (piece 0 0 (by omega) (by omega) _ (show 0 * 512 + 0 * 128 + ((x 2).val - 0) = (x 2).val by omega))
  · exact (concatenate_apply_piece 1 _ _ (ix2 (x 1) (x 2)) 1 (by simp) S512x128 _ rfl rfl 128 rfl (ix2 (x 1) ⟨(x 2).val - 128, by omega⟩) (off _) (show 128 + ((x 2).val - 128) = (x 2).val by omega)).trans
      (piece 0 1 (by omega) (by omega) _ (show 0 * 512 + 1 * 128 + ((x 2).val - 128) = (x 2).val by omega))
  · exact (concatenate_apply_piece 1 _ _ (ix2 (x 1) (x 2)) 2 (by simp) S512x128 _ rfl rfl 256 rfl (ix2 (x 1) ⟨(x 2).val - 256, by omega⟩) (off _) (show 256 + ((x 2).val - 256) = (x 2).val by omega)).trans
      (piece 0 2 (by omega) (by omega) _ (show 0 * 512 + 2 * 128 + ((x 2).val - 256) = (x 2).val by omega))
  · exact (concatenate_apply_piece 1 _ _ (ix2 (x 1) (x 2)) 3 (by simp) S512x128 _ rfl rfl 384 rfl (ix2 (x 1) ⟨(x 2).val - 384, by omega⟩) (off _) (show 384 + ((x 2).val - 384) = (x 2).val by omega)).trans
      (piece 0 3 (by omega) (by omega) _ (show 0 * 512 + 3 * 128 + ((x 2).val - 384) = (x 2).val by omega))
  · exact (concatenate_apply_piece 1 _ _ (ix2 (x 1) (x 2)) 4 (by simp) S512x128 _ rfl rfl 512 rfl (ix2 (x 1) ⟨(x 2).val - 512, by omega⟩) (off _) (show 512 + ((x 2).val - 512) = (x 2).val by omega)).trans
      (piece 1 0 (by omega) (by omega) _ (show 1 * 512 + 0 * 128 + ((x 2).val - 512) = (x 2).val by omega))
  · exact (concatenate_apply_piece 1 _ _ (ix2 (x 1) (x 2)) 5 (by simp) S512x128 _ rfl rfl 640 rfl (ix2 (x 1) ⟨(x 2).val - 640, by omega⟩) (off _) (show 640 + ((x 2).val - 640) = (x 2).val by omega)).trans
      (piece 1 1 (by omega) (by omega) _ (show 1 * 512 + 1 * 128 + ((x 2).val - 640) = (x 2).val by omega))
  · exact (concatenate_apply_piece 1 _ _ (ix2 (x 1) (x 2)) 6 (by simp) S512x128 _ rfl rfl 768 rfl (ix2 (x 1) ⟨(x 2).val - 768, by omega⟩) (off _) (show 768 + ((x 2).val - 768) = (x 2).val by omega)).trans
      (piece 1 2 (by omega) (by omega) _ (show 1 * 512 + 2 * 128 + ((x 2).val - 768) = (x 2).val by omega))
  · exact (concatenate_apply_piece 1 _ _ (ix2 (x 1) (x 2)) 7 (by simp) S512x128 _ rfl rfl 896 rfl (ix2 (x 1) ⟨(x 2).val - 896, by omega⟩) (off _) (show 896 + ((x 2).val - 896) = (x 2).val by omega)).trans
      (piece 1 3 (by omega) (by omega) _ (show 1 * 512 + 3 * 128 + ((x 2).val - 896) = (x 2).val by omega))

variable (c : Dev nD) (arg2 : Memref sig .tc .vmem S1x1024x1536 .bf16) (harg2 : arg2.IsWhole) (arg3 : Memref sig .tc .vmem S1x16x1536 .bf16) (harg3 : arg3.IsWhole) (arg4 : Memref sig .tc .vmem S1x16x1536 .bf16) (harg4 : arg4.IsWhole) (arg5 : Memref sig .tc .vmem S8x1536 .f32) (harg5 : arg5.IsWhole) (arg6 : Memref sig .tc .vmem S1x1536 .f32) (harg6 : arg6.IsWhole) (arg7 : Memref sig .tc .vmem S1x512x1024 .bf16) (harg7 : arg7.IsWhole) (arg8 : Memref sig .tc .vmem S1x1024x512 .bf16) (harg8 : arg8.IsWhole) (arg9 : Memref sig .tc .vmem S1056x1536 .bf16) (harg9 : arg9.IsWhole) (arg10 : Memref sig .tc .vmem S4x1024x128 .f32) (harg10 : arg10.IsWhole)

/-- The second result's block that the body leaves. -/
theorem out6_eq : out0_A_6 c i arg2 harg2 arg3 harg3 arg4 harg4 arg5 harg5 arg6 harg6 arg7 harg7 arg8 harg8 arg9 harg9 arg10 harg10 x0 x1 x2 x3 x4
    = first i x0 x1 x2 x3 x4 := by
  funext y
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4)]
  refine View.canon_apply_of_pieces (first i x0 x1 x2 x3 x4) _ ?_ y (cover0_A_6 c i arg2 harg2 arg3 harg3 arg4 harg4 arg5 harg5 arg6 harg6 arg7 harg7 arg8 harg8 arg9 harg9 arg10 harg10 x0 x1 x2 x3 x4 y)
  clear y
  unfold kernelRun0_A
  dsimp only
  sl_unfold_words
  simp only [View.readAt_eq_ld, harg2.read_unread, harg3.read_unread, harg4.read_unread, harg5.read_unread, harg6.read_unread, List.forall_mem_cons]
  refine ⟨first_piece i x0 x1 x2 x3 x4 _ _ _ _ _ _ _ _ ?_ ?_ ?_ ?_ ?_ ?_ ?_ ?_, fun _ h => absurd h List.not_mem_nil⟩
  · exact window_read i x0 x1 x2 arg9 0 0 (by omega) (by omega) _
  · exact window_read i x0 x1 x2 arg9 128 0 (by omega) (by omega) _
  · exact window_read i x0 x1 x2 arg9 256 0 (by omega) (by omega) _
  · exact window_read i x0 x1 x2 arg9 384 0 (by omega) (by omega) _
  · exact window_read i x0 x1 x2 arg9 512 0 (by omega) (by omega) _
  · exact window_read i x0 x1 x2 arg9 640 0 (by omega) (by omega) _
  · exact window_read i x0 x1 x2 arg9 768 0 (by omega) (by omega) _
  · exact window_read i x0 x1 x2 arg9 896 0 (by omega) (by omega) _

/-- The first result's block that the body leaves. -/
theorem out5_eq : out0_A_5 c i arg2 harg2 arg3 harg3 arg4 harg4 arg5 harg5 arg6 harg6 arg7 harg7 arg8 harg8 arg9 harg9 arg10 harg10 x0 x1 x2 x3 x4
    = product i x0 x1 x2 x3 x4 := by
  funext y
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4)]
  refine View.canon_apply_of_pieces (product i x0 x1 x2 x3 x4) _ ?_ y (cover0_A_5 c i arg2 harg2 arg3 harg3 arg4 harg4 arg5 harg5 arg6 harg6 arg7 harg7 arg8 harg8 arg9 harg9 arg10 harg10 x0 x1 x2 x3 x4 y)
  clear y
  unfold kernelRun0_A
  dsimp only
  sl_unfold_words
  simp only [View.readAt_eq_ld, harg2.read_unread, harg3.read_unread, harg4.read_unread, harg5.read_unread, harg6.read_unread, List.forall_mem_cons]
  refine ⟨product_piece i x0 x1 x2 x3 x4 _ ?_ _ _ _ _ _ _ _ _ (half_read arg10 _ 0 0 (by omega) (by omega) _) (half_read arg10 _ 0 1 (by omega) (by omega) _)
    (half_read arg10 _ 0 2 (by omega) (by omega) _) (half_read arg10 _ 0 3 (by omega) (by omega) _) (half_read arg10 _ 1 0 (by omega) (by omega) _)
    (half_read arg10 _ 1 1 (by omega) (by omega) _) (half_read arg10 _ 1 2 (by omega) (by omega) _) (half_read arg10 _ 1 3 (by omega) (by omega) _),
    fun _ h => absurd h List.not_mem_nil⟩
  intro R n
  refine paired_columns i x0 x1 x2 x3 x4 _ _ _ _ _ _ _ _ _ _ _ _ _ _ _ _ ?_ ?_ ?_ ?_ ?_ ?_ ?_ ?_ ?_ ?_ ?_ ?_ ?_ ?_ ?_ ?_ R n
  · exact window_read i x0 x1 x2 arg9 0 512 (by omega) (by omega) _
  · exact window_read i x0 x1 x2 arg9 128 512 (by omega) (by omega) _
  · exact window_read i x0 x1 x2 arg9 256 512 (by omega) (by omega) _
  · exact window_read i x0 x1 x2 arg9 384 512 (by omega) (by omega) _
  · exact window_read i x0 x1 x2 arg9 512 512 (by omega) (by omega) _
  · exact window_read i x0 x1 x2 arg9 640 512 (by omega) (by omega) _
  · exact window_read i x0 x1 x2 arg9 768 512 (by omega) (by omega) _
  · exact window_read i x0 x1 x2 arg9 896 512 (by omega) (by omega) _
  · exact window_read i x0 x1 x2 arg9 0 1024 (by omega) (by omega) _
  · exact window_read i x0 x1 x2 arg9 128 1024 (by omega) (by omega) _
  · exact window_read i x0 x1 x2 arg9 256 1024 (by omega) (by omega) _
  · exact window_read i x0 x1 x2 arg9 384 1024 (by omega) (by omega) _
  · exact window_read i x0 x1 x2 arg9 512 1024 (by omega) (by omega) _
  · exact window_read i x0 x1 x2 arg9 640 1024 (by omega) (by omega) _
  · exact window_read i x0 x1 x2 arg9 768 1024 (by omega) (by omega) _
  · exact window_read i x0 x1 x2 arg9 896 1024 (by omega) (by omega) _

end Cert.ShortconvIdeal.Block

end
-- ==== Proof.ShortconvRef.lean ====
module

public import proofs.«01_k».proof.Proof.Gen.ShortconvRefIdeal.Read
public import Idealize.ShloMosaic.Lib.IdealHost
public import Idealize.ShloMosaic.Lib.KernelVsHost
public import Idealize.ShloMosaic.Lib.Pipeline.ValueKit

/-! # The plain short convolution at an index

A token's row is weighted with the rows before and after it; outside the sequence the row is zero. -/

@[expose] public section

noncomputable section

namespace Cert.ShortconvRefIdeal.Plain

open Cert.ShortconvRefIdeal Cert.ShortconvRefIdeal.Gen Cert.ShortconvRefIdeal.Read
open Idealize.ShloMosaic hiding ix1 ix2 ix3 eq_ix2 eq_ix3
open Idealize.ShloMosaic.ValueIdx Idealize.ShloMosaic.StableHlo

variable (x0 : (⟨S8x4096x6016, .f32⟩ : BufTy).Contents (Elt Ideal)) (x1 : (⟨S3x1536, .f32⟩ : BufTy).Contents (Elt Ideal))
  (x2 : (⟨S1536, .f32⟩ : BufTy).Contents (Elt Ideal))

/-- The row of a padded sequence: zeros, the tokens', zeros. -/
def near (b : Fin 8) (T : Nat) (n : Fin 1536) : EReal :=
  if h : 1 ≤ T ∧ T ≤ 4096 then x0 (ix3 b ⟨T - 1, by omega⟩ ⟨1536 + n.val, by omega⟩) else 0

/-- A token's convolution. -/
def row (b : Fin 8) (T : Nat) (n : Fin 1536) : EReal :=
  near x0 b T n * x1 (ix2 0 n) + near x0 b (1 + T) n * x1 (ix2 1 n) + near x0 b (2 + T) n * x1 (ix2 2 n) + x2 (ix1 n)

/-- The first third of the columns. -/
def first (y : S8x4096x512.Idx) : EReal :=
  row x0 x1 x2 (y 0) (y 1).val ⟨(y 2).val, by have : (y 2).val < 512 := (y 2).isLt; omega⟩

/-- The product of the second third and the last. -/
def pair (b : Fin 8) (T : Nat) (n : Fin 512) : EReal :=
  row x0 x1 x2 b T ⟨512 + n.val, by omega⟩ * row x0 x1 x2 b T ⟨1024 + n.val, by omega⟩

/-- The products, two tokens to a row. -/
def product (y : S8x2048x1024.Idx) : EReal :=
  pair x0 x1 x2 (y 0) (2 * (y 1).val + (y 2).val / 512) ⟨(y 2).val % 512, Nat.mod_lt _ (by omega)⟩

theorem v1_apply (j : S8x4098x1536.Idx) : val_main_v1 (F := Ideal) x0 j = near x0 (j 0) (j 1).val (j 2) := by
  have h1 : (j 1).val < 4098 := (j 1).isLt
  unfold near
  by_cases h : 1 ≤ (j 1).val ∧ (j 1).val ≤ 4096
  · rw [dif_pos h]
    refine (pad_apply_of_inside _ _ _ _ _ _ _ j (ix3 (j 0) (⟨(j 1).val - 1, by omega⟩ : Fin 4096) (j 2)) fun a => ?_).trans ?_
    · match a with
      | ⟨0, _⟩ => show (j 0).val = 0 + (j 0).val * (0 + 1); omega
      | ⟨1, _⟩ => show (j 1).val = 1 + ((j 1).val - 1) * (0 + 1); omega
      | ⟨2, _⟩ => show (j 2).val = 0 + (j 2).val * (0 + 1); omega
    · refine (val_main_v0_apply x0 _).trans (congrArg x0 ?_)
      funext a; match a with
      | ⟨0, _⟩ => rfl
      | ⟨1, _⟩ => rfl
      | ⟨2, _⟩ => rfl
  · rw [dif_neg h]
    refine (pad_apply_of_not_inside _ _ _ _ _ _ _ j 1 fun hin => h ?_).trans ?_
    · obtain ⟨a, -, b⟩ := hin
      have a' : 1 ≤ (j 1).val := a
      have b' : ((j 1).val - 1) / (0 + 1) < 4096 := b
      omega
    · show (((0#32 : BitVec 32).toInt : ℝ) : EReal) = 0
      simp

theorem weight0 (i : S8x4096x1536.Idx) : val_main_v6 (F := Ideal) x1 i = x1 (ix2 0 (i 2)) := by
  rw [val_main_v6_apply, val_main_v5_apply, val_main_v4_apply, val_main_v3_apply]
  refine congrArg x1 (funext fun a => Fin.ext ?_)
  match a with
  | ⟨0, _⟩ => rfl
  | ⟨1, _⟩ => exact Nat.mod_eq_of_lt (i 2).isLt

theorem weight1 (i : S8x4096x1536.Idx) : val_main_v12 (F := Ideal) x1 i = x1 (ix2 1 (i 2)) := by
  rw [val_main_v12_apply, val_main_v11_apply, val_main_v10_apply, val_main_v9_apply]
  refine congrArg x1 (funext fun a => Fin.ext ?_)
  match a with
  | ⟨0, _⟩ => rfl
  | ⟨1, _⟩ => exact Nat.mod_eq_of_lt (i 2).isLt

theorem weight2 (i : S8x4096x1536.Idx) : val_main_v19 (F := Ideal) x1 i = x1 (ix2 2 (i 2)) := by
  rw [val_main_v19_apply, val_main_v18_apply, val_main_v17_apply, val_main_v16_apply]
  refine congrArg x1 (funext fun a => Fin.ext ?_)
  match a with
  | ⟨0, _⟩ => rfl
  | ⟨1, _⟩ => exact Nat.mod_eq_of_lt (i 2).isLt

theorem offset (i : S8x4096x1536.Idx) : val_main_v23 (F := Ideal) x2 i = x2 (ix1 (i 2)) := by
  rw [val_main_v23_apply, val_main_v22_apply]
  refine congrArg x2 (funext fun a => Fin.ext ?_)
  match a with
  | ⟨0, _⟩ => rfl

theorem v24_eq (i : S8x4096x1536.Idx) : val_main_v24 (F := Ideal) x0 x1 x2 i = row x0 x1 x2 (i 0) (i 1).val (i 2) := by
  rw [val_main_v24_apply, val_main_v21_apply, val_main_v14_apply, val_main_v7_apply, val_main_v13_apply, val_main_v20_apply,
    val_main_v2_apply, val_main_v8_apply, val_main_v15_apply, v1_apply, v1_apply, v1_apply, weight0, weight1, weight2, offset]
  rfl

theorem v31_eq : val_main_v31 (F := Ideal) x0 x1 x2 = first x0 x1 x2 := by
  funext y
  rw [val_main_v31_apply, val_main_v25_apply, v24_eq]
  rfl

theorem v30_eq : val_main_v30 (F := Ideal) x0 x1 x2 = product x0 x1 x2 := by
  funext y
  rw [val_main_v30_apply, val_main_v29_apply, val_main_v28_apply, val_main_v26_apply, val_main_v27_apply, v24_eq, v24_eq]
  have h0 : (y 0).val < 8 := (y 0).isLt
  have h1 : (y 1).val < 2048 := (y 1).isLt
  have h2 : (y 2).val < 1024 := (y 2).isLt
  have e0 : idx_main_v29 y 0 = y 0 := Fin.ext (by
    show (((y 0).val * 2048 + (y 1).val) * 1024 + (y 2).val) / 2097152 = (y 0).val
    omega)
  have e1 : (idx_main_v29 y 1).val = 2 * (y 1).val + (y 2).val / 512 := by
    show (((y 0).val * 2048 + (y 1).val) * 1024 + (y 2).val) / 512 % 4096 = _
    omega
  have e2 : idx_main_v29 y 2 = (⟨(y 2).val % 512, Nat.mod_lt _ (by omega)⟩ : Fin 512) := Fin.ext (by
    show (((y 0).val * 2048 + (y 1).val) * 1024 + (y 2).val) % 512 = (y 2).val % 512
    omega)
  show pair x0 x1 x2 (idx_main_v29 y 0) (idx_main_v29 y 1).val (idx_main_v29 y 2) = _
  rw [e1, e2, e0]
  rfl

end Cert.ShortconvRefIdeal.Plain

end
-- ==== Proof.ShortconvArray.lean ====
module

public import proofs.«01_k».proof.Proof.ShortconvBlock
public import proofs.«01_k».proof.Proof.ShortconvRef
public import proofs.«01_k».proof.Proof.Gen.ShortconvIdeal.Value
public import Idealize.ShloMosaic.Lib.Pipeline.ValueKit

/-! # What the short convolution's arrays hold after the run

Point `t` of the grid handles tokens `1024 (t % 4) … 1024 (t % 4) + 1023` of sequence `t / 4`. Its rows before and after
are those tokens' neighbours, and zero at the sequence's ends. -/

@[expose] public section

noncomputable section

namespace Cert.ShortconvIdeal.Block

open Cert.ShortconvIdeal Cert.ShortconvIdeal.Gen Cert.ShortconvIdeal.Value Idealize.ShloMosaic.TcCoe Idealize.SL.Sem
open Idealize.ShloMosaic hiding ix1 ix2 ix3 eq_ix2 eq_ix3
open Idealize.ShloMosaic.Tactic Idealize.ShloMosaic.ValueIdx Idealize.ShloMosaic.StableHlo
open Cert.ShortconvRefIdeal.Plain (near row)

variable (m : (ℓ : Loc nD τ sig) → Buf (Elt Ideal) ℓ)

theorem index0 : ∀ t : Fin cfg0.N, win0_0.index t = ![t.val / 4, t.val % 4, 1] := (by decide +kernel : ∀ t : Fin grid0.N, _)
theorem index1 : ∀ t : Fin cfg0.N, win0_1.index t = ![t.val / 4, 64 * (t.val % 4) - 1, 1] := (by decide +kernel : ∀ t : Fin grid0.N, _)
theorem index2 : ∀ t : Fin cfg0.N, win0_2.index t = ![t.val / 4, min (64 * (t.val % 4 + 1)) 255, 1] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 4, t.val % 4, 0] := (by decide +kernel : ∀ t : Fin grid0.N, _)
theorem index6 : ∀ t : Fin cfg0.N, win0_6.index t = ![t.val / 4, t.val % 4, 0] := (by decide +kernel : ∀ t : Fin grid0.N, _)
theorem quarter : ∀ t : Fin cfg0.N, (grid0.coords t 1).val = t.val % 4 := (by decide +kernel : ∀ t : Fin grid0.N, _)

/-- The point's sequence. -/
def seqOf (t : Fin cfg0.N) : Fin 8 := ⟨t.val / 4, by have : t.val < 32 := t.isLt; omega⟩

/-! ## The arrays as the call gets them -/

theorem rows_entry (c : Dev nD) (i : S8x4096x6016.Idx) : V m c main_v0 i = m ((c : Thread nD τ).loc main_arg0) i := by
  have h : V m c main_v0 = (truncf .bf16 (m ((c : Thread nD τ).loc main_arg0) : FVec Ideal S8x4096x6016 .f32) bitsLt_bf16_f32 : FVec Ideal S8x4096x6016 .bf16) := by
    unfold_abbrev_sides
    after_results
  rw [h]; rfl

/-- The weights: three rows, and five of zeros below that no token is weighted with. -/
theorem weight_entry (c : Dev nD) (k : Fin 3) (n : Fin 1536) :
    V m c main_v2 (ix2 ⟨k.val, by omega⟩ n) = m ((c : Thread nD τ).loc main_arg1) (ix2 k n) := by
  have h : V m c main_v2 = concatenate S8x1536 0 [⟨S3x1536, (m ((c : Thread nD τ).loc main_arg1) : FVec Ideal S3x1536 .f32)⟩,
      ⟨S5x1536, (broadcastInDim S5x1536 ![] bcast_S_S5x1536 (constant (F := Ideal) S_ .f32 0x00000000#32) : FVec Ideal S5x1536 .f32)⟩]
      concatenates_S3x1536_S5x1536_S8x1536_d0 := by
    unfold_abbrev_sides
    after_results
  rw [h]
  exact concatenate_apply_piece 0 _ _ (ix2 (⟨k.val, by omega⟩ : Fin 8) n) 0 (by simp) S3x1536 _ rfl rfl 0 rfl (ix2 k n)
    (fun b hb => by match b with | ⟨0, _⟩ => exact absurd rfl hb | ⟨1, _⟩ => rfl) (Nat.zero_add k.val)

theorem offset_entry (c : Dev nD) (n : Fin 1536) : V m c main_v3 (ix2 0 n) = m ((c : Thread nD τ).loc main_arg2) (ix1 n) := by
  have h : V m c main_v3 = broadcastInDim S1x1536 ![1] bcast_S1536_S1x1536_1 (m ((c : Thread nD τ).loc main_arg2)) := by
    unfold_abbrev_sides
    after_results
  rw [h]
  exact broadcastInDim_apply _ bcast_S1536_S1x1536_1 _ _ (ix1 n) (fun a => match a with
    | ⟨0, _⟩ => by show n.val = if (1536 : Nat) = 1 then 0 else n.val; rw [if_neg (by decide)])

/-! ## A point's blocks -/

theorem X0_apply (c : Dev nD) (t : Fin cfg0.N) (r : Fin 1024) (n : Fin 1536) (R : Fin 4096) (hR : R.val = 1024 * (t.val % 4) + r.val) :
    X0_0 m c t (ix3 0 r n) = m ((c : Thread nD τ).loc main_arg0) (ix3 (seqOf t) R ⟨1536 + n.val, by omega⟩) := by
  unfold X0_0 Pipeline.Window.fill
  rw [dif_pos (moved0_0 t _)]
  blk_simp [iblk]
  refine Eq.trans ?_ (rows_entry m c _)
  congr 1
  funext a; apply Fin.ext; fin_cases a
  · blk_simp [index0]; rfl
  · blk_simp [index0]; show t.val % 4 * 1024 + r.val = R.val; omega
  · blk_simp [index0]

theorem X1_apply (c : Dev nD) (t : Fin cfg0.N) (r : Fin 16) (n : Fin 1536) (R : Fin 4096) (hR : R.val = 16 * (64 * (t.val % 4) - 1) + r.val) :
    X0_1 m c t (ix3 0 r n) = m ((c : Thread nD τ).loc main_arg0) (ix3 (seqOf t) R ⟨1536 + n.val, by omega⟩) := by
  unfold X0_1 Pipeline.Window.fill
  rw [dif_pos (moved0_1 t _)]
  blk_simp [iblk]
  refine Eq.trans ?_ (rows_entry m c _)
  congr 1
  funext a; apply Fin.ext; fin_cases a
  · blk_simp [index1]; rfl
  · blk_simp [index1]; show (64 * (t.val % 4) - 1) * 16 + r.val = R.val; omega
  · blk_simp [index1]

theorem X2_apply (c : Dev nD) (t : Fin cfg0.N) (r : Fin 16) (n : Fin 1536) (R : Fin 4096) (hR : R.val = 16 * min (64 * (t.val % 4 + 1)) 255 + r.val) :
    X0_2 m c t (ix3 0 r n) = m ((c : Thread nD τ).loc main_arg0) (ix3 (seqOf t) R ⟨1536 + n.val, by omega⟩) := by
  unfold X0_2 Pipeline.Window.fill
  rw [dif_pos (moved0_2 t _)]
  blk_simp [iblk]
  refine Eq.trans ?_ (rows_entry m c _)
  congr 1
  funext a; apply Fin.ext; fin_cases a
  · blk_simp [index2]; rfl
  · blk_simp [index2]; show min (64 * (t.val % 4 + 1)) 255 * 16 + r.val = R.val; omega
  · blk_simp [index2]

theorem iblk3_apply (c : Dev nD) (t : Fin cfg0.N) (k : Fin 3) (n : Fin 1536) :
    iblk m c 3 t (ix2 ⟨k.val, by omega⟩ n) = m ((c : Thread nD τ).loc main_arg1) (ix2 k n) := by
  blk_simp [iblk]
  refine Eq.trans ?_ (weight_entry m c k n)
  congr 1
  funext a; apply Fin.ext; fin_cases a
  · blk_simp [index3]
  · blk_simp [index3]

theorem iblk4_apply (c : Dev nD) (t : Fin cfg0.N) (n : Fin 1536) :
    iblk m c 4 t (ix2 0 n) = m ((c : Thread nD τ).loc main_arg2) (ix1 n) := by
  blk_simp [iblk]
  refine Eq.trans ?_ (offset_entry m c n)
  congr 1
  funext a; apply Fin.ext; fin_cases a
  · blk_simp [index4]
  · blk_simp [index4]

/-- The padded rows that a token of the point meets are the sequence's. -/
theorem pad_eq (c : Dev nD) (t : Fin cfg0.N) (r : Fin 1056) (n : Fin 1536) (h1 : 15 ≤ r.val) (h2 : r.val ≤ 1040) (T : Nat)
    (hT : T + 15 = 1024 * (t.val % 4) + r.val) :
    pad (grid0.coords t) (X0_0 m c t) (X0_1 m c t) (X0_2 m c t) (ix2 r n) = near (m ((c : Thread nD τ).loc main_arg0)) (seqOf t) T n := by
  have hq := quarter t
  unfold pad near
  rw [hq]
  by_cases h : r.val < 16
  · refine (dif_pos h).trans ?_
    by_cases hp : 0 < t.val % 4
    · rw [if_pos hp, dif_pos (by omega)]
      exact X1_apply m c t _ n _ (by show T - 1 = 16 * (64 * (t.val % 4) - 1) + r.val; omega)
    · rw [if_neg hp, dif_neg (by omega)]
  · refine (dif_neg h).trans ?_
    by_cases h' : r.val < 1040
    · refine (dif_pos h').trans ?_
      rw [dif_pos (by omega)]
      exact X0_apply m c t _ n _ (by show T - 1 = 1024 * (t.val % 4) + (r.val - 16); omega)
    · refine (dif_neg h').trans ?_
      by_cases hp : t.val % 4 < 3
      · rw [if_pos hp, dif_pos (by omega)]
        exact X2_apply m c t _ n _ (by show T - 1 = 16 * min (64 * (t.val % 4 + 1)) 255 + (r.val - 1040); omega)
      · rw [if_neg hp, dif_neg (by omega)]

/-- The point's convolution is its tokens'. -/
theorem conv_eq (c : Dev nD) (t : Fin cfg0.N) (R : Fin 1024) (n n' : Fin 1536) (hn : n = n') (T : Nat) (hT : T = 1024 * (t.val % 4) + R.val) :
    conv (grid0.coords t) (X0_0 m c t) (X0_1 m c t) (X0_2 m c t) (iblk m c 3 t) (iblk m c 4 t) R n
      = row (m ((c : Thread nD τ).loc main_arg0)) (m ((c : Thread nD τ).loc main_arg1)) (m ((c : Thread nD τ).loc main_arg2)) (seqOf t) T n' := by
  subst hn
  unfold conv row
  refine congrArg₂ (· + · : EReal → EReal → EReal) (congrArg₂ (· + · : EReal → EReal → EReal) ?_ ?_) (iblk4_apply m c t n)
  · refine (add_comm _ _).trans (congrArg₂ (· + · : EReal → EReal → EReal) ?_ ?_)
    · exact congrArg₂ (· * · : EReal → EReal → EReal)
        (pad_eq m c t _ n (by show 15 ≤ 15 + R.val; omega) (by show 15 + R.val ≤ 1040; omega) T (by show _ = _ + (15 + R.val); omega)) (iblk3_apply m c t 0 n)
    · exact congrArg₂ (· * · : EReal → EReal → EReal)
        (pad_eq m c t _ n (by show 15 ≤ 16 + R.val; omega) (by show 16 + R.val ≤ 1040; omega) (1 + T) (by show _ = _ + (16 + R.val); omega)) (iblk3_apply m c t 1 n)
  · exact congrArg₂ (· * · : EReal → EReal → EReal)
      (pad_eq m c t _ n (by show 15 ≤ 17 + R.val; omega) (by show 17 + R.val ≤ 1040; omega) (2 + T) (by show _ = _ + (17 + R.val); omega)) (iblk3_apply m c t 2 n)

/-! ## The results -/

theorem row_at (c : Dev nD) {b b' : Fin 8} {T T' : Nat} {n n' : Fin 1536} (hb : b.val = b'.val) (hT : T = T') (hn : n.val = n'.val) :
    row (m ((c : Thread nD τ).loc main_arg0)) (m ((c : Thread nD τ).loc main_arg1)) (m ((c : Thread nD τ).loc main_arg2)) b T n
      = row (m ((c : Thread nD τ).loc main_arg0)) (m ((c : Thread nD τ).loc main_arg1)) (m ((c : Thread nD τ).loc main_arg2)) b' T' n' := by
  rw [Fin.ext hb, hT, Fin.ext hn]

/-- The first result: the products, two tokens to a row. -/
theorem final5 (c : Dev nD) : (dats m 0 c).arrAt 5 cfg0.N
    = Cert.ShortconvRefIdeal.Plain.product (m ((c : Thread nD τ).loc main_arg0)) (m ((c : Thread nD τ).loc main_arg1)) (m ((c : Thread nD τ).loc main_arg2)) := by
  refine (dats m 0 c).arrAt_eq_of_covers 5 _ (by decide +kernel) fun t hf y => ?_
  have h1 : (y 1).val < 512 := (y 1).isLt
  have h2 : (y 2).val < 1024 := (y 2).isLt
  blk_simp
  rw [after0_5]
  simp only [outsAt0]
  rw [out5_eq]
  unfold product paired Cert.ShortconvRefIdeal.Plain.product Cert.ShortconvRefIdeal.Plain.pair
  have key : ∀ j : S8x2048x1024.Idx, (j 0).val = t.val / 4 → (j 1).val = 512 * (t.val % 4) + (y 1).val → (j 2).val = (y 2).val → ∀ o (ho : o ≤ 1024),
      conv (grid0.coords t) (X0_0 m c t) (X0_1 m c t) (X0_2 m c t) (iblk m c 3 t) (iblk m c 4 t) ⟨2 * (y 1).val + (y 2).val / 512, by omega⟩ ⟨o + (y 2).val % 512, by omega⟩
        = row (m ((c : Thread nD τ).loc main_arg0)) (m ((c : Thread nD τ).loc main_arg1)) (m ((c : Thread nD τ).loc main_arg2)) (j 0)
            (2 * (j 1).val + (j 2).val / 512) ⟨o + (j 2).val % 512, by omega⟩ := fun j e0 e1 e2 o ho =>
    (conv_eq m c t _ _ _ rfl _ rfl).trans (row_at m c e0.symm
      (by show 1024 * (t.val % 4) + (2 * (y 1).val + (y 2).val / 512) = 2 * (j 1).val + (j 2).val / 512; rw [e1, e2]; omega)
      (by show o + (y 2).val % 512 = o + (j 2).val % 512; rw [e2]))
  refine congrArg₂ (· * · : EReal → EReal → EReal) (key _ ?_ ?_ ?_ 512 (by omega)) (key _ ?_ ?_ ?_ 1024 (by omega))
  · blk_simp [index5]
  · blk_simp [index5]; show t.val % 4 * 512 + (y 1).val = _; omega
  · blk_simp [index5]
  · blk_simp [index5]
  · blk_simp [index5]; show t.val % 4 * 512 + (y 1).val = _; omega
  · blk_simp [index5]

/-- The second result: the first third of the columns. -/
theorem final6 (c : Dev nD) : (dats m 0 c).arrAt 6 cfg0.N
    = Cert.ShortconvRefIdeal.Plain.first (m ((c : Thread nD τ).loc main_arg0)) (m ((c : Thread nD τ).loc main_arg1)) (m ((c : Thread nD τ).loc main_arg2)) := by
  refine (dats m 0 c).arrAt_eq_of_covers 6 _ (by decide +kernel) fun t hf y => ?_
  have h1 : (y 1).val < 1024 := (y 1).isLt
  have h2 : (y 2).val < 512 := (y 2).isLt
  blk_simp
  rw [after0_6]
  simp only [outsAt0]
  rw [out6_eq]
  unfold first Cert.ShortconvRefIdeal.Plain.first
  refine (conv_eq m c t _ _ _ rfl _ rfl).trans (row_at m c ?_ ?_ ?_)
  · blk_simp [index6]; rfl
  · blk_simp [index6]; show 1024 * (t.val % 4) + (y 1).val = t.val % 4 * 1024 + (y 1).val; omega
  · blk_simp [index6]

end Cert.ShortconvIdeal.Block

end
-- ==== Proof.ShortconvClaim.lean ====
module

public import proofs.«01_k».proof.Defs
public import proofs.«01_k».proof.Proof.ShortconvArray
public import proofs.«01_k».proof.Proof.Gen.ShortconvRefIdeal.Run

/-! # The short convolution's value claim

Both programs end with the same two arrays: the products, two tokens to a row, and the first third of the columns. -/

@[expose] public section

noncomputable section

namespace Cert.ShortconvIdeal.Block

open Idealize.ShloMosaic Idealize.SL.Sem

theorem algebraic : Cert.algebraic_ShortconvIdeal_ShortconvRefIdeal (hShortconvIdeal := Cert.ShortconvIdeal.Gen.facts)
    (hShortconvRefIdeal := Cert.ShortconvRefIdeal.Gen.facts) := by
  intro m g m' g' _ hagree
  refine ⟨fun c => Cert.ShortconvRefIdeal.Plain.product (m (c.tc.loc Cert.ShortconvIdeal.main_arg0)) (m (c.tc.loc Cert.ShortconvIdeal.main_arg1))
      (m (c.tc.loc Cert.ShortconvIdeal.main_arg2)),
    fun c => Cert.ShortconvRefIdeal.Plain.first (m (c.tc.loc Cert.ShortconvIdeal.main_arg0)) (m (c.tc.loc Cert.ShortconvIdeal.main_arg1))
      (m (c.tc.loc Cert.ShortconvIdeal.main_arg2)), ?_, ?_⟩
  · refine (θ_run Cert.ShortconvIdeal.defs _ _).mono (fun r h c => ?_) (Cert.ShortconvIdeal.Value.run_blocks m g)
    obtain ⟨h0, h1, h2⟩ := h c
    exact ⟨h0.trans (final5 m c), h1.trans (final6 m c), h2⟩
  · refine (θ_run Cert.ShortconvRefIdeal.defs _ _).mono (fun r h c => ?_) (Cert.ShortconvRefIdeal.Value.run m' g')
    obtain ⟨h0, h1, h2⟩ := h c
    obtain ⟨a0, a1, a2⟩ := hagree c
    refine ⟨(h0.trans (Cert.ShortconvRefIdeal.Read.val_main_v30_eq m' c)).trans ?_,
      (h1.trans (Cert.ShortconvRefIdeal.Read.val_main_v31_eq _ _ _)).trans ?_, h2⟩
    · rw [Cert.ShortconvRefIdeal.Plain.v30_eq, a0, a1, a2]
    · rw [Cert.ShortconvRefIdeal.Plain.v31_eq, a0, a1, a2]

end Cert.ShortconvIdeal.Block

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.PromptRefIdeal
public import proofs.«01_k».proof.Proof.Gen.PromptRefIdeal.Run
public import proofs.«01_k».proof.Proof.Gen.PromptRefIdeal.Read
public import proofs.«01_k».proof.Proof.Gen.Shortconv
public import proofs.«01_k».proof.Proof.Gen.Shortconv.Skeleton
public import proofs.«01_k».proof.Proof.Gen.Shortconv.Launch
public import proofs.«01_k».proof.Proof.Gen.Shortconv.Points
public import proofs.«01_k».proof.Proof.Gen.Shortconv.Frame
public import proofs.«01_k».proof.Proof.Gen.ShortconvIdeal
public import proofs.«01_k».proof.Proof.Gen.ShortconvIdeal.Skeleton
public import proofs.«01_k».proof.Proof.Gen.ShortconvIdeal.Launch
public import proofs.«01_k».proof.Proof.Gen.ShortconvIdeal.Points
public import proofs.«01_k».proof.Proof.Gen.ShortconvIdeal.Frame
public import proofs.«01_k».proof.Proof.Gen.ShortconvIdeal.Value
public import proofs.«01_k».proof.Proof.Gen.ShortconvRefIdeal
public import proofs.«01_k».proof.Proof.Gen.ShortconvRefIdeal.Run
public import proofs.«01_k».proof.Proof.Gen.ShortconvRefIdeal.Read
public import proofs.«01_k».proof.Proof.Gen.Pre_finite
public import proofs.«01_k».proof.Proof.RefFrames
public import proofs.«01_k».proof.Proof.AttnClaim
public import proofs.«01_k».proof.Proof.InprojClaim
public import proofs.«01_k».proof.Proof.OutprojClaim
public import proofs.«01_k».proof.Proof.LastClaim
public import proofs.«01_k».proof.Proof.PromptClaim
public import proofs.«01_k».proof.Proof.ShortconvClaim
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
   Cert.Inproj.Gen.facts, Cert.InprojIdeal.Gen.facts, Cert.InprojRefIdeal.Gen.facts,
   Cert.Outproj.Gen.facts, Cert.OutprojIdeal.Gen.facts, Cert.OutprojRefIdeal.Gen.facts,
   Cert.Last.Gen.facts, Cert.LastIdeal.Gen.facts, Cert.LastRefIdeal.Gen.facts,
   Cert.Prompt.Gen.facts, Cert.PromptIdeal.Gen.facts, Cert.PromptRefIdeal.Gen.facts,
   Cert.Shortconv.Gen.facts, Cert.ShortconvIdeal.Gen.facts, Cert.ShortconvRefIdeal.Gen.facts,
   Cert.Pre_finite.Gen.facts,
   fun m ρ _ => Cert.Kernel.Gen.frame m ρ, fun m ρ _ => Cert.KernelIdeal.Gen.frame m ρ,
   fun m ρ _ => Cert.KernelIdeal.Gen.frame m ρ,
   Cert.RefFrames.attention, fun m ρ _ => Cert.RefFrames.attention m ρ trivial,
   fun m ρ _ => Cert.Inproj.Gen.frame m ρ, fun m ρ _ => Cert.InprojIdeal.Gen.frame m ρ,
   Cert.RefFrames.inproj,
   fun m ρ _ => Cert.Outproj.Gen.frame m ρ, fun m ρ _ => Cert.OutprojIdeal.Gen.frame m ρ,
   Cert.RefFrames.outproj,
   fun m ρ _ => Cert.Last.Gen.frame m ρ, fun m ρ _ => Cert.LastIdeal.Gen.frame m ρ,
   Cert.RefFrames.last,
   fun m ρ _ => Cert.Prompt.Gen.frame m ρ, fun m ρ _ => Cert.PromptIdeal.Gen.frame m ρ,
   Cert.RefFrames.prompt,
   fun m ρ _ => Cert.Shortconv.Gen.frame m ρ, fun m ρ _ => Cert.ShortconvIdeal.Gen.frame m ρ,
   Cert.RefFrames.shortconv,
   trivial, Cert.KernelIdeal.Block.algebraic, trivial, Cert.InprojIdeal.Block.algebraic,
   trivial, Cert.OutprojIdeal.Block.algebraic, trivial, Cert.LastIdeal.Block.algebraic,
   trivial, Cert.PromptIdeal.Block.algebraic,
   trivial, Cert.ShortconvIdeal.Block.algebraic⟩

end Cert.Proof

end
